-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near_pre_labelled [hKernelIdeal : Cert.KernelIdeal.Facts] [hPre_labelled : Cert.Pre_labelled.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v14))).1 = (fun _ => 1#1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v14))).2 = (fun _ => 1#1))

def Claim : Prop :=
  ∃ (hKernel : Cert.Kernel.Facts) (hKernelIdeal : Cert.KernelIdeal.Facts) (hReferenceIdeal : Cert.ReferenceIdeal.Facts) (hPre_proper : Cert.Pre_proper.Facts) (hPre_labelled : Cert.Pre_labelled.Facts) (hPost_near : Cert.Post_near.Facts),
    quiescent_Kernel (hKernel := hKernel)
    ∧ quiescent_KernelIdeal (hKernelIdeal := hKernelIdeal)
    ∧ quiescent_KernelIdeal_pre_proper (hKernelIdeal := hKernelIdeal) (hPre_proper := hPre_proper)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
    ∧ holds_KernelIdeal_near_pre_labelled (hKernelIdeal := hKernelIdeal) (hPre_labelled := hPre_labelled) (hPost_near := hPost_near)
-- ==== Post_near.lean ====
abbrev S64x8732x4 : Shape := ⟨3, ![64, 8732, 4]⟩
abbrev S64x8732x21 : Shape := ⟨3, ![64, 8732, 21]⟩
abbrev S64x16x4 : Shape := ⟨3, ![64, 16, 4]⟩
abbrev S64x16 : Shape := ⟨2, ![64, 16]⟩
abbrev S8732x4 : Shape := ⟨2, ![8732, 4]⟩
abbrev S_ : Shape := ⟨0, ![]⟩
abbrev S8732x2 : Shape := ⟨2, ![8732, 2]⟩
abbrev S64x16x2 : Shape := ⟨3, ![64, 16, 2]⟩
abbrev S64x16x1x2 : Shape := ⟨4, ![64, 16, 1, 2]⟩
abbrev S1x8732x2 : Shape := ⟨3, ![1, 8732, 2]⟩
abbrev S1x1x8732x2 : Shape := ⟨4, ![1, 1, 8732, 2]⟩
abbrev S64x16x8732x2 : Shape := ⟨4, ![64, 16, 8732, 2]⟩
abbrev S64x16x8732x1 : Shape := ⟨4, ![64, 16, 8732, 1]⟩
abbrev S64x16x8732 : Shape := ⟨3, ![64, 16, 8732]⟩
abbrev S64x16x1 : Shape := ⟨3, ![64, 16, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S64x8732 : Shape := ⟨2, ![64, 8732]⟩
abbrev S16x8732 : Shape := ⟨2, ![16, 8732]⟩
abbrev S64x1x8732 : Shape := ⟨3, ![64, 1, 8732]⟩
abbrev S1x16x8732 : Shape := ⟨3, ![1, 16, 8732]⟩
abbrev S64x8732x1 : Shape := ⟨3, ![64, 8732, 1]⟩
abbrev S64x8732x2 : Shape := ⟨3, ![64, 8732, 2]⟩
abbrev S64 : Shape := ⟨1, ![64]⟩
abbrev S64x8732x1x1 : Shape := ⟨4, ![64, 8732, 1, 1]⟩
abbrev S64x1 : Shape := ⟨2, ![64, 1]⟩

class Facts : Prop where
  slices_S8732x4_S8732x2_0_0 : S8732x4.Slices ![0, 0] S8732x2
  slices_S8732x4_S8732x2_0_2 : S8732x4.Slices ![0, 2] S8732x2
  bcast_S_S8732x2 : S_.BroadcastsInDim S8732x2 (![] : Fin 0 → Fin S8732x2.rank)
  concatenates_S8732x2_S8732x2_S8732x4_d1 : Shape.Concatenates [S8732x2, S8732x2] S8732x4 1
  slices_S64x16x4_S64x16x2_0_0_0 : S64x16x4.Slices ![0, 0, 0] S64x16x2
  bcast_S64x16x2_S64x16x1x2_0_1_3 : S64x16x2.BroadcastsInDim S64x16x1x2 (![0, 1, 3] : Fin 3 → Fin S64x16x1x2.rank)
  bcast_S8732x2_S1x8732x2_1_2 : S8732x2.BroadcastsInDim S1x8732x2 (![1, 2] : Fin 2 → Fin S1x8732x2.rank)
  bcast_S1x8732x2_S1x1x8732x2_1_2_3 : S1x8732x2.BroadcastsInDim S1x1x8732x2 (![1, 2, 3] : Fin 3 → Fin S1x1x8732x2.rank)
  bcast_S64x16x1x2_S64x16x8732x2_0_1_2_3 : S64x16x1x2.BroadcastsInDim S64x16x8732x2 (![0, 1, 2, 3] : Fin 4 → Fin S64x16x8732x2.rank)
  bcast_S1x1x8732x2_S64x16x8732x2_0_1_2_3 : S1x1x8732x2.BroadcastsInDim S64x16x8732x2 (![0, 1, 2, 3] : Fin 4 → Fin S64x16x8732x2.rank)
  slices_S64x16x4_S64x16x2_0_0_2 : S64x16x4.Slices ![0, 0, 2] S64x16x2
  bcast_S_S64x16x8732x2 : S_.BroadcastsInDim S64x16x8732x2 (![] : Fin 0 → Fin S64x16x8732x2.rank)
  slices_S64x16x8732x2_S64x16x8732x1_0_0_0_0 : S64x16x8732x2.Slices ![0, 0, 0, 0] S64x16x8732x1
  shapeCasts_S64x16x8732x1_S64x16x8732 : S64x16x8732x1.ShapeCasts S64x16x8732
  slices_S64x16x8732x2_S64x16x8732x1_0_0_0_1 : S64x16x8732x2.Slices ![0, 0, 0, 1] S64x16x8732x1
  slices_S64x16x4_S64x16x1_0_0_2 : S64x16x4.Slices ![0, 0, 2] S64x16x1
  shapeCasts_S64x16x1_S64x16 : S64x16x1.ShapeCasts S64x16
  slices_S64x16x4_S64x16x1_0_0_0 : S64x16x4.Slices ![0, 0, 0] S64x16x1
  slices_S64x16x4_S64x16x1_0_0_3 : S64x16x4.Slices ![0, 0, 3] S64x16x1
  slices_S64x16x4_S64x16x1_0_0_1 : S64x16x4.Slices ![0, 0, 1] S64x16x1
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S64x16_S64x16x1_0_1 : S64x16.BroadcastsInDim S64x16x1 (![0, 1] : Fin 2 → Fin S64x16x1.rank)
  bcast_S8732_S1x8732_1 : S8732.BroadcastsInDim S1x8732 (![1] : Fin 1 → Fin S1x8732.rank)
  bcast_S1x8732_S1x1x8732_1_2 : S1x8732.BroadcastsInDim S1x1x8732 (![1, 2] : Fin 2 → Fin S1x1x8732.rank)
  bcast_S64x16x1_S64x16x8732_0_1_2 : S64x16x1.BroadcastsInDim S64x16x8732 (![0, 1, 2] : Fin 3 → Fin S64x16x8732.rank)
  bcast_S1x1x8732_S64x16x8732_0_1_2 : S1x1x8732.BroadcastsInDim S64x16x8732 (![0, 1, 2] : Fin 3 → Fin S64x16x8732.rank)
  reducesTo_S64x16x8732_S64x8732_d1 : S64x16x8732.ReducesTo [1] S64x8732
  h_S_ : 0 < S_.numel
  bcast_S64x8732_S64x1x8732_0_2 : S64x8732.BroadcastsInDim S64x1x8732 (![0, 2] : Fin 2 → Fin S64x1x8732.rank)
  bcast_S64x1x8732_S64x16x8732_0_1_2 : S64x1x8732.BroadcastsInDim S64x16x8732 (![0, 1, 2] : Fin 3 → Fin S64x16x8732.rank)
  bcast_S_S16x8732 : S_.BroadcastsInDim S16x8732 (![] : Fin 0 → Fin S16x8732.rank)
  bcast_S16x8732_S64x16x8732_1_2 : S16x8732.BroadcastsInDim S64x16x8732 (![1, 2] : Fin 2 → Fin S64x16x8732.rank)
  reducesTo_S64x16x8732_S64x16_d2 : S64x16x8732.ReducesTo [2] S64x16
  bcast_S16x8732_S1x16x8732_1_2 : S16x8732.BroadcastsInDim S1x16x8732 (![1, 2] : Fin 2 → Fin S1x16x8732.rank)
  bcast_S1x16x8732_S64x16x8732_0_1_2 : S1x16x8732.BroadcastsInDim S64x16x8732 (![0, 1, 2] : Fin 3 → Fin S64x16x8732.rank)
  bcast_S_S64x8732 : S_.BroadcastsInDim S64x8732 (![] : Fin 0 → Fin S64x8732.rank)
  bcast_S_S8732 : S_.BroadcastsInDim S8732 (![] : Fin 0 → Fin S8732.rank)
  bcast_S8732_S64x8732_1 : S8732.BroadcastsInDim S64x8732 (![1] : Fin 1 → Fin S64x8732.rank)
  bcast_S64x8732_S64x8732x1_0_1 : S64x8732.BroadcastsInDim S64x8732x1 (![0, 1] : Fin 2 → Fin S64x8732x1.rank)
  slices_S64x8732x4_S64x8732x2_0_0_0 : S64x8732x4.Slices ![0, 0, 0] S64x8732x2
  slices_S64x8732x4_S64x8732x2_0_0_2 : S64x8732x4.Slices ![0, 0, 2] S64x8732x2
  bcast_S_S64x8732x2 : S_.BroadcastsInDim S64x8732x2 (![] : Fin 0 → Fin S64x8732x2.rank)
  concatenates_S64x8732x2_S64x8732x2_S64x8732x4_d2 : Shape.Concatenates [S64x8732x2, S64x8732x2] S64x8732x4 2
  bcast_S1x8732x2_S64x8732x2_0_1_2 : S1x8732x2.BroadcastsInDim S64x8732x2 (![0, 1, 2] : Fin 3 → Fin S64x8732x2.rank)
  natLt_1_32 : 1 < 32
  reducesTo_S64x8732_S64_d1 : S64x8732.ReducesTo [1] S64
  bcast_S_S64 : S_.BroadcastsInDim S64 (![] : Fin 0 → Fin S64.rank)
  reducesTo_S64x8732x21_S64x8732_d2 : S64x8732x21.ReducesTo [2] S64x8732
  bcast_S64x8732x1_S64x8732x21_0_1_2 : S64x8732x1.BroadcastsInDim S64x8732x21 (![0, 1, 2] : Fin 3 → Fin S64x8732x21.rank)
  bcast_S_S64x8732x1 : S_.BroadcastsInDim S64x8732x1 (![] : Fin 0 → Fin S64x8732x1.rank)
  shapeCasts_S64x8732x1_S64x8732x1x1 : S64x8732x1.ShapeCasts S64x8732x1x1
  shapeCasts_S64x8732x1_S64x8732 : S64x8732x1.ShapeCasts S64x8732
  bcast_S_S64x8732x4 : S_.BroadcastsInDim S64x8732x4 (![] : Fin 0 → Fin S64x8732x4.rank)
  bcast_S64x8732x1_S64x8732x4_0_1_2 : S64x8732x1.BroadcastsInDim S64x8732x4 (![0, 1, 2] : Fin 3 → Fin S64x8732x4.rank)
  reducesTo_S64x8732x4_S64_d1_2 : S64x8732x4.ReducesTo [1, 2] S64
  bcast_S64_S64x1_0 : S64.BroadcastsInDim S64x1 (![0] : Fin 1 → Fin S64x1.rank)
  bcast_S1x8732_S64x8732_0_1 : S1x8732.BroadcastsInDim S64x8732 (![0, 1] : Fin 2 → Fin S64x8732.rank)
  bcast_S64x1_S64x8732_0_1 : S64x1.BroadcastsInDim S64x8732 (![0, 1] : Fin 2 → Fin S64x8732.rank)
  reducesTo_S64_S_d0 : S64.ReducesTo [0] S_
  gather_S64x16_S64x8732x1_S64x8732_n_1_0_0_1_2_11_wf : GatherDims.WF S64x16 S64x8732x1 S64x8732 [] [1] [0] [1] [0] 2 ![1, 1]
  gather_S64x16x4_S64x8732x1_S64x8732x4_2_1_0_0_1_2_114_wf : GatherDims.WF S64x16x4 S64x8732x1 S64x8732x4 [2] [1] [0] [1] [0] 2 ![1, 1, 4]
  gather_S64x8732x21_S64x8732x1x1_S64x8732x1_n_2_01_01_2_3_111_wf : GatherDims.WF S64x8732x21 S64x8732x1x1 S64x8732x1 [] [2] [0, 1] [2] [0, 1] 3 ![1, 1, 1]

variable [Facts]

variable {F : FTy → Type} [FloatOps F]
def gather_S64x16_S64x8732x1_S64x8732_n_1_0_0_1_2_11 : GatherDims S64x16 S64x8732x1 S64x8732 where
  offsetDims := []
  collapsedSliceDims := [1]
  operandBatchingDims := [0]
  startIndicesBatchingDims := [0]
  startIndexMap := [1]
  indexVectorDim := 2
  sliceSizes := ![1, 1]
  wf := gather_S64x16_S64x8732x1_S64x8732_n_1_0_0_1_2_11_wf
def gather_S64x16x4_S64x8732x1_S64x8732x4_2_1_0_0_1_2_114 : GatherDims S64x16x4 S64x8732x1 S64x8732x4 where
  offsetDims := [2]
  collapsedSliceDims := [1]
  operandBatchingDims := [0]
  startIndicesBatchingDims := [0]
  startIndexMap := [1]
  indexVectorDim := 2
  sliceSizes := ![1, 1, 4]
  wf := gather_S64x16x4_S64x8732x1_S64x8732x4_2_1_0_0_1_2_114_wf
def gather_S64x8732x21_S64x8732x1x1_S64x8732x1_n_2_01_01_2_3_111 : GatherDims S64x8732x21 S64x8732x1x1 S64x8732x1 where
  offsetDims := []
  collapsedSliceDims := [2]
  operandBatchingDims := [0, 1]
  startIndicesBatchingDims := [0, 1]
  startIndexMap := [2]
  indexVectorDim := 3
  sliceSizes := ![1, 1, 1]
  wf := gather_S64x8732x21_S64x8732x1x1_S64x8732x1_n_2_01_01_2_3_111_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_clip {F : FTy → Type} [FloatOps F] (arg0 : FVec F S64x16x8732x2 .f32) (arg1 : FVec F S_ .f32) : FVec F S64x16x8732x2 .f32 :=
  let v0 : FVec F S_ .f32 := id arg1
  let v1 : FVec F S64x16x8732x2 .f32 := broadcastInDim S64x16x8732x2 ![] bcast_S_S64x16x8732x2 v0
  let v2 : FVec F S64x16x8732x2 .f32 := maximumf v1 arg0
  v2

def fn_where {F : FTy → Type} [FloatOps F] (arg0 : IVec S64x8732 1) (arg1 : IVec S64x8732 32) (arg2 : IVec S64x8732 32) : IVec S64x8732 32 :=
  let v0 : IVec S64x8732 32 := select arg0 arg1 arg2
  v0

def fn_where_0 {F : FTy → Type} [FloatOps F] (arg0 : IVec S64x8732 1) (arg1 : FVec F S_ .f32) (arg2 : FVec F S64x8732 .f32) : FVec F S64x8732 .f32 :=
  let v0 : FVec F S_ .f32 := id arg1
  let v1 : FVec F S8732 .f32 := broadcastInDim S8732 ![] bcast_S_S8732 v0
  let v2 : FVec F S64x8732 .f32 := broadcastInDim S64x8732 ![1] bcast_S8732_S64x8732_1 v1
  let v3 : FVec F S64x8732 .f32 := select arg0 v2 arg2
  v3

def fn_where_1 {F : FTy → Type} [FloatOps F] (arg0 : IVec S64x8732 1) (arg1 : IVec S_ 32) (arg2 : IVec S64x8732 32) : IVec S64x8732 32 :=
  let v0 : IVec S_ 32 := id arg1
  let v1 : IVec S8732 32 := broadcastInDim S8732 ![] bcast_S_S8732 v0
  let v2 : IVec S64x8732 32 := broadcastInDim S64x8732 ![1] bcast_S8732_S64x8732_1 v1
  let v3 : IVec S64x8732 32 := select arg0 v2 arg2
  v3

def fn_log_softmax {F : FTy → Type} [FloatOps F] (arg0 : FVec F S64x8732x21 .f32) : FVec F S64x8732x21 .f32 :=
  let cst : FVec F S_ .f32 := constant S_ .f32 0xFF800000#32
  let v0 : FVec F S64x8732 .f32 := (fun x v => Host.reduce FloatOps.maximumf x v reducesTo_S64x8732x21_S64x8732_d2 h_S_) arg0 cst
  let cst_0 : FVec F S_ .f32 := constant S_ .f32 0xFF800000#32
  let v1 : FVec F S64x8732 .f32 := broadcastInDim S64x8732 ![] bcast_S_S64x8732 cst_0
  let v2 : FVec F S64x8732 .f32 := maximumf v1 v0
  let v3 : FVec F S64x8732x1 .f32 := broadcastInDim S64x8732x1 ![0, 1] bcast_S64x8732_S64x8732x1_0_1 v2
  let v4 : FVec F S64x8732x21 .f32 := broadcastInDim S64x8732x21 ![0, 1, 2] bcast_S64x8732x1_S64x8732x21_0_1_2 v3
  let v5 : FVec F S64x8732x21 .f32 := subf arg0 v4
  let v6 : FVec F S64x8732x21 .f32 := Host.exp v5
  let cst_1 : FVec F S_ .f32 := constant S_ .f32 0x00000000#32
  let v7 : FVec F S64x8732 .f32 := (fun x v => Host.reduceAdd x v reducesTo_S64x8732x21_S64x8732_d2 h_S_) v6 cst_1
  let v8 : FVec F S64x8732x1 .f32 := broadcastInDim S64x8732x1 ![0, 1] bcast_S64x8732_S64x8732x1_0_1 v7
  let v9 : FVec F S64x8732x1 .f32 := Host.log v8
  let v10 : FVec F S64x8732x21 .f32 := broadcastInDim S64x8732x21 ![0, 1, 2] bcast_S64x8732x1_S64x8732x21_0_1_2 v9
  let v11 : FVec F S64x8732x21 .f32 := subf v5 v10
  v11

def fn_take_along_axis {F : FTy → Type} [FloatOps F] (arg0 : FVec F S64x8732x21 .f32) (arg1 : IVec S64x8732x1 32) : FVec F S64x8732x1 .f32 :=
  let c : IVec S_ 32 := constantI S_ 32 0#32
  let v0 : IVec S64x8732x1 32 := broadcastInDim S64x8732x1 ![] bcast_S_S64x8732x1 c
  let v1 : IVec S64x8732x1 1 := cmpi .slt arg1 v0
  let c_0 : IVec S_ 32 := constantI S_ 32 21#32
  let v2 : IVec S64x8732x1 32 := broadcastInDim S64x8732x1 ![] bcast_S_S64x8732x1 c_0
  let v3 : IVec S64x8732x1 32 := addi arg1 v2
  let v4 : IVec S64x8732x1 32 := select v1 v3 arg1
  let v5 : IVec S64x8732x1x1 32 := shapeCast S64x8732x1x1 v4 shapeCasts_S64x8732x1_S64x8732x1x1
  let v6 : FVec F S64x8732x1 .f32 := (fun x i => Host.gather gather_S64x8732x21_S64x8732x1x1_S64x8732x1_n_2_01_01_2_3_111 x i) arg0 v5
  v6

def fn_where_2 {F : FTy → Type} [FloatOps F] (arg0 : IVec S64x8732x4 1) (arg1 : FVec F S64x8732x4 .f32) (arg2 : FVec F S64x8732x4 .f32) : FVec F S64x8732x4 .f32 :=
  let v0 : FVec F S64x8732x4 .f32 := select arg0 arg1 arg2
  v0

def fn_where_3 {F : FTy → Type} [FloatOps F] (arg0 : IVec S64x8732 1) (arg1 : FVec F S_ .f32) (arg2 : FVec F S64x8732 .f32) : FVec F S64x8732 .f32 :=
  let v0 : FVec F S_ .f32 := id arg1
  let v1 : FVec F S64x8732 .f32 := broadcastInDim S64x8732 ![] bcast_S_S64x8732 v0
  let v2 : FVec F S64x8732 .f32 := select arg0 v1 arg2
  v2

def fn_sort {F : FTy → Type} [FloatOps F] (arg0 : FVec F S64x8732 .f32) : FVec F S64x8732 .f32 :=
  let v0 : FVec F S64x8732 .f32 := (fun x => Host.sort S64x8732 1 comparator_f32_d1 x) arg0
  v0

def fn_part10 {F : FTy → Type} [FloatOps F] (main_arg5 : FVec F S_ .f32) (main_v152 : IVec S64 32) (main_v154 : IVec S64 32) (main_v196 : FVec F S_ .f32) (main_v199 : FVec F S64 .f32) (main_v200 : IVec S64 32) : IVec S_ 1 × IVec S_ 1 :=
  let main_v201 : IVec S64 32 := maxsi main_v154 main_v200
  let main_v202 : FVec F S64 .f32 := sitofp .f32 main_v201
  let main_v203 : FVec F S64 .f32 := mulf main_v202 main_v199
  let main_v204 : FVec F S64 .f32 := sitofp .f32 main_v152
  let main_v205 : FVec F S64 .f32 := Host.divf main_v203 main_v204
  let main_v206 : IVec S_ 1 := cmpf .ole main_v196 main_arg5
  let main_cst_37 : FVec F S_ .f32 := constant S_ .f32 0x00000000#32
  let main_v207 : FVec F S_ .f32 := (fun x v => Host.reduceAdd x v reducesTo_S64_S_d0 h_S_) main_v205 main_cst_37
  let main_cst_38 : FVec F S_ .f32 := constant S_ .f32 0x42800000#32
  let main_v208 : FVec F S_ .f32 := Host.divf main_v207 main_cst_38
  let main_v209 : FVec F S_ .f32 := addf main_v196 main_v208
  let main_v210 : IVec S_ 1 := cmpf .ole main_arg5 main_v209
  (main_v206, main_v210)

def fn_part9 {F : FTy → Type} [FloatOps F] (main_arg5 : FVec F S_ .f32) (main_v152 : IVec S64 32) (main_v154 : IVec S64 32) (main_v174 : FVec F S64 .f32) (main_v177 : FVec F S64 .f32) (main_v178 : FVec F S64x8732 .f32) (main_v181 : FVec F S64x8732 .f32) (main_v182 : IVec S8732 32) : IVec S_ 1 × IVec S_ 1 :=
  let main_v183 : IVec S1x8732 32 := broadcastInDim S1x8732 ![1] bcast_S8732_S1x8732_1 main_v182
  let main_v184 : IVec S64x1 32 := broadcastInDim S64x1 ![0] bcast_S64_S64x1_0 main_v154
  let main_v185 : IVec S64x8732 32 := broadcastInDim S64x8732 ![0, 1] bcast_S1x8732_S64x8732_0_1 main_v183
  let main_v186 : IVec S64x8732 32 := broadcastInDim S64x8732 ![0, 1] bcast_S64x1_S64x8732_0_1 main_v184
  let main_v187 : IVec S64x8732 1 := cmpi .slt main_v185 main_v186
  let main_v188 : FVec F S64x8732 .f32 := uitofp .f32 main_v187
  let main_v189 : FVec F S64x8732 .f32 := mulf main_v181 main_v188
  let main_cst_31 : FVec F S_ .f32 := constant S_ .f32 0x00000000#32
  let main_v190 : FVec F S64 .f32 := (fun x v => Host.reduceAdd x v reducesTo_S64x8732_S64_d1 h_S_) main_v189 main_cst_31
  let main_v191 : FVec F S64 .f32 := addf main_v177 main_v190
  let main_v192 : FVec F S64 .f32 := addf main_v191 main_v174
  let main_v193 : FVec F S64 .f32 := sitofp .f32 main_v152
  let main_v194 : FVec F S64 .f32 := Host.divf main_v192 main_v193
  let main_cst_32 : FVec F S_ .f32 := constant S_ .f32 0x00000000#32
  let main_v195 : FVec F S_ .f32 := (fun x v => Host.reduceAdd x v reducesTo_S64_S_d0 h_S_) main_v194 main_cst_32
  let main_cst_33 : FVec F S_ .f32 := constant S_ .f32 0x42800000#32
  let main_v196 : FVec F S_ .f32 := Host.divf main_v195 main_cst_33
  let main_cst_34 : FVec F S_ .f32 := constant S_ .f32 0xFF800000#32
  let main_v197 : FVec F S64 .f32 := (fun x v => Host.reduce FloatOps.maximumf x v reducesTo_S64x8732_S64_d1 h_S_) main_v178 main_cst_34
  let main_cst_35 : FVec F S_ .f32 := constant S_ .f32 0x49000000#32
  let main_v198 : FVec F S64 .f32 := broadcastInDim S64 ![] bcast_S_S64 main_cst_35
  let main_v199 : FVec F S64 .f32 := Host.divf main_v197 main_v198
  let main_c_36 : IVec S_ 32 := constantI S_ 32 8732#32
  let main_v200 : IVec S64 32 := broadcastInDim S64 ![] bcast_S_S64 main_c_36
  fn_part10 (F := F) main_arg5 main_v152 main_v154 main_v196 main_v199 main_v200

def fn_part8 {F : FTy → Type} [FloatOps F] (main_arg5 : FVec F S_ .f32) (main_v150 : IVec S64x8732 1) (main_v152 : IVec S64 32) (main_v154 : IVec S64 32) (main_v159 : FVec F S64x8732 .f32) (main_v161 : FVec F S64x8732x4 .f32) (main_v163 : IVec S64x8732x4 1) : IVec S_ 1 × IVec S_ 1 :=
  let main_cst_26 : FVec F S_ .f32 := constant S_ .f32 0x3F000000#32
  let main_v164 : FVec F S64x8732x4 .f32 := broadcastInDim S64x8732x4 ![] bcast_S_S64x8732x4 main_cst_26
  let main_v165 : FVec F S64x8732x4 .f32 := mulf main_v164 main_v161
  let main_v166 : FVec F S64x8732x4 .f32 := mulf main_v165 main_v161
  let main_cst_27 : FVec F S_ .f32 := constant S_ .f32 0x3F000000#32
  let main_v167 : FVec F S64x8732x4 .f32 := broadcastInDim S64x8732x4 ![] bcast_S_S64x8732x4 main_cst_27
  let main_v168 : FVec F S64x8732x4 .f32 := subf main_v161 main_v167
  let main_v169 : FVec F S64x8732x4 .f32 := fn_where_2 (F := F) main_v163 main_v166 main_v168
  let main_v170 : IVec S64x8732x1 1 := broadcastInDim S64x8732x1 ![0, 1] bcast_S64x8732_S64x8732x1_0_1 main_v150
  let main_v171 : FVec F S64x8732x1 .f32 := uitofp .f32 main_v170
  let main_v172 : FVec F S64x8732x4 .f32 := broadcastInDim S64x8732x4 ![0, 1, 2] bcast_S64x8732x1_S64x8732x4_0_1_2 main_v171
  let main_v173 : FVec F S64x8732x4 .f32 := mulf main_v169 main_v172
  let main_cst_28 : FVec F S_ .f32 := constant S_ .f32 0x00000000#32
  let main_v174 : FVec F S64 .f32 := (fun x v => Host.reduceAdd x v reducesTo_S64x8732x4_S64_d1_2 h_S_) main_v173 main_cst_28
  let main_v175 : FVec F S64x8732 .f32 := uitofp .f32 main_v150
  let main_v176 : FVec F S64x8732 .f32 := mulf main_v159 main_v175
  let main_cst_29 : FVec F S_ .f32 := constant S_ .f32 0x00000000#32
  let main_v177 : FVec F S64 .f32 := (fun x v => Host.reduceAdd x v reducesTo_S64x8732_S64_d1 h_S_) main_v176 main_cst_29
  let main_cst_30 : FVec F S_ .f32 := constant S_ .f32 0x00000000#32
  let main_v178 : FVec F S64x8732 .f32 := fn_where_3 (F := F) main_v150 main_cst_30 main_v159
  let main_v179 : FVec F S64x8732 .f32 := Host.negf main_v178
  let main_v180 : FVec F S64x8732 .f32 := fn_sort (F := F) main_v179
  let main_v181 : FVec F S64x8732 .f32 := Host.negf main_v180
  let main_v182 : IVec S8732 32 := iotaInDim S8732 32 0
  fn_part9 (F := F) main_arg5 main_v152 main_v154 main_v174 main_v177 main_v178 main_v181 main_v182

def fn_part7 {F : FTy → Type} [FloatOps F] (main_arg0 : FVec F S64x8732x4 .f32) (main_arg1 : FVec F S64x8732x21 .f32) (main_arg5 : FVec F S_ .f32) (main_v112 : IVec S64x8732 32) (main_v139 : FVec F S64x8732x2 .f32) (main_v144 : FVec F S64x8732x2 .f32) : IVec S_ 1 × IVec S_ 1 :=
  let main_v145 : FVec F S64x8732x2 .f32 := Host.log main_v144
  let main_cst_21 : FVec F S_ .f32 := constant S_ .f32 0x40A00000#32
  let main_v146 : FVec F S64x8732x2 .f32 := broadcastInDim S64x8732x2 ![] bcast_S_S64x8732x2 main_cst_21
  let main_v147 : FVec F S64x8732x2 .f32 := mulf main_v145 main_v146
  let main_v148 : FVec F S64x8732x4 .f32 := (fun a b => concatenate S64x8732x4 2 [⟨S64x8732x2, a⟩, ⟨S64x8732x2, b⟩] concatenates_S64x8732x2_S64x8732x2_S64x8732x4_d2) main_v139 main_v147
  let main_c_22 : IVec S_ 32 := constantI S_ 32 0#32
  let main_v149 : IVec S64x8732 32 := broadcastInDim S64x8732 ![] bcast_S_S64x8732 main_c_22
  let main_v150 : IVec S64x8732 1 := cmpi .ne main_v112 main_v149
  let main_v151 : IVec S64x8732 32 := (extui 32 · natLt_1_32) main_v150
  let main_c_23 : IVec S_ 32 := constantI S_ 32 0#32
  let main_v152 : IVec S64 32 := (fun x v => Host.reduce IntOp.addi x v reducesTo_S64x8732_S64_d1 h_S_) main_v151 main_c_23
  let main_c_24 : IVec S_ 32 := constantI S_ 32 3#32
  let main_v153 : IVec S64 32 := broadcastInDim S64 ![] bcast_S_S64 main_c_24
  let main_v154 : IVec S64 32 := muli main_v152 main_v153
  let main_v155 : FVec F S64x8732x21 .f32 := fn_log_softmax (F := F) main_arg1
  let main_v156 : IVec S64x8732x1 32 := broadcastInDim S64x8732x1 ![0, 1] bcast_S64x8732_S64x8732x1_0_1 main_v112
  let main_v157 : FVec F S64x8732x1 .f32 := fn_take_along_axis (F := F) main_v155 main_v156
  let main_v158 : FVec F S64x8732 .f32 := shapeCast S64x8732 main_v157 shapeCasts_S64x8732x1_S64x8732
  let main_v159 : FVec F S64x8732 .f32 := Host.negf main_v158
  let main_v160 : FVec F S64x8732x4 .f32 := subf main_arg0 main_v148
  let main_v161 : FVec F S64x8732x4 .f32 := Host.absf main_v160
  let main_cst_25 : FVec F S_ .f32 := constant S_ .f32 0x3F800000#32
  let main_v162 : FVec F S64x8732x4 .f32 := broadcastInDim S64x8732x4 ![] bcast_S_S64x8732x4 main_cst_25
  let main_v163 : IVec S64x8732x4 1 := cmpf .olt main_v161 main_v162
  fn_part8 (F := F) main_arg5 main_v150 main_v152 main_v154 main_v159 main_v161 main_v163

def fn_part6 {F : FTy → Type} [FloatOps F] (main_arg0 : FVec F S64x8732x4 .f32) (main_arg1 : FVec F S64x8732x21 .f32) (main_arg4 : FVec F S8732x4 .f32) (main_arg5 : FVec F S_ .f32) (main_v112 : IVec S64x8732 32) (main_v119 : FVec F S64x8732x4 .f32) (main_v122 : FVec F S64x8732x2 .f32) : IVec S_ 1 × IVec S_ 1 :=
  let main_cst_19 : FVec F S_ .f32 := constant S_ .f32 0x40000000#32
  let main_v123 : FVec F S64x8732x2 .f32 := broadcastInDim S64x8732x2 ![] bcast_S_S64x8732x2 main_cst_19
  let main_v124 : FVec F S64x8732x2 .f32 := Host.divf main_v122 main_v123
  let main_v125 : FVec F S64x8732x2 .f32 := (extractStridedSlice S64x8732x2 ![0, 0, 2] · slices_S64x8732x4_S64x8732x2_0_0_2) main_v119
  let main_v126 : FVec F S64x8732x2 .f32 := (extractStridedSlice S64x8732x2 ![0, 0, 0] · slices_S64x8732x4_S64x8732x2_0_0_0) main_v119
  let main_v127 : FVec F S64x8732x2 .f32 := subf main_v125 main_v126
  let main_v128 : FVec F S64x8732x4 .f32 := (fun a b => concatenate S64x8732x4 2 [⟨S64x8732x2, a⟩, ⟨S64x8732x2, b⟩] concatenates_S64x8732x2_S64x8732x2_S64x8732x4_d2) main_v124 main_v127
  let main_v129 : FVec F S64x8732x2 .f32 := (extractStridedSlice S64x8732x2 ![0, 0, 0] · slices_S64x8732x4_S64x8732x2_0_0_0) main_v128
  let main_v130 : FVec F S8732x2 .f32 := (extractStridedSlice S8732x2 ![0, 0] · slices_S8732x4_S8732x2_0_0) main_arg4
  let main_v131 : FVec F S1x8732x2 .f32 := broadcastInDim S1x8732x2 ![1, 2] bcast_S8732x2_S1x8732x2_1_2 main_v130
  let main_v132 : FVec F S64x8732x2 .f32 := broadcastInDim S64x8732x2 ![0, 1, 2] bcast_S1x8732x2_S64x8732x2_0_1_2 main_v131
  let main_v133 : FVec F S64x8732x2 .f32 := subf main_v129 main_v132
  let main_v134 : FVec F S8732x2 .f32 := (extractStridedSlice S8732x2 ![0, 2] · slices_S8732x4_S8732x2_0_2) main_arg4
  let main_cst_20 : FVec F S_ .f32 := constant S_ .f32 0x41200000#32
  let main_v135 : FVec F S8732x2 .f32 := broadcastInDim S8732x2 ![] bcast_S_S8732x2 main_cst_20
  let main_v136 : FVec F S8732x2 .f32 := Host.divf main_v134 main_v135
  let main_v137 : FVec F S1x8732x2 .f32 := broadcastInDim S1x8732x2 ![1, 2] bcast_S8732x2_S1x8732x2_1_2 main_v136
  let main_v138 : FVec F S64x8732x2 .f32 := broadcastInDim S64x8732x2 ![0, 1, 2] bcast_S1x8732x2_S64x8732x2_0_1_2 main_v137
  let main_v139 : FVec F S64x8732x2 .f32 := Host.divf main_v133 main_v138
  let main_v140 : FVec F S64x8732x2 .f32 := (extractStridedSlice S64x8732x2 ![0, 0, 2] · slices_S64x8732x4_S64x8732x2_0_0_2) main_v128
  let main_v141 : FVec F S8732x2 .f32 := (extractStridedSlice S8732x2 ![0, 2] · slices_S8732x4_S8732x2_0_2) main_arg4
  let main_v142 : FVec F S1x8732x2 .f32 := broadcastInDim S1x8732x2 ![1, 2] bcast_S8732x2_S1x8732x2_1_2 main_v141
  let main_v143 : FVec F S64x8732x2 .f32 := broadcastInDim S64x8732x2 ![0, 1, 2] bcast_S1x8732x2_S64x8732x2_0_1_2 main_v142
  let main_v144 : FVec F S64x8732x2 .f32 := Host.divf main_v140 main_v143
  fn_part7 (F := F) main_arg0 main_arg1 main_arg5 main_v112 main_v139 main_v144

def fn_part5 {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) (main_v99 : IVec S64x8732 32) (main_v102 : FVec F S64x8732 .f32) (main_v103 : IVec S64x8732 32) : IVec S_ 1 × IVec S_ 1 :=
  let main_v104 : IVec S64x8732 1 := cmpi .slt main_v99 main_v103
  let main_c_14 : IVec S_ 32 := constantI S_ 32 16#32
  let main_v105 : IVec S64x8732 32 := broadcastInDim S64x8732 ![] bcast_S_S64x8732 main_c_14
  let main_v106 : IVec S64x8732 32 := addi main_v99 main_v105
  let main_v107 : IVec S64x8732 32 := select main_v104 main_v106 main_v99
  let main_v108 : IVec S64x8732x1 32 := broadcastInDim S64x8732x1 ![0, 1] bcast_S64x8732_S64x8732x1_0_1 main_v107
  let main_v109 : IVec S64x8732 32 := (fun x i => Host.gather gather_S64x16_S64x8732x1_S64x8732_n_1_0_0_1_2_11 x i) main_arg3 main_v108
  let main_cst_15 : FVec F S_ .f32 := constant S_ .f32 0x3F000000#32
  let main_v110 : FVec F S64x8732 .f32 := broadcastInDim S64x8732 ![] bcast_S_S64x8732 main_cst_15
  let main_v111 : IVec S64x8732 1 := cmpf .olt main_v102 main_v110
  let main_c_16 : IVec S_ 32 := constantI S_ 32 0#32
  let main_v112 : IVec S64x8732 32 := fn_where_1 (F := F) main_v111 main_c_16 main_v109
  let main_c_17 : IVec S_ 32 := constantI S_ 32 0#32
  let main_v113 : IVec S64x8732 32 := broadcastInDim S64x8732 ![] bcast_S_S64x8732 main_c_17
  let main_v114 : IVec S64x8732 1 := cmpi .slt main_v99 main_v113
  let main_c_18 : IVec S_ 32 := constantI S_ 32 16#32
  let main_v115 : IVec S64x8732 32 := broadcastInDim S64x8732 ![] bcast_S_S64x8732 main_c_18
  let main_v116 : IVec S64x8732 32 := addi main_v99 main_v115
  let main_v117 : IVec S64x8732 32 := select main_v114 main_v116 main_v99
  let main_v118 : IVec S64x8732x1 32 := broadcastInDim S64x8732x1 ![0, 1] bcast_S64x8732_S64x8732x1_0_1 main_v117
  let main_v119 : FVec F S64x8732x4 .f32 := (fun x i => Host.gather gather_S64x16x4_S64x8732x1_S64x8732x4_2_1_0_0_1_2_114 x i) main_arg2 main_v118
  let main_v120 : FVec F S64x8732x2 .f32 := (extractStridedSlice S64x8732x2 ![0, 0, 0] · slices_S64x8732x4_S64x8732x2_0_0_0) main_v119
  let main_v121 : FVec F S64x8732x2 .f32 := (extractStridedSlice S64x8732x2 ![0, 0, 2] · slices_S64x8732x4_S64x8732x2_0_0_2) main_v119
  let main_v122 : FVec F S64x8732x2 .f32 := addf main_v120 main_v121
  fn_part6 (F := F) main_arg0 main_arg1 main_arg4 main_arg5 main_v112 main_v119 main_v122

def fn_part4 {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) (main_v64 : FVec F S64x8732 .f32) (main_v74 : IVec S64x8732 32) (main_v84 : IVec S64x16 32) (main_v85 : IVec S16x8732 32) : IVec S_ 1 × IVec S_ 1 :=
  let main_v86 : IVec S64x16x1 32 := broadcastInDim S64x16x1 ![0, 1] bcast_S64x16_S64x16x1_0_1 main_v84
  let main_v87 : IVec S16x8732 32 := iotaInDim S16x8732 32 1
  let main_v88 : IVec S1x16x8732 32 := broadcastInDim S1x16x8732 ![1, 2] bcast_S16x8732_S1x16x8732_1_2 main_v87
  let main_v89 : IVec S64x16x8732 32 := broadcastInDim S64x16x8732 ![0, 1, 2] bcast_S64x16x1_S64x16x8732_0_1_2 main_v86
  let main_v90 : IVec S64x16x8732 32 := broadcastInDim S64x16x8732 ![0, 1, 2] bcast_S1x16x8732_S64x16x8732_0_1_2 main_v88
  let main_v91 : IVec S64x16x8732 1 := cmpi .eq main_v89 main_v90
  let main_c_8 : IVec S_ 32 := constantI S_ 32 4294967295#32
  let main_v92 : IVec S16x8732 32 := broadcastInDim S16x8732 ![] bcast_S_S16x8732 main_c_8
  let main_v93 : IVec S64x16x8732 32 := broadcastInDim S64x16x8732 ![1, 2] bcast_S16x8732_S64x16x8732_1_2 main_v92
  let main_v94 : IVec S64x16x8732 32 := broadcastInDim S64x16x8732 ![1, 2] bcast_S16x8732_S64x16x8732_1_2 main_v85
  let main_v95 : IVec S64x16x8732 32 := select main_v91 main_v94 main_v93
  let main_c_9 : IVec S_ 32 := constantI S_ 32 2147483648#32
  let main_v96 : IVec S64x8732 32 := (fun x v => Host.reduce IntOp.maxsi x v reducesTo_S64x16x8732_S64x8732_d1 h_S_) main_v95 main_c_9
  let main_c_10 : IVec S_ 32 := constantI S_ 32 0#32
  let main_v97 : IVec S64x8732 32 := broadcastInDim S64x8732 ![] bcast_S_S64x8732 main_c_10
  let main_v98 : IVec S64x8732 1 := cmpi .sge main_v96 main_v97
  let main_v99 : IVec S64x8732 32 := fn_where (F := F) main_v98 main_v96 main_v74
  let main_c_11 : IVec S_ 32 := constantI S_ 32 0#32
  let main_v100 : IVec S64x8732 32 := broadcastInDim S64x8732 ![] bcast_S_S64x8732 main_c_11
  let main_v101 : IVec S64x8732 1 := cmpi .sge main_v96 main_v100
  let main_cst_12 : FVec F S_ .f32 := constant S_ .f32 0x3F800000#32
  let main_v102 : FVec F S64x8732 .f32 := fn_where_0 (F := F) main_v101 main_cst_12 main_v64
  let main_c_13 : IVec S_ 32 := constantI S_ 32 0#32
  let main_v103 : IVec S64x8732 32 := broadcastInDim S64x8732 ![] bcast_S_S64x8732 main_c_13
  fn_part5 (F := F) main_arg0 main_arg1 main_arg2 main_arg3 main_arg4 main_arg5 main_v99 main_v102 main_v103

def fn_part3 {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) (main_v63 : FVec F S64x16x8732 .f32) (main_v64 : FVec F S64x8732 .f32) (main_v65 : IVec S16x8732 32) (main_v66 : FVec F S64x8732 .f32) : IVec S_ 1 × IVec S_ 1 :=
  let main_v67 : FVec F S64x1x8732 .f32 := broadcastInDim S64x1x8732 ![0, 2] bcast_S64x8732_S64x1x8732_0_2 main_v66
  let main_v68 : FVec F S64x16x8732 .f32 := broadcastInDim S64x16x8732 ![0, 1, 2] bcast_S64x1x8732_S64x16x8732_0_1_2 main_v67
  let main_v69 : IVec S64x16x8732 1 := cmpf .oeq main_v63 main_v68
  let main_c : IVec S_ 32 := constantI S_ 32 16#32
  let main_v70 : IVec S16x8732 32 := broadcastInDim S16x8732 ![] bcast_S_S16x8732 main_c
  let main_v71 : IVec S64x16x8732 32 := broadcastInDim S64x16x8732 ![1, 2] bcast_S16x8732_S64x16x8732_1_2 main_v70
  let main_v72 : IVec S64x16x8732 32 := broadcastInDim S64x16x8732 ![1, 2] bcast_S16x8732_S64x16x8732_1_2 main_v65
  let main_v73 : IVec S64x16x8732 32 := select main_v69 main_v72 main_v71
  let main_c_4 : IVec S_ 32 := constantI S_ 32 2147483647#32
  let main_v74 : IVec S64x8732 32 := (fun x v => Host.reduce IntOp.minsi x v reducesTo_S64x16x8732_S64x8732_d1 h_S_) main_v73 main_c_4
  let main_v75 : IVec S16x8732 32 := iotaInDim S16x8732 32 1
  let main_cst_5 : FVec F S_ .f32 := constant S_ .f32 0xFF800000#32
  let main_v76 : FVec F S64x16 .f32 := (fun x v => Host.reduce FloatOps.maximumf x v reducesTo_S64x16x8732_S64x16_d2 h_S_) main_v63 main_cst_5
  let main_v77 : FVec F S64x16x1 .f32 := broadcastInDim S64x16x1 ![0, 1] bcast_S64x16_S64x16x1_0_1 main_v76
  let main_v78 : FVec F S64x16x8732 .f32 := broadcastInDim S64x16x8732 ![0, 1, 2] bcast_S64x16x1_S64x16x8732_0_1_2 main_v77
  let main_v79 : IVec S64x16x8732 1 := cmpf .oeq main_v63 main_v78
  let main_c_6 : IVec S_ 32 := constantI S_ 32 8732#32
  let main_v80 : IVec S16x8732 32 := broadcastInDim S16x8732 ![] bcast_S_S16x8732 main_c_6
  let main_v81 : IVec S64x16x8732 32 := broadcastInDim S64x16x8732 ![1, 2] bcast_S16x8732_S64x16x8732_1_2 main_v80
  let main_v82 : IVec S64x16x8732 32 := broadcastInDim S64x16x8732 ![1, 2] bcast_S16x8732_S64x16x8732_1_2 main_v75
  let main_v83 : IVec S64x16x8732 32 := select main_v79 main_v82 main_v81
  let main_c_7 : IVec S_ 32 := constantI S_ 32 2147483647#32
  let main_v84 : IVec S64x16 32 := (fun x v => Host.reduce IntOp.minsi x v reducesTo_S64x16x8732_S64x16_d2 h_S_) main_v83 main_c_7
  let main_v85 : IVec S16x8732 32 := iotaInDim S16x8732 32 0
  fn_part4 (F := F) main_arg0 main_arg1 main_arg2 main_arg3 main_arg4 main_arg5 main_v64 main_v74 main_v84 main_v85

def fn_part2 {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) (main_v10 : FVec F S8732x4 .f32) (main_v33 : FVec F S64x16x8732 .f32) (main_v44 : FVec F S64x16 .f32) : IVec S_ 1 × IVec S_ 1 :=
  let main_v45 : FVec F S8732x1 .f32 := (extractStridedSlice S8732x1 ![0, 2] · slices_S8732x4_S8732x1_0_2) main_v10
  let main_v46 : FVec F S8732 .f32 := shapeCast S8732 main_v45 shapeCasts_S8732x1_S8732
  let main_v47 : FVec F S8732x1 .f32 := (extractStridedSlice S8732x1 ![0, 0] · slices_S8732x4_S8732x1_0_0) main_v10
  let main_v48 : FVec F S8732 .f32 := shapeCast S8732 main_v47 shapeCasts_S8732x1_S8732
  let main_v49 : FVec F S8732 .f32 := subf main_v46 main_v48
  let main_v50 : FVec F S8732x1 .f32 := (extractStridedSlice S8732x1 ![0, 3] · slices_S8732x4_S8732x1_0_3) main_v10
  let main_v51 : FVec F S8732 .f32 := shapeCast S8732 main_v50 shapeCasts_S8732x1_S8732
  let main_v52 : FVec F S8732x1 .f32 := (extractStridedSlice S8732x1 ![0, 1] · slices_S8732x4_S8732x1_0_1) main_v10
  let main_v53 : FVec F S8732 .f32 := shapeCast S8732 main_v52 shapeCasts_S8732x1_S8732
  let main_v54 : FVec F S8732 .f32 := subf main_v51 main_v53
  let main_v55 : FVec F S8732 .f32 := mulf main_v49 main_v54
  let main_v56 : FVec F S64x16x1 .f32 := broadcastInDim S64x16x1 ![0, 1] bcast_S64x16_S64x16x1_0_1 main_v44
  let main_v57 : FVec F S1x8732 .f32 := broadcastInDim S1x8732 ![1] bcast_S8732_S1x8732_1 main_v55
  let main_v58 : FVec F S1x1x8732 .f32 := broadcastInDim S1x1x8732 ![1, 2] bcast_S1x8732_S1x1x8732_1_2 main_v57
  let main_v59 : FVec F S64x16x8732 .f32 := broadcastInDim S64x16x8732 ![0, 1, 2] bcast_S64x16x1_S64x16x8732_0_1_2 main_v56
  let main_v60 : FVec F S64x16x8732 .f32 := broadcastInDim S64x16x8732 ![0, 1, 2] bcast_S1x1x8732_S64x16x8732_0_1_2 main_v58
  let main_v61 : FVec F S64x16x8732 .f32 := addf main_v59 main_v60
  let main_v62 : FVec F S64x16x8732 .f32 := subf main_v61 main_v33
  let main_v63 : FVec F S64x16x8732 .f32 := Host.divf main_v33 main_v62
  let main_cst_2 : FVec F S_ .f32 := constant S_ .f32 0xFF800000#32
  let main_v64 : FVec F S64x8732 .f32 := (fun x v => Host.reduce FloatOps.maximumf x v reducesTo_S64x16x8732_S64x8732_d1 h_S_) main_v63 main_cst_2
  let main_v65 : IVec S16x8732 32 := iotaInDim S16x8732 32 0
  let main_cst_3 : FVec F S_ .f32 := constant S_ .f32 0xFF800000#32
  let main_v66 : FVec F S64x8732 .f32 := (fun x v => Host.reduce FloatOps.maximumf x v reducesTo_S64x16x8732_S64x8732_d1 h_S_) main_v63 main_cst_3
  fn_part3 (F := F) main_arg0 main_arg1 main_arg2 main_arg3 main_arg4 main_arg5 main_v63 main_v64 main_v65 main_v66

def fn_part1 {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) (main_v10 : FVec F S8732x4 .f32) (main_v18 : FVec F S64x16x8732x2 .f32) (main_v20 : FVec F S64x16x1x2 .f32) (main_v21 : FVec F S8732x2 .f32) : IVec S_ 1 × IVec S_ 1 :=
  let main_v22 : FVec F S1x8732x2 .f32 := broadcastInDim S1x8732x2 ![1, 2] bcast_S8732x2_S1x8732x2_1_2 main_v21
  let main_v23 : FVec F S1x1x8732x2 .f32 := broadcastInDim S1x1x8732x2 ![1, 2, 3] bcast_S1x8732x2_S1x1x8732x2_1_2_3 main_v22
  let main_v24 : FVec F S64x16x8732x2 .f32 := broadcastInDim S64x16x8732x2 ![0, 1, 2, 3] bcast_S64x16x1x2_S64x16x8732x2_0_1_2_3 main_v20
  let main_v25 : FVec F S64x16x8732x2 .f32 := broadcastInDim S64x16x8732x2 ![0, 1, 2, 3] bcast_S1x1x8732x2_S64x16x8732x2_0_1_2_3 main_v23
  let main_v26 : FVec F S64x16x8732x2 .f32 := minimumf main_v24 main_v25
  let main_v27 : FVec F S64x16x8732x2 .f32 := subf main_v26 main_v18
  let main_cst_1 : FVec F S_ .f32 := constant S_ .f32 0x00000000#32
  let main_v28 : FVec F S64x16x8732x2 .f32 := fn_clip (F := F) main_v27 main_cst_1
  let main_v29 : FVec F S64x16x8732x1 .f32 := (extractStridedSlice S64x16x8732x1 ![0, 0, 0, 0] · slices_S64x16x8732x2_S64x16x8732x1_0_0_0_0) main_v28
  let main_v30 : FVec F S64x16x8732 .f32 := shapeCast S64x16x8732 main_v29 shapeCasts_S64x16x8732x1_S64x16x8732
  let main_v31 : FVec F S64x16x8732x1 .f32 := (extractStridedSlice S64x16x8732x1 ![0, 0, 0, 1] · slices_S64x16x8732x2_S64x16x8732x1_0_0_0_1) main_v28
  let main_v32 : FVec F S64x16x8732 .f32 := shapeCast S64x16x8732 main_v31 shapeCasts_S64x16x8732x1_S64x16x8732
  let main_v33 : FVec F S64x16x8732 .f32 := mulf main_v30 main_v32
  let main_v34 : FVec F S64x16x1 .f32 := (extractStridedSlice S64x16x1 ![0, 0, 2] · slices_S64x16x4_S64x16x1_0_0_2) main_arg2
  let main_v35 : FVec F S64x16 .f32 := shapeCast S64x16 main_v34 shapeCasts_S64x16x1_S64x16
  let main_v36 : FVec F S64x16x1 .f32 := (extractStridedSlice S64x16x1 ![0, 0, 0] · slices_S64x16x4_S64x16x1_0_0_0) main_arg2
  let main_v37 : FVec F S64x16 .f32 := shapeCast S64x16 main_v36 shapeCasts_S64x16x1_S64x16
  let main_v38 : FVec F S64x16 .f32 := subf main_v35 main_v37
  let main_v39 : FVec F S64x16x1 .f32 := (extractStridedSlice S64x16x1 ![0, 0, 3] · slices_S64x16x4_S64x16x1_0_0_3) main_arg2
  let main_v40 : FVec F S64x16 .f32 := shapeCast S64x16 main_v39 shapeCasts_S64x16x1_S64x16
  let main_v41 : FVec F S64x16x1 .f32 := (extractStridedSlice S64x16x1 ![0, 0, 1] · slices_S64x16x4_S64x16x1_0_0_1) main_arg2
  let main_v42 : FVec F S64x16 .f32 := shapeCast S64x16 main_v41 shapeCasts_S64x16x1_S64x16
  let main_v43 : FVec F S64x16 .f32 := subf main_v40 main_v42
  let main_v44 : FVec F S64x16 .f32 := mulf main_v38 main_v43
  fn_part2 (F := F) main_arg0 main_arg1 main_arg2 main_arg3 main_arg4 main_arg5 main_v10 main_v33 main_v44

def fn {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) (main_arg5 : FVec F S_ .f32) : IVec S_ 1 × IVec S_ 1 :=
  let main_v0 : FVec F S8732x2 .f32 := (extractStridedSlice S8732x2 ![0, 0] · slices_S8732x4_S8732x2_0_0) main_arg4
  let main_v1 : FVec F S8732x2 .f32 := (extractStridedSlice S8732x2 ![0, 2] · slices_S8732x4_S8732x2_0_2) main_arg4
  let main_cst : FVec F S_ .f32 := constant S_ .f32 0x40000000#32
  let main_v2 : FVec F S8732x2 .f32 := broadcastInDim S8732x2 ![] bcast_S_S8732x2 main_cst
  let main_v3 : FVec F S8732x2 .f32 := Host.divf main_v1 main_v2
  let main_v4 : FVec F S8732x2 .f32 := subf main_v0 main_v3
  let main_v5 : FVec F S8732x2 .f32 := (extractStridedSlice S8732x2 ![0, 0] · slices_S8732x4_S8732x2_0_0) main_arg4
  let main_v6 : FVec F S8732x2 .f32 := (extractStridedSlice S8732x2 ![0, 2] · slices_S8732x4_S8732x2_0_2) main_arg4
  let main_cst_0 : FVec F S_ .f32 := constant S_ .f32 0x40000000#32
  let main_v7 : FVec F S8732x2 .f32 := broadcastInDim S8732x2 ![] bcast_S_S8732x2 main_cst_0
  let main_v8 : FVec F S8732x2 .f32 := Host.divf main_v6 main_v7
  let main_v9 : FVec F S8732x2 .f32 := addf main_v5 main_v8
  let main_v10 : FVec F S8732x4 .f32 := (fun a b => concatenate S8732x4 1 [⟨S8732x2, a⟩, ⟨S8732x2, b⟩] concatenates_S8732x2_S8732x2_S8732x4_d1) main_v4 main_v9
  let main_v11 : FVec F S64x16x2 .f32 := (extractStridedSlice S64x16x2 ![0, 0, 0] · slices_S64x16x4_S64x16x2_0_0_0) main_arg2
  let main_v12 : FVec F S64x16x1x2 .f32 := broadcastInDim S64x16x1x2 ![0, 1, 3] bcast_S64x16x2_S64x16x1x2_0_1_3 main_v11
  let main_v13 : FVec F S8732x2 .f32 := (extractStridedSlice S8732x2 ![0, 0] · slices_S8732x4_S8732x2_0_0) main_v10
  let main_v14 : FVec F S1x8732x2 .f32 := broadcastInDim S1x8732x2 ![1, 2] bcast_S8732x2_S1x8732x2_1_2 main_v13
  let main_v15 : FVec F S1x1x8732x2 .f32 := broadcastInDim S1x1x8732x2 ![1, 2, 3] bcast_S1x8732x2_S1x1x8732x2_1_2_3 main_v14
  let main_v16 : FVec F S64x16x8732x2 .f32 := broadcastInDim S64x16x8732x2 ![0, 1, 2, 3] bcast_S64x16x1x2_S64x16x8732x2_0_1_2_3 main_v12
  let main_v17 : FVec F S64x16x8732x2 .f32 := broadcastInDim S64x16x8732x2 ![0, 1, 2, 3] bcast_S1x1x8732x2_S64x16x8732x2_0_1_2_3 main_v15
  let main_v18 : FVec F S64x16x8732x2 .f32 := maximumf main_v16 main_v17
  let main_v19 : FVec F S64x16x2 .f32 := (extractStridedSlice S64x16x2 ![0, 0, 2] · slices_S64x16x4_S64x16x2_0_0_2) main_arg2
  let main_v20 : FVec F S64x16x1x2 .f32 := broadcastInDim S64x16x1x2 ![0, 1, 3] bcast_S64x16x2_S64x16x1x2_0_1_3 main_v19
  let main_v21 : FVec F S8732x2 .f32 := (extractStridedSlice S8732x2 ![0, 2] · slices_S8732x4_S8732x2_0_2) main_v10
  fn_part1 (F := F) main_arg0 main_arg1 main_arg2 main_arg3 main_arg4 main_arg5 main_v10 main_v18 main_v20 main_v21
-- ==== Pre_labelled.lean ====
abbrev S64x8732x4 : Shape := ⟨3, ![64, 8732, 4]⟩
abbrev S64x8732x21 : Shape := ⟨3, ![64, 8732, 21]⟩
abbrev S64x16x4 : Shape := ⟨3, ![64, 16, 4]⟩
abbrev S64x16 : Shape := ⟨2, ![64, 16]⟩
abbrev S8732x4 : Shape := ⟨2, ![8732, 4]⟩
abbrev S8732x2 : Shape := ⟨2, ![8732, 2]⟩
abbrev S_ : Shape := ⟨0, ![]⟩
abbrev S64x16x1 : Shape := ⟨3, ![64, 16, 1]⟩
abbrev S8732x1 : Shape := ⟨2, ![8732, 1]⟩
abbrev S8732 : Shape := ⟨1, ![8732]⟩

class Facts : Prop where
  slices_S8732x4_S8732x2_0_0 : S8732x4.Slices ![0, 0] S8732x2
  slices_S8732x4_S8732x2_0_2 : S8732x4.Slices ![0, 2] S8732x2
  bcast_S_S8732x2 : S_.BroadcastsInDim S8732x2 (![] : Fin 0 → Fin S8732x2.rank)
  slices_S64x16x4_S64x16x1_0_0_2 : S64x16x4.Slices ![0, 0, 2] S64x16x1
  shapeCasts_S64x16x1_S64x16 : S64x16x1.ShapeCasts S64x16
  slices_S64x16x4_S64x16x1_0_0_0 : S64x16x4.Slices ![0, 0, 0] S64x16x1
  slices_S64x16x4_S64x16x1_0_0_3 : S64x16x4.Slices ![0, 0, 3] S64x16x1
  slices_S64x16x4_S64x16x1_0_0_1 : S64x16x4.Slices ![0, 0, 1] S64x16x1
  bcast_S_S64x8732x21 : S_.BroadcastsInDim S64x8732x21 (![] : Fin 0 → Fin S64x8732x21.rank)
  bcast_S_S64x16 : S_.BroadcastsInDim S64x16 (![] : Fin 0 → Fin S64x16.rank)
  slices_S8732x2_S8732x1_0_0 : S8732x2.Slices ![0, 0] S8732x1
  shapeCasts_S8732x1_S8732 : S8732x1.ShapeCasts S8732
  slices_S8732x2_S8732x1_0_1 : S8732x2.Slices ![0, 1] S8732x1
  bcast_S_S8732 : S_.BroadcastsInDim S8732 (![] : Fin 0 → Fin S8732.rank)

variable [Facts]

def fn_part2 {F : FTy → Type} [FloatOps F] (main_arg3 : IVec S64x16 32) (main_v24 : IVec S64x8732x21 1) (main_v26 : IVec S64x16 1) (main_v33 : IVec S8732 1) (main_v40 : IVec S64x16 1) (main_c : IVec S_ 32) : IVec S64x8732x21 1 × IVec S64x16 1 × IVec S8732 1 × IVec S64x16 1 × IVec S64x16 1 × IVec S64x16 1 × IVec S64x16 1 :=
  let main_v41 : IVec S64x16 32 := broadcastInDim S64x16 ![] bcast_S_S64x16 main_c
  let main_v42 : IVec S64x16 1 := cmpi .sge main_arg3 main_v41
  let main_c_5 : IVec S_ 32 := constantI S_ 32 20#32
  let main_v43 : IVec S64x16 32 := broadcastInDim S64x16 ![] bcast_S_S64x16 main_c_5
  let main_v44 : IVec S64x16 1 := cmpi .sle main_arg3 main_v43
  let main_c_6 : IVec S_ 32 := constantI S_ 32 1#32
  let main_v45 : IVec S64x16 32 := broadcastInDim S64x16 ![] bcast_S_S64x16 main_c_6
  let main_v46 : IVec S64x16 1 := cmpi .sge main_arg3 main_v45
  (main_v24, main_v26, main_v33, main_v40, main_v42, main_v44, main_v46)

def fn_part1 {F : FTy → Type} [FloatOps F] (main_arg1 : FVec F S64x8732x21 .f32) (main_arg2 : FVec F S64x16x4 .f32) (main_arg3 : IVec S64x16 32) (main_v10 : FVec F S8732x2 .f32) (main_v21 : FVec F S64x16 .f32) : IVec S64x8732x21 1 × IVec S64x16 1 × IVec S8732 1 × IVec S64x16 1 × IVec S64x16 1 × IVec S64x16 1 × IVec S64x16 1 :=
  let main_v22 : FVec F S64x8732x21 .f32 := Host.absf main_arg1
  let main_cst_1 : FVec F S_ .f32 := constant S_ .f32 0x7F800000#32
  let main_v23 : FVec F S64x8732x21 .f32 := broadcastInDim S64x8732x21 ![] bcast_S_S64x8732x21 main_cst_1
  let main_v24 : IVec S64x8732x21 1 := cmpf .olt main_v22 main_v23
  let main_cst_2 : FVec F S_ .f32 := constant S_ .f32 0x00000000#32
  let main_v25 : FVec F S64x16 .f32 := broadcastInDim S64x16 ![] bcast_S_S64x16 main_cst_2
  let main_v26 : IVec S64x16 1 := cmpf .oge main_v21 main_v25
  let main_v27 : FVec F S8732x1 .f32 := (extractStridedSlice S8732x1 ![0, 0] · slices_S8732x2_S8732x1_0_0) main_v10
  let main_v28 : FVec F S8732 .f32 := shapeCast S8732 main_v27 shapeCasts_S8732x1_S8732
  let main_v29 : FVec F S8732x1 .f32 := (extractStridedSlice S8732x1 ![0, 1] · slices_S8732x2_S8732x1_0_1) main_v10
  let main_v30 : FVec F S8732 .f32 := shapeCast S8732 main_v29 shapeCasts_S8732x1_S8732
  let main_v31 : FVec F S8732 .f32 := mulf main_v28 main_v30
  let main_cst_3 : FVec F S_ .f32 := constant S_ .f32 0x00000000#32
  let main_v32 : FVec F S8732 .f32 := broadcastInDim S8732 ![] bcast_S_S8732 main_cst_3
  let main_v33 : IVec S8732 1 := cmpf .ogt main_v31 main_v32
  let main_v34 : FVec F S64x16x1 .f32 := (extractStridedSlice S64x16x1 ![0, 0, 2] · slices_S64x16x4_S64x16x1_0_0_2) main_arg2
  let main_v35 : FVec F S64x16 .f32 := shapeCast S64x16 main_v34 shapeCasts_S64x16x1_S64x16
  let main_v36 : FVec F S64x16x1 .f32 := (extractStridedSlice S64x16x1 ![0, 0, 3] · slices_S64x16x4_S64x16x1_0_0_3) main_arg2
  let main_v37 : FVec F S64x16 .f32 := shapeCast S64x16 main_v36 shapeCasts_S64x16x1_S64x16
  let main_v38 : FVec F S64x16 .f32 := minimumf main_v35 main_v37
  let main_cst_4 : FVec F S_ .f32 := constant S_ .f32 0x41180000#32
  let main_v39 : FVec F S64x16 .f32 := broadcastInDim S64x16 ![] bcast_S_S64x16 main_cst_4
  let main_v40 : IVec S64x16 1 := cmpf .ole main_v38 main_v39
  let main_c : IVec S_ 32 := constantI S_ 32 0#32
  fn_part2 (F := F) main_arg3 main_v24 main_v26 main_v33 main_v40 main_c

def fn {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) : IVec S64x8732x21 1 × IVec S64x16 1 × IVec S8732 1 × IVec S64x16 1 × IVec S64x16 1 × IVec S64x16 1 × IVec S64x16 1 :=
  let main_v0 : FVec F S8732x2 .f32 := (extractStridedSlice S8732x2 ![0, 0] · slices_S8732x4_S8732x2_0_0) main_arg4
  let main_v1 : FVec F S8732x2 .f32 := (extractStridedSlice S8732x2 ![0, 2] · slices_S8732x4_S8732x2_0_2) main_arg4
  let main_cst : FVec F S_ .f32 := constant S_ .f32 0x40000000#32
  let main_v2 : FVec F S8732x2 .f32 := broadcastInDim S8732x2 ![] bcast_S_S8732x2 main_cst
  let main_v3 : FVec F S8732x2 .f32 := Host.divf main_v1 main_v2
  let main_v4 : FVec F S8732x2 .f32 := subf main_v0 main_v3
  let main_v5 : FVec F S8732x2 .f32 := (extractStridedSlice S8732x2 ![0, 0] · slices_S8732x4_S8732x2_0_0) main_arg4
  let main_v6 : FVec F S8732x2 .f32 := (extractStridedSlice S8732x2 ![0, 2] · slices_S8732x4_S8732x2_0_2) main_arg4
  let main_cst_0 : FVec F S_ .f32 := constant S_ .f32 0x40000000#32
  let main_v7 : FVec F S8732x2 .f32 := broadcastInDim S8732x2 ![] bcast_S_S8732x2 main_cst_0
  let main_v8 : FVec F S8732x2 .f32 := Host.divf main_v6 main_v7
  let main_v9 : FVec F S8732x2 .f32 := addf main_v5 main_v8
  let main_v10 : FVec F S8732x2 .f32 := subf main_v9 main_v4
  let main_v11 : FVec F S64x16x1 .f32 := (extractStridedSlice S64x16x1 ![0, 0, 2] · slices_S64x16x4_S64x16x1_0_0_2) main_arg2
  let main_v12 : FVec F S64x16 .f32 := shapeCast S64x16 main_v11 shapeCasts_S64x16x1_S64x16
  let main_v13 : FVec F S64x16x1 .f32 := (extractStridedSlice S64x16x1 ![0, 0, 0] · slices_S64x16x4_S64x16x1_0_0_0) main_arg2
  let main_v14 : FVec F S64x16 .f32 := shapeCast S64x16 main_v13 shapeCasts_S64x16x1_S64x16
  let main_v15 : FVec F S64x16 .f32 := subf main_v12 main_v14
  let main_v16 : FVec F S64x16x1 .f32 := (extractStridedSlice S64x16x1 ![0, 0, 3] · slices_S64x16x4_S64x16x1_0_0_3) main_arg2
  let main_v17 : FVec F S64x16 .f32 := shapeCast S64x16 main_v16 shapeCasts_S64x16x1_S64x16
  let main_v18 : FVec F S64x16x1 .f32 := (extractStridedSlice S64x16x1 ![0, 0, 1] · slices_S64x16x4_S64x16x1_0_0_1) main_arg2
  let main_v19 : FVec F S64x16 .f32 := shapeCast S64x16 main_v18 shapeCasts_S64x16x1_S64x16
  let main_v20 : FVec F S64x16 .f32 := subf main_v17 main_v19
  let main_v21 : FVec F S64x16 .f32 := mulf main_v15 main_v20
  fn_part1 (F := F) main_arg1 main_arg2 main_arg3 main_v10 main_v21
-- ==== Pre_proper.lean ====
abbrev S64x8732x4 : Shape := ⟨3, ![64, 8732, 4]⟩
abbrev S64x8732x21 : Shape := ⟨3, ![64, 8732, 21]⟩
abbrev S64x16x4 : Shape := ⟨3, ![64, 16, 4]⟩
abbrev S64x16 : Shape := ⟨2, ![64, 16]⟩
abbrev S8732x4 : Shape := ⟨2, ![8732, 4]⟩
abbrev S8732x2 : Shape := ⟨2, ![8732, 2]⟩
abbrev S_ : Shape := ⟨0, ![]⟩
abbrev S64x16x1 : Shape := ⟨3, ![64, 16, 1]⟩
abbrev S8732x1 : Shape := ⟨2, ![8732, 1]⟩
abbrev S8732 : Shape := ⟨1, ![8732]⟩

class Facts : Prop where
  slices_S8732x4_S8732x2_0_0 : S8732x4.Slices ![0, 0] S8732x2
  slices_S8732x4_S8732x2_0_2 : S8732x4.Slices ![0, 2] S8732x2
  bcast_S_S8732x2 : S_.BroadcastsInDim S8732x2 (![] : Fin 0 → Fin S8732x2.rank)
  slices_S64x16x4_S64x16x1_0_0_2 : S64x16x4.Slices ![0, 0, 2] S64x16x1
  shapeCasts_S64x16x1_S64x16 : S64x16x1.ShapeCasts S64x16
  slices_S64x16x4_S64x16x1_0_0_0 : S64x16x4.Slices ![0, 0, 0] S64x16x1
  slices_S64x16x4_S64x16x1_0_0_3 : S64x16x4.Slices ![0, 0, 3] S64x16x1
  slices_S64x16x4_S64x16x1_0_0_1 : S64x16x4.Slices ![0, 0, 1] S64x16x1
  bcast_S_S64x8732x21 : S_.BroadcastsInDim S64x8732x21 (![] : Fin 0 → Fin S64x8732x21.rank)
  bcast_S_S64x16 : S_.BroadcastsInDim S64x16 (![] : Fin 0 → Fin S64x16.rank)
  slices_S8732x2_S8732x1_0_0 : S8732x2.Slices ![0, 0] S8732x1
  shapeCasts_S8732x1_S8732 : S8732x1.ShapeCasts S8732
  slices_S8732x2_S8732x1_0_1 : S8732x2.Slices ![0, 1] S8732x1
  bcast_S_S8732 : S_.BroadcastsInDim S8732 (![] : Fin 0 → Fin S8732.rank)

variable [Facts]

def fn_part2 {F : FTy → Type} [FloatOps F] (main_arg3 : IVec S64x16 32) (main_v24 : IVec S64x8732x21 1) (main_v26 : IVec S64x16 1) (main_v33 : IVec S8732 1) (main_v40 : IVec S64x16 1) (main_c : IVec S_ 32) : IVec S64x8732x21 1 × IVec S64x16 1 × IVec S8732 1 × IVec S64x16 1 × IVec S64x16 1 × IVec S64x16 1 :=
  let main_v41 : IVec S64x16 32 := broadcastInDim S64x16 ![] bcast_S_S64x16 main_c
  let main_v42 : IVec S64x16 1 := cmpi .sge main_arg3 main_v41
  let main_c_5 : IVec S_ 32 := constantI S_ 32 20#32
  let main_v43 : IVec S64x16 32 := broadcastInDim S64x16 ![] bcast_S_S64x16 main_c_5
  let main_v44 : IVec S64x16 1 := cmpi .sle main_arg3 main_v43
  (main_v24, main_v26, main_v33, main_v40, main_v42, main_v44)

def fn_part1 {F : FTy → Type} [FloatOps F] (main_arg1 : FVec F S64x8732x21 .f32) (main_arg2 : FVec F S64x16x4 .f32) (main_arg3 : IVec S64x16 32) (main_v10 : FVec F S8732x2 .f32) (main_v21 : FVec F S64x16 .f32) : IVec S64x8732x21 1 × IVec S64x16 1 × IVec S8732 1 × IVec S64x16 1 × IVec S64x16 1 × IVec S64x16 1 :=
  let main_v22 : FVec F S64x8732x21 .f32 := Host.absf main_arg1
  let main_cst_1 : FVec F S_ .f32 := constant S_ .f32 0x7F800000#32
  let main_v23 : FVec F S64x8732x21 .f32 := broadcastInDim S64x8732x21 ![] bcast_S_S64x8732x21 main_cst_1
  let main_v24 : IVec S64x8732x21 1 := cmpf .olt main_v22 main_v23
  let main_cst_2 : FVec F S_ .f32 := constant S_ .f32 0x00000000#32
  let main_v25 : FVec F S64x16 .f32 := broadcastInDim S64x16 ![] bcast_S_S64x16 main_cst_2
  let main_v26 : IVec S64x16 1 := cmpf .oge main_v21 main_v25
  let main_v27 : FVec F S8732x1 .f32 := (extractStridedSlice S8732x1 ![0, 0] · slices_S8732x2_S8732x1_0_0) main_v10
  let main_v28 : FVec F S8732 .f32 := shapeCast S8732 main_v27 shapeCasts_S8732x1_S8732
  let main_v29 : FVec F S8732x1 .f32 := (extractStridedSlice S8732x1 ![0, 1] · slices_S8732x2_S8732x1_0_1) main_v10
  let main_v30 : FVec F S8732 .f32 := shapeCast S8732 main_v29 shapeCasts_S8732x1_S8732
  let main_v31 : FVec F S8732 .f32 := mulf main_v28 main_v30
  let main_cst_3 : FVec F S_ .f32 := constant S_ .f32 0x00000000#32
  let main_v32 : FVec F S8732 .f32 := broadcastInDim S8732 ![] bcast_S_S8732 main_cst_3
  let main_v33 : IVec S8732 1 := cmpf .ogt main_v31 main_v32
  let main_v34 : FVec F S64x16x1 .f32 := (extractStridedSlice S64x16x1 ![0, 0, 2] · slices_S64x16x4_S64x16x1_0_0_2) main_arg2
  let main_v35 : FVec F S64x16 .f32 := shapeCast S64x16 main_v34 shapeCasts_S64x16x1_S64x16
  let main_v36 : FVec F S64x16x1 .f32 := (extractStridedSlice S64x16x1 ![0, 0, 3] · slices_S64x16x4_S64x16x1_0_0_3) main_arg2
  let main_v37 : FVec F S64x16 .f32 := shapeCast S64x16 main_v36 shapeCasts_S64x16x1_S64x16
  let main_v38 : FVec F S64x16 .f32 := minimumf main_v35 main_v37
  let main_cst_4 : FVec F S_ .f32 := constant S_ .f32 0x41180000#32
  let main_v39 : FVec F S64x16 .f32 := broadcastInDim S64x16 ![] bcast_S_S64x16 main_cst_4
  let main_v40 : IVec S64x16 1 := cmpf .ole main_v38 main_v39
  let main_c : IVec S_ 32 := constantI S_ 32 0#32
  fn_part2 (F := F) main_arg3 main_v24 main_v26 main_v33 main_v40 main_c

def fn {F : FTy → Type} [FloatOps F] (main_arg0 : FVec F S64x8732x4 .f32) (main_arg1 : FVec F S64x8732x21 .f32) (main_arg2 : FVec F S64x16x4 .f32) (main_arg3 : IVec S64x16 32) (main_arg4 : FVec F S8732x4 .f32) : IVec S64x8732x21 1 × IVec S64x16 1 × IVec S8732 1 × IVec S64x16 1 × IVec S64x16 1 × IVec S64x16 1 :=
  let main_v0 : FVec F S8732x2 .f32 := (extractStridedSlice S8732x2 ![0, 0] · slices_S8732x4_S8732x2_0_0) main_arg4
  let main_v1 : FVec F S8732x2 .f32 := (extractStridedSlice S8732x2 ![0, 2] · slices_S8732x4_S8732x2_0_2) main_arg4
  let main_cst : FVec F S_ .f32 := constant S_ .f32 0x40000000#32
  let main_v2 : FVec F S8732x2 .f32 := broadcastInDim S8732x2 ![] bcast_S_S8732x2 main_cst
  let main_v3 : FVec F S8732x2 .f32 := Host.divf main_v1 main_v2
  let main_v4 : FVec F S8732x2 .f32 := subf main_v0 main_v3
  let main_v5 : FVec F S8732x2 .f32 := (extractStridedSlice S8732x2 ![0, 0] · slices_S8732x4_S8732x2_0_0) main_arg4
  let main_v6 : FVec F S8732x2 .f32 := (extractStridedSlice S8732x2 ![0, 2] · slices_S8732x4_S8732x2_0_2) main_arg4
  let main_cst_0 : FVec F S_ .f32 := constant S_ .f32 0x40000000#32
  let main_v7 : FVec F S8732x2 .f32 := broadcastInDim S8732x2 ![] bcast_S_S8732x2 main_cst_0
  let main_v8 : FVec F S8732x2 .f32 := Host.divf main_v6 main_v7
  let main_v9 : FVec F S8732x2 .f32 := addf main_v5 main_v8
  let main_v10 : FVec F S8732x2 .f32 := subf main_v9 main_v4
  let main_v11 : FVec F S64x16x1 .f32 := (extractStridedSlice S64x16x1 ![0, 0, 2] · slices_S64x16x4_S64x16x1_0_0_2) main_arg2
  let main_v12 : FVec F S64x16 .f32 := shapeCast S64x16 main_v11 shapeCasts_S64x16x1_S64x16
  let main_v13 : FVec F S64x16x1 .f32 := (extractStridedSlice S64x16x1 ![0, 0, 0] · slices_S64x16x4_S64x16x1_0_0_0) main_arg2
  let main_v14 : FVec F S64x16 .f32 := shapeCast S64x16 main_v13 shapeCasts_S64x16x1_S64x16
  let main_v15 : FVec F S64x16 .f32 := subf main_v12 main_v14
  let main_v16 : FVec F S64x16x1 .f32 := (extractStridedSlice S64x16x1 ![0, 0, 3] · slices_S64x16x4_S64x16x1_0_0_3) main_arg2
  let main_v17 : FVec F S64x16 .f32 := shapeCast S64x16 main_v16 shapeCasts_S64x16x1_S64x16
  let main_v18 : FVec F S64x16x1 .f32 := (extractStridedSlice S64x16x1 ![0, 0, 1] · slices_S64x16x4_S64x16x1_0_0_1) main_arg2
  let main_v19 : FVec F S64x16 .f32 := shapeCast S64x16 main_v18 shapeCasts_S64x16x1_S64x16
  let main_v20 : FVec F S64x16 .f32 := subf main_v17 main_v19
  let main_v21 : FVec F S64x16 .f32 := mulf main_v15 main_v20
  fn_part1 (F := F) main_arg1 main_arg2 main_arg3 main_v10 main_v21
-- ==== Kernel.lean ====
abbrev S64x8732x4 : Shape := ⟨3, ![64, 8732, 4]⟩
abbrev S64x8732x21 : Shape := ⟨3, ![64, 8732, 21]⟩
abbrev S64x16x4 : Shape := ⟨3, ![64, 16, 4]⟩
abbrev S64x16 : Shape := ⟨2, ![64, 16]⟩
abbrev S8732x4 : Shape := ⟨2, ![8732, 4]⟩
abbrev S4x1 : Shape := ⟨2, ![4, 1]⟩
abbrev S64x4x8732 : Shape := ⟨3, ![64, 4, 8732]⟩
abbrev S_ : Shape := ⟨0, ![]⟩
abbrev S64x4x9216 : Shape := ⟨3, ![64, 4, 9216]⟩
abbrev S64x4x8x1152 : Shape := ⟨4, ![64, 4, 8, 1152]⟩
abbrev S64x21x8732 : Shape := ⟨3, ![64, 21, 8732]⟩
abbrev S64x21x9216 : Shape := ⟨3, ![64, 21, 9216]⟩
abbrev S64x21x8x1152 : Shape := ⟨4, ![64, 21, 8, 1152]⟩
abbrev S4x8732 : Shape := ⟨2, ![4, 8732]⟩
abbrev S4x484 : Shape := ⟨2, ![4, 484]⟩
abbrev S4x9216 : Shape := ⟨2, ![4, 9216]⟩
abbrev S4x8x1152 : Shape := ⟨3, ![4, 8, 1152]⟩
abbrev S64x1x16x4 : Shape := ⟨4, ![64, 1, 16, 4]⟩
abbrev S64x1x1x16 : Shape := ⟨4, ![64, 1, 1, 16]⟩
abbrev S16x1x1 : Shape := ⟨3, ![16, 1, 1]⟩
abbrev S4x1x16x4 : Shape := ⟨4, ![4, 1, 16, 4]⟩
abbrev S4x1x1x16 : Shape := ⟨4, ![4, 1, 1, 16]⟩
abbrev S4x4x8x1152 : Shape := ⟨4, ![4, 4, 8, 1152]⟩
abbrev S4x21x8x1152 : Shape := ⟨4, ![4, 21, 8, 1152]⟩
abbrev S1x1x1 : Shape := ⟨3, ![1, 1, 1]⟩
abbrev S1x8x1152 : Shape := ⟨3, ![1, 8, 1152]⟩
abbrev S8x1152 : Shape := ⟨2, ![8, 1152]⟩
abbrev S1x1x1x1 : Shape := ⟨4, ![1, 1, 1, 1]⟩
abbrev S1 : Shape := ⟨1, ![1]⟩
abbrev S1x1x8x1152 : Shape := ⟨4, ![1, 1, 8, 1152]⟩

abbrev nBuf : Space → Nat
  | .hbm => 27
  | .vmem => 5
  | .smem => 6
  | _ => 0

abbrev bufTy : (tb : Table) → Fin (tcTables nBuf tb) → BufTy
  | .hbm, ⟨0, _⟩ => ⟨S64x8732x4, .f32⟩
  | .hbm, ⟨1, _⟩ => ⟨S64x8732x21, .f32⟩
  | .hbm, ⟨2, _⟩ => ⟨S64x16x4, .f32⟩
  | .hbm, ⟨3, _⟩ => ⟨S64x16, .i32⟩
  | .hbm, ⟨4, _⟩ => ⟨S8732x4, .f32⟩
  | .hbm, ⟨5, _⟩ => ⟨S4x1, .f32⟩
  | .hbm, ⟨6, _⟩ => ⟨S64x4x8732, .f32⟩
  | .hbm, ⟨7, _⟩ => ⟨S_, .i32⟩
  | .hbm, ⟨8, _⟩ => ⟨S_, .f32⟩
  | .hbm, ⟨9, _⟩ => ⟨S64x4x9216, .f32⟩
  | .hbm, ⟨10, _⟩ => ⟨S64x4x8x1152, .f32⟩
  | .hbm, ⟨11, _⟩ => ⟨S64x21x8732, .f32⟩
  | .hbm, ⟨12, _⟩ => ⟨S_, .i32⟩
  | .hbm, ⟨13, _⟩ => ⟨S_, .f32⟩
  | .hbm, ⟨14, _⟩ => ⟨S64x21x9216, .f32⟩
  | .hbm, ⟨15, _⟩ => ⟨S64x21x8x1152, .f32⟩
  | .hbm, ⟨16, _⟩ => ⟨S4x8732, .f32⟩
  | .hbm, ⟨17, _⟩ => ⟨S4x484, .f32⟩
  | .hbm, ⟨18, _⟩ => ⟨S4x9216, .f32⟩
  | .hbm, ⟨19, _⟩ => ⟨S4x8x1152, .f32⟩
  | .hbm, ⟨20, _⟩ => ⟨S64x1x16x4, .f32⟩
  | .hbm, ⟨21, _⟩ => ⟨S64x1x1x16, .i32⟩
  | .hbm, ⟨22, _⟩ => ⟨S16x1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4x8x1152, .f32⟩
  | .local _ .vmem, ⟨1, _⟩ => ⟨S4x4x8x1152, .f32⟩
  | .local _ .vmem, ⟨2, _⟩ => ⟨S4x4x8x1152, .f32⟩
  | .local _ .vmem, ⟨3, _⟩ => ⟨S4x21x8x1152, .f32⟩
  | .local _ .vmem, ⟨4, _⟩ => ⟨S4x21x8x1152, .f32⟩
  | .local _ .smem, ⟨0, _⟩ => ⟨S4x1x16x4, .f32⟩
  | .local _ .smem, ⟨1, _⟩ => ⟨S4x1x16x4, .f32⟩
  | .local _ .smem, ⟨2, _⟩ => ⟨S4x1x1x16, .i32⟩
  | .local _ .smem, ⟨3, _⟩ => ⟨S4x1x1x16, .i32⟩
  | .local _ .smem, ⟨4, _⟩ => ⟨S1x1x1, .f32⟩
  | .local _ .smem, ⟨5, _⟩ => ⟨S1x1x1, .f32⟩
  | _, _ => ⟨S64x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg5_0 : Ref sig .tc := ⟨.smem, 4, rfl⟩
abbrev cc0_stg5_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S4x1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S4x1x1x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x4x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x21x8x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x8732x4 : Shape := ⟨3, ![64, 8732, 4]⟩
abbrev S64x8732x21 : Shape := ⟨3, ![64, 8732, 21]⟩
abbrev S64x16x4 : Shape := ⟨3, ![64, 16, 4]⟩
abbrev S64x16 : Shape := ⟨2, ![64, 16]⟩
abbrev S8732x4 : Shape := ⟨2, ![8732, 4]⟩
abbrev S8732x2 : Shape := ⟨2, ![8732, 2]⟩
abbrev S_ : Shape := ⟨0, ![]⟩
abbrev S64x16x2 : Shape := ⟨3, ![64, 16, 2]⟩
abbrev S64x16x1x2 : Shape := ⟨4, ![64, 16, 1, 2]⟩
abbrev S1x8732x2 : Shape := ⟨3, ![1, 8732, 2]⟩
abbrev S1x1x8732x2 : Shape := ⟨4, ![1, 1, 8732, 2]⟩
abbrev S64x16x8732x2 : Shape := ⟨4, ![64, 16, 8732, 2]⟩
abbrev S64x16x8732x1 : Shape := ⟨4, ![64, 16, 8732, 1]⟩
abbrev S64x16x8732 : Shape := ⟨3, ![64, 16, 8732]⟩
abbrev S64x16x1 : Shape := ⟨3, ![64, 16, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S64x8732 : Shape := ⟨2, ![64, 8732]⟩
abbrev S16x8732 : Shape := ⟨2, ![16, 8732]⟩
abbrev S64x1x8732 : Shape := ⟨3, ![64, 1, 8732]⟩
abbrev S1x16x8732 : Shape := ⟨3, ![1, 16, 8732]⟩
abbrev S64x8732x1 : Shape := ⟨3, ![64, 8732, 1]⟩
abbrev S64x8732x2 : Shape := ⟨3, ![64, 8732, 2]⟩
abbrev S64 : Shape := ⟨1, ![64]⟩
abbrev S64x8732x1x1 : Shape := ⟨4, ![64, 8732, 1, 1]⟩
abbrev S64x1 : Shape := ⟨2, ![64, 1]⟩

abbrev nBuf : Space → Nat
  | .hbm => 306
  | .vmem => 0
  | .smem => 0
  | _ => 0

abbrev hbmTy0_0 (i : Nat) : BufTy := match i % 128 with
  | 0 => ⟨S64x8732x4, .f32⟩
  | 1 => ⟨S64x8732x21, .f32⟩
  | 2 => ⟨S64x16x4, .f32⟩
  | 3 => ⟨S64x16, .i32⟩
  | 4 => ⟨S8732x4, .f32⟩
  | 5 => ⟨S8732x2, .f32⟩
  | 6 => ⟨S8732x2, .f32⟩
  | 7 => ⟨S_, .f32⟩
  | 8 => ⟨S8732x2, .f32⟩
  | 9 => ⟨S8732x2, .f32⟩
  | 10 => ⟨S8732x2, .f32⟩
  | 11 => ⟨S8732x2, .f32⟩
  | 12 => ⟨S8732x2, .f32⟩
  | 13 => ⟨S_, .f32⟩
  | 14 => ⟨S8732x2, .f32⟩
  | 15 => ⟨S8732x2, .f32⟩
  | 16 => ⟨S8732x2, .f32⟩
  | 17 => ⟨S8732x4, .f32⟩
  | 18 => ⟨S64x16x2, .f32⟩
  | 19 => ⟨S64x16x1x2, .f32⟩
  | 20 => ⟨S8732x2, .f32⟩
  | 21 => ⟨S1x8732x2, .f32⟩
  | 22 => ⟨S1x1x8732x2, .f32⟩
  | 23 => ⟨S64x16x8732x2, .f32⟩
  | 24 => ⟨S64x16x8732x2, .f32⟩
  | 25 => ⟨S64x16x8732x2, .f32⟩
  | 26 => ⟨S64x16x2, .f32⟩
  | 27 => ⟨S64x16x1x2, .f32⟩
  | 28 => ⟨S8732x2, .f32⟩
  | 29 => ⟨S1x8732x2, .f32⟩
  | 30 => ⟨S1x1x8732x2, .f32⟩
  | 31 => ⟨S64x16x8732x2, .f32⟩
  | 32 => ⟨S64x16x8732x2, .f32⟩
  | 33 => ⟨S64x16x8732x2, .f32⟩
  | 34 => ⟨S64x16x8732x2, .f32⟩
  | 35 => ⟨S_, .f32⟩
  | 36 => ⟨S_, .f32⟩
  | 37 => ⟨S64x16x8732x2, .f32⟩
  | 38 => ⟨S64x16x8732x2, .f32⟩
  | 39 => ⟨S64x16x8732x1, .f32⟩
  | 40 => ⟨S64x16x8732, .f32⟩
  | 41 => ⟨S64x16x8732x1, .f32⟩
  | 42 => ⟨S64x16x8732, .f32⟩
  | 43 => ⟨S64x16x8732, .f32⟩
  | 44 => ⟨S64x16x1, .f32⟩
  | 45 => ⟨S64x16, .f32⟩
  | 46 => ⟨S64x16x1, .f32⟩
  | 47 => ⟨S64x16, .f32⟩
  | 48 => ⟨S64x16, .f32⟩
  | 49 => ⟨S64x16x1, .f32⟩
  | 50 => ⟨S64x16, .f32⟩
  | 51 => ⟨S64x16x1, .f32⟩
  | 52 => ⟨S64x16, .f32⟩
  | 53 => ⟨S64x16, .f32⟩
  | 54 => ⟨S64x16, .f32⟩
  | 55 => ⟨S8732x1, .f32⟩
  | 56 => ⟨S8732, .f32⟩
  | 57 => ⟨S8732x1, .f32⟩
  | 58 => ⟨S8732, .f32⟩
  | 59 => ⟨S8732, .f32⟩
  | 60 => ⟨S8732x1, .f32⟩
  | 61 => ⟨S8732, .f32⟩
  | 62 => ⟨S8732x1, .f32⟩
  | 63 => ⟨S8732, .f32⟩
  | 64 => ⟨S8732, .f32⟩
  | 65 => ⟨S8732, .f32⟩
  | 66 => ⟨S64x16x1, .f32⟩
  | 67 => ⟨S1x8732, .f32⟩
  | 68 => ⟨S1x1x8732, .f32⟩
  | 69 => ⟨S64x16x8732, .f32⟩
  | 70 => ⟨S64x16x8732, .f32⟩
  | 71 => ⟨S64x16x8732, .f32⟩
  | 72 => ⟨S64x16x8732, .f32⟩
  | 73 => ⟨S64x16x8732, .f32⟩
  | 74 => ⟨S_, .f32⟩
  | 75 => ⟨S64x8732, .f32⟩
  | 76 => ⟨S16x8732, .i32⟩
  | 77 => ⟨S_, .f32⟩
  | 78 => ⟨S64x8732, .f32⟩
  | 79 => ⟨S64x1x8732, .f32⟩
  | 80 => ⟨S64x16x8732, .f32⟩
  | 81 => ⟨S64x16x8732, .i1⟩
  | 82 => ⟨S_, .i32⟩
  | 83 => ⟨S16x8732, .i32⟩
  | 84 => ⟨S64x16x8732, .i32⟩
  | 85 => ⟨S64x16x8732, .i32⟩
  | 86 => ⟨S64x16x8732, .i32⟩
  | 87 => ⟨S_, .i32⟩
  | 88 => ⟨S64x8732, .i32⟩
  | 89 => ⟨S16x8732, .i32⟩
  | 90 => ⟨S_, .f32⟩
  | 91 => ⟨S64x16, .f32⟩
  | 92 => ⟨S64x16x1, .f32⟩
  | 93 => ⟨S64x16x8732, .f32⟩
  | 94 => ⟨S64x16x8732, .i1⟩
  | 95 => ⟨S_, .i32⟩
  | 96 => ⟨S16x8732, .i32⟩
  | 97 => ⟨S64x16x8732, .i32⟩
  | 98 => ⟨S64x16x8732, .i32⟩
  | 99 => ⟨S64x16x8732, .i32⟩
  | 100 => ⟨S_, .i32⟩
  | 101 => ⟨S64x16, .i32⟩
  | 102 => ⟨S16x8732, .i32⟩
  | 103 => ⟨S64x16x1, .i32⟩
  | 104 => ⟨S16x8732, .i32⟩
  | 105 => ⟨S1x16x8732, .i32⟩
  | 106 => ⟨S64x16x8732, .i32⟩
  | 107 => ⟨S64x16x8732, .i32⟩
  | 108 => ⟨S64x16x8732, .i1⟩
  | 109 => ⟨S_, .i32⟩
  | 110 => ⟨S16x8732, .i32⟩
  | 111 => ⟨S64x16x8732, .i32⟩
  | 112 => ⟨S64x16x8732, .i32⟩
  | 113 => ⟨S64x16x8732, .i32⟩
  | 114 => ⟨S_, .i32⟩
  | 115 => ⟨S64x8732, .i32⟩
  | 116 => ⟨S_, .i32⟩
  | 117 => ⟨S64x8732, .i32⟩
  | 118 => ⟨S64x8732, .i1⟩
  | 119 => ⟨S64x8732, .i32⟩
  | 120 => ⟨S_, .i32⟩
  | 121 => ⟨S64x8732, .i32⟩
  | 122 => ⟨S64x8732, .i1⟩
  | 123 => ⟨S_, .f32⟩
  | 124 => ⟨S_, .f32⟩
  | 125 => ⟨S8732, .f32⟩
  | 126 => ⟨S64x8732, .f32⟩
  | 127 => ⟨S64x8732, .f32⟩
  | _ => ⟨S64x8732x4, .f32⟩

abbrev hbmTy0_1 (i : Nat) : BufTy := match i % 128 with
  | 0 => ⟨S_, .i32⟩
  | 1 => ⟨S64x8732, .i32⟩
  | 2 => ⟨S64x8732, .i1⟩
  | 3 => ⟨S_, .i32⟩
  | 4 => ⟨S64x8732, .i32⟩
  | 5 => ⟨S64x8732, .i32⟩
  | 6 => ⟨S64x8732, .i32⟩
  | 7 => ⟨S64x8732x1, .i32⟩
  | 8 => ⟨S64x8732, .i32⟩
  | 9 => ⟨S_, .f32⟩
  | 10 => ⟨S64x8732, .f32⟩
  | 11 => ⟨S64x8732, .i1⟩
  | 12 => ⟨S_, .i32⟩
  | 13 => ⟨S_, .i32⟩
  | 14 => ⟨S8732, .i32⟩
  | 15 => ⟨S64x8732, .i32⟩
  | 16 => ⟨S64x8732, .i32⟩
  | 17 => ⟨S_, .i32⟩
  | 18 => ⟨S64x8732, .i32⟩
  | 19 => ⟨S64x8732, .i1⟩
  | 20 => ⟨S_, .i32⟩
  | 21 => ⟨S64x8732, .i32⟩
  | 22 => ⟨S64x8732, .i32⟩
  | 23 => ⟨S64x8732, .i32⟩
  | 24 => ⟨S64x8732x1, .i32⟩
  | 25 => ⟨S64x8732x4, .f32⟩
  | 26 => ⟨S64x8732x2, .f32⟩
  | 27 => ⟨S64x8732x2, .f32⟩
  | 28 => ⟨S64x8732x2, .f32⟩
  | 29 => ⟨S_, .f32⟩
  | 30 => ⟨S64x8732x2, .f32⟩
  | 31 => ⟨S64x8732x2, .f32⟩
  | 32 => ⟨S64x8732x2, .f32⟩
  | 33 => ⟨S64x8732x2, .f32⟩
  | 34 => ⟨S64x8732x2, .f32⟩
  | 35 => ⟨S64x8732x4, .f32⟩
  | 36 => ⟨S64x8732x2, .f32⟩
  | 37 => ⟨S8732x2, .f32⟩
  | 38 => ⟨S1x8732x2, .f32⟩
  | 39 => ⟨S64x8732x2, .f32⟩
  | 40 => ⟨S64x8732x2, .f32⟩
  | 41 => ⟨S8732x2, .f32⟩
  | 42 => ⟨S_, .f32⟩
  | 43 => ⟨S8732x2, .f32⟩
  | 44 => ⟨S8732x2, .f32⟩
  | 45 => ⟨S1x8732x2, .f32⟩
  | 46 => ⟨S64x8732x2, .f32⟩
  | 47 => ⟨S64x8732x2, .f32⟩
  | 48 => ⟨S64x8732x2, .f32⟩
  | 49 => ⟨S8732x2, .f32⟩
  | 50 => ⟨S1x8732x2, .f32⟩
  | 51 => ⟨S64x8732x2, .f32⟩
  | 52 => ⟨S64x8732x2, .f32⟩
  | 53 => ⟨S64x8732x2, .f32⟩
  | 54 => ⟨S_, .f32⟩
  | 55 => ⟨S64x8732x2, .f32⟩
  | 56 => ⟨S64x8732x2, .f32⟩
  | 57 => ⟨S64x8732x4, .f32⟩
  | 58 => ⟨S_, .i32⟩
  | 59 => ⟨S64x8732, .i32⟩
  | 60 => ⟨S64x8732, .i1⟩
  | 61 => ⟨S64x8732, .i32⟩
  | 62 => ⟨S_, .i32⟩
  | 63 => ⟨S64, .i32⟩
  | 64 => ⟨S_, .i32⟩
  | 65 => ⟨S64, .i32⟩
  | 66 => ⟨S64, .i32⟩
  | 67 => ⟨S_, .f32⟩
  | 68 => ⟨S64x8732, .f32⟩
  | 69 => ⟨S_, .f32⟩
  | 70 => ⟨S64x8732, .f32⟩
  | 71 => ⟨S64x8732, .f32⟩
  | 72 => ⟨S64x8732x1, .f32⟩
  | 73 => ⟨S64x8732x21, .f32⟩
  | 74 => ⟨S64x8732x21, .f32⟩
  | 75 => ⟨S64x8732x21, .f32⟩
  | 76 => ⟨S_, .f32⟩
  | 77 => ⟨S64x8732, .f32⟩
  | 78 => ⟨S64x8732x1, .f32⟩
  | 79 => ⟨S64x8732x1, .f32⟩
  | 80 => ⟨S64x8732x21, .f32⟩
  | 81 => ⟨S64x8732x21, .f32⟩
  | 82 => ⟨S64x8732x1, .i32⟩
  | 83 => ⟨S_, .i32⟩
  | 84 => ⟨S64x8732x1, .i32⟩
  | 85 => ⟨S64x8732x1, .i1⟩
  | 86 => ⟨S_, .i32⟩
  | 87 => ⟨S64x8732x1, .i32⟩
  | 88 => ⟨S64x8732x1, .i32⟩
  | 89 => ⟨S64x8732x1, .i32⟩
  | 90 => ⟨S64x8732x1x1, .i32⟩
  | 91 => ⟨S64x8732x1, .f32⟩
  | 92 => ⟨S64x8732, .f32⟩
  | 93 => ⟨S64x8732, .f32⟩
  | 94 => ⟨S64x8732x4, .f32⟩
  | 95 => ⟨S64x8732x4, .f32⟩
  | 96 => ⟨S_, .f32⟩
  | 97 => ⟨S64x8732x4, .f32⟩
  | 98 => ⟨S64x8732x4, .i1⟩
  | 99 => ⟨S_, .f32⟩
  | 100 => ⟨S64x8732x4, .f32⟩
  | 101 => ⟨S64x8732x4, .f32⟩
  | 102 => ⟨S64x8732x4, .f32⟩
  | 103 => ⟨S_, .f32⟩
  | 104 => ⟨S64x8732x4, .f32⟩
  | 105 => ⟨S64x8732x4, .f32⟩
  | 106 => ⟨S64x8732x4, .f32⟩
  | 107 => ⟨S64x8732x1, .i1⟩
  | 108 => ⟨S64x8732x1, .f32⟩
  | 109 => ⟨S64x8732x4, .f32⟩
  | 110 => ⟨S64x8732x4, .f32⟩
  | 111 => ⟨S_, .f32⟩
  | 112 => ⟨S64, .f32⟩
  | 113 => ⟨S64x8732, .f32⟩
  | 114 => ⟨S64x8732, .f32⟩
  | 115 => ⟨S_, .f32⟩
  | 116 => ⟨S64, .f32⟩
  | 117 => ⟨S_, .f32⟩
  | 118 => ⟨S_, .f32⟩
  | 119 => ⟨S64x8732, .f32⟩
  | 120 => ⟨S64x8732, .f32⟩
  | 121 => ⟨S64x8732, .f32⟩
  | 122 => ⟨S64x8732, .f32⟩
  | 123 => ⟨S64x8732, .f32⟩
  | 124 => ⟨S_, .f32⟩
  | 125 => ⟨S64, .f32⟩
  | 126 => ⟨S_, .f32⟩
  | 127 => ⟨S64, .f32⟩
  | _ => ⟨S64x8732x4, .f32⟩

abbrev hbmTy0_2 (i : Nat) : BufTy := match i % 128 with
  | 0 => ⟨S64, .f32⟩
  | 1 => ⟨S8732, .i32⟩
  | 2 => ⟨S1x8732, .i32⟩
  | 3 => ⟨S64x1, .i32⟩
  | 4 => ⟨S64x8732, .i32⟩
  | 5 => ⟨S64x8732, .i32⟩
  | 6 => ⟨S64x8732, .i1⟩
  | 7 => ⟨S_, .f32⟩
  | 8 => ⟨S_, .f32⟩
  | 9 => ⟨S64x8732, .f32⟩
  | 10 => ⟨S64x8732, .f32⟩
  | 11 => ⟨S_, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64x1, .f32⟩
  | 26 => ⟨S64x8732, .f32⟩
  | 27 => ⟨S64x8732, .i1⟩
  | 28 => ⟨S_, .f32⟩
  | 29 => ⟨S_, .f32⟩
  | 30 => ⟨S64x8732, .f32⟩
  | 31 => ⟨S64x8732, .f32⟩
  | 32 => ⟨S_, .f32⟩
  | 33 => ⟨S64, .f32⟩
  | 34 => ⟨S64, .f32⟩
  | 35 => ⟨S64x8732, .i32⟩
  | 36 => ⟨S_, .i32⟩
  | 37 => ⟨S64, .i32⟩
  | 38 => ⟨S64, .f32⟩
  | 39 => ⟨S64, .f32⟩
  | 40 => ⟨S64, .f32⟩
  | 41 => ⟨S64, .f32⟩
  | 42 => ⟨S64, .f32⟩
  | 43 => ⟨S64, .f32⟩
  | 44 => ⟨S64, .f32⟩
  | 45 => ⟨S64, .f32⟩
  | 46 => ⟨S_, .f32⟩
  | 47 => ⟨S_, .f32⟩
  | 48 => ⟨S_, .f32⟩
  | 49 => ⟨S_, .f32⟩
  | _ => ⟨S64x8732x4, .f32⟩

abbrev hbmTy (i : Nat) : BufTy := match i / 128 with
  | 0 => hbmTy0_0 i
  | 1 => hbmTy0_1 i
  | 2 => hbmTy0_2 i
  | _ => ⟨S64x8732x4, .f32⟩

abbrev bufTy : (tb : Table) → Fin (tcTables nBuf tb) → BufTy
  | .hbm, ⟨i, _⟩ => hbmTy i
  | _, _ => ⟨S64x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_2 : Ref sig .tc := ⟨.hbm, 74, rfl⟩
abbrev main_v64 : Ref sig .tc := ⟨.hbm, 75, rfl⟩
abbrev main_v65 : Ref sig .tc := ⟨.hbm, 76, rfl⟩
abbrev main_cst_3 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_c : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_c_4 : Ref sig .tc := ⟨.hbm, 87, rfl⟩
abbrev main_v74 : Ref sig .tc := ⟨.hbm, 88, rfl⟩
abbrev main_v75 : Ref sig .tc := ⟨.hbm, 89, rfl⟩
abbrev main_cst_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_c_7 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_c_8 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_9 : Ref sig .tc := ⟨.hbm, 114, rfl⟩
abbrev main_v96 : Ref sig .tc := ⟨.hbm, 115, rfl⟩
abbrev main_c_10 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_c_11 : Ref sig .tc := ⟨.hbm, 120, rfl⟩
abbrev main_v100 : Ref sig .tc := ⟨.hbm, 121, rfl⟩
abbrev main_v101 : Ref sig .tc := ⟨.hbm, 122, rfl⟩
abbrev main_cst_12 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v102 : Ref sig .tc := ⟨.hbm, 127, rfl⟩
abbrev main_c_13 : Ref sig .tc := ⟨.hbm, 128, rfl⟩
abbrev main_v103 : Ref sig .tc := ⟨.hbm, 129, rfl⟩
abbrev main_v104 : Ref sig .tc := ⟨.hbm, 130, rfl⟩
abbrev main_c_14 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_15 : Ref sig .tc := ⟨.hbm, 137, rfl⟩
abbrev main_v110 : Ref sig .tc := ⟨.hbm, 138, rfl⟩
abbrev main_v111 : Ref sig .tc := ⟨.hbm, 139, rfl⟩
abbrev main_c_16 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v112 : Ref sig .tc := ⟨.hbm, 144, rfl⟩
abbrev main_c_17 : Ref sig .tc := ⟨.hbm, 145, rfl⟩
abbrev main_v113 : Ref sig .tc := ⟨.hbm, 146, rfl⟩
abbrev main_v114 : Ref sig .tc := ⟨.hbm, 147, rfl⟩
abbrev main_c_18 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_20 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_21 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_c_22 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_23 : Ref sig .tc := ⟨.hbm, 190, rfl⟩
abbrev main_v152 : Ref sig .tc := ⟨.hbm, 191, rfl⟩
abbrev main_c_24 : Ref sig .tc := ⟨.hbm, 192, rfl⟩
abbrev main_v153 : Ref sig .tc := ⟨.hbm, 193, rfl⟩
abbrev main_v154 : Ref sig .tc := ⟨.hbm, 194, rfl⟩
abbrev main_call4_cst : Ref sig .tc := ⟨.hbm, 195, rfl⟩
abbrev main_call4_v0 : Ref sig .tc := ⟨.hbm, 196, rfl⟩
abbrev main_call4_cst_0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_v6 : Ref sig .tc := ⟨.hbm, 203, rfl⟩
abbrev main_call4_cst_1 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_v155 : Ref sig .tc := ⟨.hbm, 209, rfl⟩
abbrev main_v156 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_25 : Ref sig .tc := ⟨.hbm, 224, rfl⟩
abbrev main_v162 : Ref sig .tc := ⟨.hbm, 225, rfl⟩
abbrev main_v163 : Ref sig .tc := ⟨.hbm, 226, rfl⟩
abbrev main_cst_26 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_27 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_28 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_29 : Ref sig .tc := ⟨.hbm, 243, rfl⟩
abbrev main_v177 : Ref sig .tc := ⟨.hbm, 244, rfl⟩
abbrev main_cst_30 : Ref sig .tc := ⟨.hbm, 245, rfl⟩
abbrev main_call7_v0 : Ref sig .tc := ⟨.hbm, 246, rfl⟩
abbrev main_call7_v1 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_31 : Ref sig .tc := ⟨.hbm, 252, rfl⟩
abbrev main_v182 : Ref sig .tc := ⟨.hbm, 253, rfl⟩
abbrev main_cst_32 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_cst_33 : Ref sig .tc := ⟨.hbm, 263, rfl⟩
abbrev main_call9_v0 : Ref sig .tc := ⟨.hbm, 264, rfl⟩
abbrev main_call9_v1 : Ref sig .tc := ⟨.hbm, 265, rfl⟩
abbrev main_v191 : Ref sig .tc := ⟨.hbm, 266, rfl⟩
abbrev main_cst_34 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_cst_35 : Ref sig .tc := ⟨.hbm, 271, rfl⟩
abbrev main_v195 : Ref sig .tc := ⟨.hbm, 272, rfl⟩
abbrev main_v196 : Ref sig .tc := ⟨.hbm, 273, rfl⟩
abbrev main_cst_36 : Ref sig .tc := ⟨.hbm, 274, rfl⟩
abbrev main_v197 : Ref sig .tc := ⟨.hbm, 275, rfl⟩
abbrev main_v198 : Ref sig .tc := ⟨.hbm, 276, rfl⟩
abbrev main_cst_37 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_cst_38 : Ref sig .tc := ⟨.hbm, 284, rfl⟩
abbrev main_call10_v0 : Ref sig .tc := ⟨.hbm, 285, rfl⟩
abbrev main_call10_v1 : Ref sig .tc := ⟨.hbm, 286, rfl⟩
abbrev main_v205 : Ref sig .tc := ⟨.hbm, 287, rfl⟩
abbrev main_cst_39 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_c_40 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_cst_41 : Ref sig .tc := ⟨.hbm, 302, rfl⟩
abbrev main_v218 : Ref sig .tc := ⟨.hbm, 303, rfl⟩
abbrev main_cst_42 : Ref sig .tc := ⟨.hbm, 304, rfl⟩
abbrev main_v219 : Ref sig .tc := ⟨.hbm, 305, rfl⟩

abbrev nD : Nat := 1
abbrev τ : Topo := Topo.v7x

variable {F : FTy → Type} [FloatOps F]
-- ==== Proof.Img.lean ====
/- One image of the kernel's body as a function of what it loads: the matching of priors to objects, the two losses and the
   six rounds of the hard-negative search, each loop a fold. -/
module

public import proofs.«01_k».proof.Proof.Gen.KernelIdeal.Skeleton

@[expose] public section

noncomputable section

namespace Cert.KernelIdeal.Img

open Idealize.ShloMosaic Cert.KernelIdeal Cert.KernelIdeal.Gen

variable {F : FTy → Type} [FloatOps F]

/-- A scalar constant, on every lane. -/
def cst (w : BitVec 32) : FVec F S8x1152 .f32 := broadcast S8x1152 (Scalar.ofBits .f32 w : F .f32)

/-- The sum, the greatest and (of words) the least lane. -/
def sumV (v : FVec F S8x1152 .f32) : F .f32 :=
  extractAt ![0, 0, 0] (shapeCast S1x1x1 (multiReduction .add [1, 2] S1 (shapeCast S1x8x1152 v shapeCasts_S8x1152_S1x8x1152)
    0x00000000#32 reduces_S1x8x1152_S1 (.inl rfl) rfl) shapeCasts_S1_S1x1x1) inpos_S1x1x1_p0_0_0
def maxV (v : FVec F S8x1152 .f32) : F .f32 :=
  extractAt ![0, 0, 0] (shapeCast S1x1x1 (multiReduction .maximumf [1, 2] S1 (shapeCast S1x8x1152 v shapeCasts_S8x1152_S1x8x1152)
    0xFF800000#32 reduces_S1x8x1152_S1 (.inl rfl) rfl) shapeCasts_S1_S1x1x1) inpos_S1x1x1_p0_0_0
def minI (v : IVec S8x1152 32) : BitVec 32 :=
  extractAt ![0, 0, 0] (shapeCast S1x1x1 (multiReductionI .minsi [1, 2] S1 (shapeCast S1x8x1152 v shapeCasts_S8x1152_S1x8x1152)
    2147483647#32 reduces_S1x8x1152_S1 rfl) shapeCasts_S1_S1x1x1) inpos_S1x1x1_p0_0_0

/-- A condition's lanes as 0 and 1. -/
def ind (b : IVec S8x1152 1) : FVec F S8x1152 .f32 := sitofp .f32 (extui 32 b natLt_1_32)

/-- The priors: centres and extents as loaded. -/
structure Pri (F : FTy → Type) where
  cx : FVec F S8x1152 .f32
  cy : FVec F S8x1152 .f32
  w : FVec F S8x1152 .f32
  h : FVec F S8x1152 .f32

namespace Pri
variable (p : Pri F)
def x0 : FVec F S8x1152 .f32 := subf p.cx (mulf p.w (cst 0x3F000000#32))
def y0 : FVec F S8x1152 .f32 := subf p.cy (mulf p.h (cst 0x3F000000#32))
def x1 : FVec F S8x1152 .f32 := addf p.cx (mulf p.w (cst 0x3F000000#32))
def y1 : FVec F S8x1152 .f32 := addf p.cy (mulf p.h (cst 0x3F000000#32))
def area : FVec F S8x1152 .f32 := mulf (subf p.x1 p.x0) (subf p.y1 p.y0)
end Pri

/-- The lane's number, and whether it is a prior's. -/
def lane : IVec S8x1152 32 :=
  addi (muli (iota .tc S8x1152 32 [0] iota_S8x1152_d0_w32) (broadcast S8x1152 1152#32)) (iota .tc S8x1152 32 [1] iota_S8x1152_d1_w32)
def valid : IVec S8x1152 1 := cmpi .slt lane (broadcast S8x1152 8732#32)

/-- The overlap of one box with every prior. -/
def inter (p : Pri F) (b : Fin 4 → F .f32) : FVec F S8x1152 .f32 :=
  mulf (maximumf (cst 0x00000000#32) (subf (minimumf (broadcast S8x1152 (b 2)) p.x1) (maximumf (broadcast S8x1152 (b 0)) p.x0)))
    (maximumf (cst 0x00000000#32) (subf (minimumf (broadcast S8x1152 (b 3)) p.y1) (maximumf (broadcast S8x1152 (b 1)) p.y0)))
def iou (p : Pri F) (b : Fin 4 → F .f32) : FVec F S8x1152 .f32 :=
  divf (inter p b) (subf (addf (broadcast S8x1152 (Scalar.mulf (Scalar.subf (b 2) (b 0)) (Scalar.subf (b 3) (b 1)))) p.area) (inter p b))

/-- The first lane at which an overlap is greatest. -/
def firstBest (o : FVec F S8x1152 .f32) : BitVec 32 :=
  minI (select (cmpf .oeq o (broadcast S8x1152 (maxV o))) lane (broadcast S8x1152 8732#32))

/-- What a lane holds while the objects are gone through: the greatest overlap so far and its object's label and box. -/
structure St (F : FTy → Type) where
  best : FVec F S8x1152 .f32
  lab : IVec S8x1152 32
  g : Fin 4 → FVec F S8x1152 .f32

def St.init : St F := ⟨cst 0xBF800000#32, broadcast S8x1152 0#32, fun _ => cst 0x00000000#32⟩

def St.step (o : FVec F S8x1152 .f32) (l : BitVec 32) (b : Fin 4 → F .f32) (s : St F) : St F :=
  ⟨select (cmpf .ogt o s.best) o s.best, select (cmpf .ogt o s.best) (broadcast S8x1152 l) s.lab,
    fun c => select (cmpf .ogt o s.best) (broadcast S8x1152 (b c)) (s.g c)⟩

/-- The label is dropped where the overlap is below one half. -/
def St.cut (s : St F) : St F :=
  ⟨s.best, select (cmpf .olt s.best (cst 0x3F000000#32)) (broadcast S8x1152 0#32) s.lab, s.g⟩

/-- The lane an object claims takes its label and box. -/
def St.claim (q : BitVec 32) (l : BitVec 32) (b : Fin 4 → F .f32) (s : St F) : St F :=
  ⟨s.best, select (cmpi .eq lane (broadcast S8x1152 q)) (broadcast S8x1152 l) s.lab,
    fun c => select (cmpi .eq lane (broadcast S8x1152 q)) (broadcast S8x1152 (b c)) (s.g c)⟩

def objs : List (Fin 16) := [0, 1, 2, 3, 4, 5, 6, 7, 8, 9, 10, 11, 12, 13, 14, 15]

/-- The matching: every object in turn, the cut, then every object's claim in turn. -/
def matched (p : Pri F) (bx : Fin 16 → Fin 4 → F .f32) (lb : Fin 16 → BitVec 32) : St F :=
  objs.foldl (fun s j => s.claim (firstBest (iou p (bx j))) (lb j) (bx j))
    (objs.foldl (fun s j => s.step (iou p (bx j)) (lb j) (bx j)) St.init).cut

/-- The location target's four coordinates. -/
def target (p : Pri F) (g : Fin 4 → FVec F S8x1152 .f32) (c : Fin 4) : FVec F S8x1152 .f32 :=
  match c with
  | 0 => divf (subf (mulf (addf (g 0) (g 2)) (cst 0x3F000000#32)) p.cx) (divf p.w (cst 0x41200000#32))
  | 1 => divf (subf (mulf (addf (g 1) (g 3)) (cst 0x3F000000#32)) p.cy) (divf p.h (cst 0x41200000#32))
  | 2 => mulf (log (divf (subf (g 2) (g 0)) p.w)) (cst 0x40A00000#32)
  | 3 => mulf (log (divf (subf (g 3) (g 1)) p.h)) (cst 0x40A00000#32)

/-- The smooth L1 loss of one coordinate. -/
def smooth (x t : FVec F S8x1152 .f32) : FVec F S8x1152 .f32 :=
  select (cmpf .olt (absf (subf x t)) (cst 0x3F800000#32))
    (mulf (mulf (cst 0x3F000000#32) (absf (subf x t))) (absf (subf x t))) (subf (absf (subf x t)) (cst 0x3F000000#32))

def smoothAll (p : Pri F) (g lc : Fin 4 → FVec F S8x1152 .f32) : FVec F S8x1152 .f32 :=
  [(0 : Fin 4), 1, 2, 3].foldl (fun a c => addf a (smooth (lc c) (target p g c))) (cst 0x00000000#32)

/-- The greatest class score, and the confidence loss: log of the sum of exponentials less the label's shifted score. -/
def topScore (sc : Fin 21 → FVec F S8x1152 .f32) : FVec F S8x1152 .f32 :=
  [(1 : Fin 21), 2, 3, 4, 5, 6, 7, 8, 9, 10, 11, 12, 13, 14, 15, 16, 17, 18, 19, 20].foldl (fun a c => maximumf a (sc c)) (sc 0)

def classes : List (Fin 21 × BitVec 32) :=
  [(0, 0#32), (1, 1#32), (2, 2#32), (3, 3#32), (4, 4#32), (5, 5#32), (6, 6#32), (7, 7#32), (8, 8#32), (9, 9#32), (10, 10#32),
   (11, 11#32), (12, 12#32), (13, 13#32), (14, 14#32), (15, 15#32), (16, 16#32), (17, 17#32), (18, 18#32), (19, 19#32), (20, 20#32)]

def sumExp (sc : Fin 21 → FVec F S8x1152 .f32) : FVec F S8x1152 .f32 :=
  classes.foldl (fun a c => addf a (exp (subf (sc c.1) (topScore sc)))) (cst 0x00000000#32)

def picked (lab : IVec S8x1152 32) (sc : Fin 21 → FVec F S8x1152 .f32) : FVec F S8x1152 .f32 :=
  classes.foldl (fun a c => select (cmpi .eq lab (broadcast S8x1152 c.2)) (subf (sc c.1) (topScore sc)) a) (cst 0x00000000#32)

def conf (lab : IVec S8x1152 32) (sc : Fin 21 → FVec F S8x1152 .f32) : FVec F S8x1152 .f32 := subf (log (sumExp sc)) (picked lab sc)

def pos (lab : IVec S8x1152 32) : IVec S8x1152 1 := cmpi .ne lab (broadcast S8x1152 0#32)

/-- The loss of the lanes that may be mined. -/
def negv (lab : IVec S8x1152 32) (sc : Fin 21 → FVec F S8x1152 .f32) : FVec F S8x1152 .f32 :=
  select (ori (pos lab) (xori valid (constantI S8x1152 1 1#1))) (cst 0x00000000#32) (conf lab sc)

/-- How many lanes exceed a value. -/
def countAbove (n : FVec F S8x1152 .f32) (x : F .f32) : F .f32 := sumV (ind (cmpf .ogt n (broadcast S8x1152 x)))

/-- One round: the eighth of the interval, and how many of the seven inner marks still have more than `k` lanes above. -/
def eighths : List (BitVec 32) := [0x3F800000#32, 0x40000000#32, 0x40400000#32, 0x40800000#32, 0x40A00000#32, 0x40C00000#32, 0x40E00000#32]

def width (lo hi : F .f32) : F .f32 := Scalar.mulf (Scalar.subf hi lo) (Scalar.ofBits .f32 0x3E000000#32)

def steps (n : FVec F S8x1152 .f32) (k lo w : F .f32) : F .f32 :=
  eighths.foldl (fun s i => Scalar.addf s (Scalar.sitofp .f32 (Scalar.extui
    (Scalar.cmpf .ogt (countAbove n (Scalar.addf lo (Scalar.mulf w (Scalar.ofBits .f32 i)))) k) : BitVec 32))) (Scalar.ofBits .f32 0x00000000#32)

def round (n : FVec F S8x1152 .f32) (k : F .f32) (i : F .f32 × F .f32) : F .f32 × F .f32 :=
  (Scalar.addf i.1 (Scalar.mulf (width i.1 i.2) (steps n k i.1 (width i.1 i.2))),
   Scalar.addf (Scalar.addf i.1 (Scalar.mulf (width i.1 i.2) (steps n k i.1 (width i.1 i.2)))) (width i.1 i.2))

def interval (n : FVec F S8x1152 .f32) (k : F .f32) : F .f32 × F .f32 :=
  [(), (), (), (), (), ()].foldl (fun i _ => round n k i) (Scalar.ofBits .f32 0x00000000#32, maxV n)

def cutoff (n : FVec F S8x1152 .f32) (k : F .f32) : F .f32 :=
  Scalar.mulf (Scalar.ofBits .f32 0x3F000000#32) (Scalar.addf (interval n k).1 (interval n k).2)

/-- The mined part of the confidence loss. -/
def mined (n : FVec F S8x1152 .f32) (k : F .f32) : F .f32 :=
  Scalar.addf (sumV (select (cmpf .ogt n (broadcast S8x1152 (cutoff n k))) n (cst 0x00000000#32)))
    (Scalar.mulf (Scalar.subf k (countAbove n (cutoff n k))) (cutoff n k))

/-- The loss of an image whose lanes are labelled `lab` and matched to the boxes `g`. -/
def lossOf (p : Pri F) (lab : IVec S8x1152 32) (g lc : Fin 4 → FVec F S8x1152 .f32) (sc : Fin 21 → FVec F S8x1152 .f32) : F .f32 :=
  Scalar.divf (Scalar.addf (Scalar.addf (sumV (mulf (conf lab sc) (ind (pos lab))))
      (mined (negv lab sc) (Scalar.mulf (sumV (ind (pos lab))) (Scalar.ofBits .f32 0x40400000#32))))
      (sumV (mulf (smoothAll p g lc) (ind (pos lab)))))
    (sumV (ind (pos lab)))

/-- The loss of one image. -/
def loss (p : Pri F) (bx : Fin 16 → Fin 4 → F .f32) (lb : Fin 16 → BitVec 32) (lc : Fin 4 → FVec F S8x1152 .f32) (sc : Fin 21 → FVec F S8x1152 .f32) : F .f32 :=
  lossOf p (matched p bx lb).lab (matched p bx lb).g lc sc

end Cert.KernelIdeal.Img

end
-- ==== Proof.Mine.lean ====
/- The search for the cutoff: eight-fold subdivision of `[0, M]`, keeping the part at whose left end more than `k` of the
   values still lie above; and the cell it ends in, read off the `k`-th greatest value. -/
module

public import Idealize.ShloMosaic.PureOps.Ideal.Laws

@[expose] public section

namespace Cert.Mine

variable {ι : Type} [Fintype ι] (v : ι → ℝ) (M : ℝ) (k : ℕ)

open Classical in
/-- How many values exceed `x`. -/
noncomputable def cnt (x : ℝ) : ℕ := (Finset.univ.filter fun p => x < v p).card

theorem cnt_anti {x y : ℝ} (h : x ≤ y) : cnt v y ≤ cnt v x := by
  classical
  refine Finset.card_le_card fun p hp => ?_
  simp only [Finset.mem_filter, Finset.mem_univ, true_and] at hp ⊢
  exact lt_of_le_of_lt h hp

/-- `d` is the last of the marks `M i / 8^r` with more than `k` values above. -/
def Inv (r d : ℕ) : Prop := d < 8 ^ r ∧ ∀ i : ℕ, 0 < i → i < 8 ^ r → (i ≤ d ↔ k < cnt v (M * i / 8 ^ r))

open Classical in
/-- How many of a cell's seven inner marks have more than `k` values above. -/
noncomputable def inner (r d : ℕ) : ℕ :=
  ((Finset.range 7).filter fun i => k < cnt v (M * ((8 * d + (i + 1) : ℕ) : ℝ) / 8 ^ (r + 1))).card

theorem card_filter_le (P : ℕ → Prop) [DecidablePred P] (hP : ∀ i j, i ≤ j → P j → P i) (n : ℕ) (i : ℕ) (hi : i < n) :
    i < ((Finset.range n).filter P).card ↔ P i := by
  constructor
  · intro h
    by_contra hn
    have : (Finset.range n).filter P ⊆ Finset.range i := by
      intro j hj
      simp only [Finset.mem_filter, Finset.mem_range] at hj ⊢
      by_contra hc
      exact hn (hP i j (not_lt.mp hc) hj.2)
    have := Finset.card_le_card this
    rw [Finset.card_range] at this
    omega
  · intro h
    have : Finset.range (i + 1) ⊆ (Finset.range n).filter P := by
      intro j hj
      simp only [Finset.mem_filter, Finset.mem_range] at hj ⊢
      exact ⟨by omega, hP j i (by omega) h⟩
    have := Finset.card_le_card this
    rw [Finset.card_range] at this
    omega

theorem inner_le (r d : ℕ) : inner v M k r d ≤ 7 := by
  have := Finset.card_filter_le (Finset.range 7) (fun i => k < cnt v (M * ((8 * d + (i + 1) : ℕ) : ℝ) / 8 ^ (r + 1)))
  rw [Finset.card_range] at this
  unfold inner
  convert this

theorem inv_step (hM : 0 ≤ M) (r d : ℕ) (h : Inv v M k r d) : Inv v M k (r + 1) (8 * d + inner v M k r d) := by
  classical
  obtain ⟨hd, hi⟩ := h
  have hs := inner_le v M k r d
  have e8 : (8 : ℕ) ^ (r + 1) = 8 * 8 ^ r := by rw [pow_succ]; ring
  have mono : ∀ i j : ℕ, i ≤ j → k < cnt v (M * (j : ℝ) / 8 ^ (r + 1)) → k < cnt v (M * (i : ℝ) / 8 ^ (r + 1)) := by
    intro i j hij hj
    refine lt_of_lt_of_le hj (cnt_anti v ?_)
    have : (i : ℝ) ≤ j := by exact_mod_cast hij
    gcongr
  have scale : ∀ i : ℕ, M * ((8 * i : ℕ) : ℝ) / 8 ^ (r + 1) = M * (i : ℝ) / 8 ^ r := by
    intro i; push_cast; rw [pow_succ]; field_simp
  refine ⟨by omega, fun j hj hj8 => ?_⟩
  by_cases h1 : j ≤ 8 * d
  · refine ⟨fun _ => ?_, fun _ => by omega⟩
    have hd0 : 0 < d := by omega
    refine mono j (8 * d) h1 ?_
    rw [scale]
    exact (hi d hd0 hd).mp le_rfl
  · by_cases h2 : 8 * (d + 1) ≤ j
    · refine ⟨fun hh => by omega, fun hh => ?_⟩
      exfalso
      have h3 := mono (8 * (d + 1)) j h2 hh
      rw [scale] at h3
      have := (hi (d + 1) (by omega) (by omega)).mpr h3
      omega
    · obtain ⟨i, rfl⟩ : ∃ i, j = 8 * d + (i + 1) := ⟨j - 8 * d - 1, by omega⟩
      have hi7 : i < 7 := by omega
      have := card_filter_le (fun i => k < cnt v (M * ((8 * d + (i + 1) : ℕ) : ℝ) / 8 ^ (r + 1)))
        (fun a b hab => mono _ _ (by omega)) 7 i hi7
      rw [← this]
      unfold inner
      constructor
      · intro hh; have := Nat.lt_of_succ_le (Nat.le_of_add_le_add_left hh); convert this
      · intro hh
        have : i + 1 ≤ ((Finset.range 7).filter fun i => k < cnt v (M * ((8 * d + (i + 1) : ℕ) : ℝ) / 8 ^ (r + 1))).card := hh
        omega

theorem inv_zero : Inv v M k 0 0 := ⟨by norm_num, fun i h0 h1 => by rw [pow_zero] at h1; omega⟩

/-- The cell after `r` rounds. -/
noncomputable def cellAt : ℕ → ℕ
  | 0 => 0
  | r + 1 => 8 * cellAt r + inner v M k r (cellAt r)

theorem inv_cellAt (hM : 0 ≤ M) : ∀ r, Inv v M k r (cellAt v M k r)
  | 0 => inv_zero v M k
  | r + 1 => inv_step v M k hM r _ (inv_cellAt hM r)

/-- The cell, read off a value `t` that more than `k` values exceed exactly where `x < t`. -/
theorem cellAt_eq (hM : 0 < M) (t : ℝ) (ht0 : 0 ≤ t) (htM : t ≤ M) (ht : ∀ x, 0 ≤ x → (k < cnt v x ↔ x < t)) (r : ℕ) :
    max ((⌈t / (M / 8 ^ r)⌉ : ℝ) - 1) 0 = (cellAt v M k r : ℝ) := by
  obtain ⟨hd, hi⟩ := inv_cellAt v M k hM.le r
  set d := cellAt v M k r
  have h8 : (0 : ℝ) < 8 ^ r := by positivity
  have hup : t / (M / 8 ^ r) ≤ d + 1 := by
    rw [div_le_iff₀ (by positivity)]
    by_cases hlast : d + 1 < 8 ^ r
    · have h1 := (hi (d + 1) (by omega) hlast).not.mp (by omega)
      rw [ht _ (by positivity), not_lt] at h1
      calc t ≤ _ := h1
        _ = _ := by push_cast; ring
    · have : (d : ℝ) + 1 = 8 ^ r := by
        have : d + 1 = 8 ^ r := by omega
        exact_mod_cast this
      rw [this, mul_div_cancel₀ _ h8.ne']; exact htM
  by_cases hd0 : d = 0
  · rw [hd0]
    have : (⌈t / (M / 8 ^ r)⌉ : ℝ) ≤ 1 := by
      have : ⌈t / (M / 8 ^ r)⌉ ≤ 1 := Int.ceil_le.mpr (by rw [hd0] at hup; push_cast at hup ⊢; linarith)
      exact_mod_cast this
    rw [max_eq_right (by linarith)]; simp
  · have h1 := (hi d (by omega) hd).mp le_rfl
    rw [ht _ (by positivity)] at h1
    have hlo : (d : ℝ) < t / (M / 8 ^ r) := by
      rw [lt_div_iff₀ (by positivity)]
      calc (d : ℝ) * (M / 8 ^ r) = M * d / 8 ^ r := by ring
        _ < t := h1
    have : ⌈t / (M / 8 ^ r)⌉ = (d : ℤ) + 1 := by
      rw [Int.ceil_eq_iff]; push_cast; exact ⟨by linarith, by linarith⟩
    rw [this]; push_cast
    rw [max_eq_left (by simp)]; ring

/-- More than `k` values exceed `x` exactly where `x` lies below the `k`-th of them in descending order. -/
theorem cnt_iff_sorted {n : ℕ} (v : Fin n → ℝ) (e : Equiv.Perm (Fin n)) (he : ∀ a b, a ≤ b → v (e b) ≤ v (e a)) (k : ℕ) (hk : k < n)
    (x : ℝ) : k < cnt v x ↔ x < v (e ⟨k, hk⟩) := by
  classical
  have hc : cnt v x = (Finset.univ.filter fun p => x < v (e p)).card := by
    unfold cnt
    symm
    rw [← Finset.card_map e.toEmbedding]
    congr 1
    ext p
    simp only [Finset.mem_filter, Finset.mem_univ, true_and, Finset.mem_map, Equiv.coe_toEmbedding]
    exact ⟨fun ⟨q, hq, hp⟩ => hp ▸ hq, fun h => ⟨e.symm p, by simpa using h, by simp⟩⟩
  rw [hc]
  constructor
  · intro h
    by_contra hn
    have : (Finset.univ.filter fun p => x < v (e p)) ⊆ Finset.univ.filter fun p : Fin n => p.val < k := by
      intro p hp
      simp only [Finset.mem_filter, Finset.mem_univ, true_and] at hp ⊢
      by_contra hc
      exact hn (lt_of_lt_of_le hp (he ⟨k, hk⟩ p (Fin.mk_le_of_le_val (not_lt.mp hc))))
    have := Finset.card_le_card this
    have hcard : (Finset.univ.filter fun p : Fin n => p.val < k).card ≤ k := by
      calc _ = ((Finset.univ.filter fun p : Fin n => p.val < k).map Fin.valEmbedding).card := (Finset.card_map _).symm
        _ ≤ (Finset.range k).card := Finset.card_le_card (by
            intro j hj
            simp only [Finset.mem_map, Finset.mem_filter, Finset.mem_univ, true_and, Fin.valEmbedding_apply] at hj
            obtain ⟨q, hq, rfl⟩ := hj
            exact Finset.mem_range.mpr hq)
        _ = k := Finset.card_range k
    omega
  · intro h
    have : (Finset.univ.filter fun p : Fin n => p.val ≤ k) ⊆ Finset.univ.filter fun p => x < v (e p) := by
      intro p hp
      simp only [Finset.mem_filter, Finset.mem_univ, true_and] at hp ⊢
      exact lt_of_lt_of_le h (he p ⟨k, hk⟩ (Fin.le_def.mpr hp))
    have := Finset.card_le_card this
    have hcard : k + 1 ≤ (Finset.univ.filter fun p : Fin n => p.val ≤ k).card := by
      calc k + 1 = (Finset.univ : Finset (Fin (k + 1))).card := by simp
        _ = ((Finset.univ : Finset (Fin (k + 1))).map (Fin.castLEEmb (Nat.succ_le_of_lt hk))).card := (Finset.card_map _).symm
        _ ≤ _ := Finset.card_le_card (by
            intro j hj
            simp only [Finset.mem_map, Finset.mem_univ, true_and] at hj
            obtain ⟨q, rfl⟩ := hj
            simp only [Finset.mem_filter, Finset.mem_univ, true_and, Fin.castLEEmb_apply, Fin.val_castLE]
            omega)
    omega

end Cert.Mine
end
-- ==== Proof.Spec.lean ====
/- The loss of one image over the extended reals: the matching of priors to objects, the two losses and the mined part, as
   both programs are shown to compute it. -/
module

public import Idealize.ShloMosaic.Lib.IdealHost
public import proofs.«01_k».proof.Proof.Mine

@[expose] public section

noncomputable section

namespace Cert.Spec

open Idealize.ShloMosaic

/-- The number a pattern of bits stands for. -/
abbrev lit (w : BitVec 32) : EReal := Ideal.ofBits .f32 w

/-- A prior's or a box's corners from its centre and extents. -/
def corner (q : Fin 4 → EReal) : Fin 4 → EReal
  | 0 => q 0 - Ideal.div (q 2) (lit 0x40000000#32)
  | 1 => q 1 - Ideal.div (q 3) (lit 0x40000000#32)
  | 2 => q 0 + Ideal.div (q 2) (lit 0x40000000#32)
  | 3 => q 1 + Ideal.div (q 3) (lit 0x40000000#32)

def inter (b c : Fin 4 → EReal) : EReal :=
  max 0 (min (b 2) (c 2) - max (b 0) (c 0)) * max 0 (min (b 3) (c 3) - max (b 1) (c 1))
def area (c : Fin 4 → EReal) : EReal := (c 2 - c 0) * (c 3 - c 1)
def iou (b c : Fin 4 → EReal) : EReal := Ideal.div (inter b c) (area b + area c - inter b c)

/-- `q` is the least index at which `f` is greatest. -/
def IsFirst {n : ℕ} (f : Fin n → EReal) (q : Fin n) : Prop := (∀ k, f k ≤ f q) ∧ ∀ k, k < q → f k < f q

theorem exists_first {n : ℕ} [NeZero n] (f : Fin n → EReal) : ∃ q, IsFirst f q := by
  classical
  obtain ⟨m, -, hm⟩ := Finset.exists_max_image (Finset.univ : Finset (Fin n)) f ⟨0, Finset.mem_univ _⟩
  have hne : (Finset.univ.filter fun q => f q = f m).Nonempty := ⟨m, by simp⟩
  refine ⟨(Finset.univ.filter fun q => f q = f m).min' hne, ?_, ?_⟩
  · have := (Finset.mem_filter.mp ((Finset.univ.filter fun q => f q = f m).min'_mem hne)).2
    intro k; rw [this]; exact hm k (Finset.mem_univ _)
  · have := (Finset.mem_filter.mp ((Finset.univ.filter fun q => f q = f m).min'_mem hne)).2
    intro k hk
    rw [this]
    refine lt_of_le_of_ne (hm k (Finset.mem_univ _)) fun he => ?_
    exact absurd (Finset.min'_le _ k (Finset.mem_filter.mpr ⟨Finset.mem_univ _, he⟩)) (not_le.mpr hk)

/-- The least index at which `f` is greatest. -/
def first {n : ℕ} [NeZero n] (f : Fin n → EReal) : Fin n := (exists_first f).choose
theorem first_spec {n : ℕ} [NeZero n] (f : Fin n → EReal) : IsFirst f (first f) := (exists_first f).choose_spec

theorem IsFirst.unique {n : ℕ} {f : Fin n → EReal} {p q : Fin n} (hp : IsFirst f p) (hq : IsFirst f q) : p = q := by
  rcases lt_trichotomy p q with h | h | h
  · exact absurd (hq.2 p h) (not_lt.mpr (hp.1 q))
  · exact h
  · exact absurd (hp.2 q h) (not_lt.mpr (hq.1 p))

theorem IsFirst.eq {n : ℕ} [NeZero n] {f : Fin n → EReal} {p : Fin n} (hp : IsFirst f p) : first f = p :=
  (first_spec f).unique hp

section
variable {n : ℕ} [NeZero n] (o : Fin 16 → Fin n → EReal)

/-- The objects whose first best prior is `p`. -/
def claimers (p : Fin n) : Finset (Fin 16) := Finset.univ.filter fun j => first (o j) = p

open Classical in
/-- The object a prior is matched to: the greatest that claims it, or else the first it overlaps most. -/
def obj (p : Fin n) : Fin 16 :=
  if h : (claimers o p).Nonempty then (claimers o p).max' h else first fun j => o j p

open Classical in
/-- Its label, 0 where the prior is neither claimed nor overlapped by at least one half. -/
def label (lb : Fin 16 → BitVec 32) (p : Fin n) : BitVec 32 :=
  if (claimers o p).Nonempty ∨ ¬ o (first fun j => o j p) p < lit 0x3F000000#32 then lb (obj o p) else 0
end

/-- The location target. -/
def target (q b : Fin 4 → EReal) : Fin 4 → EReal
  | 0 => Ideal.div (Ideal.div (b 0 + b 2) (lit 0x40000000#32) - q 0) (Ideal.div (q 2) (lit 0x41200000#32))
  | 1 => Ideal.div (Ideal.div (b 1 + b 3) (lit 0x40000000#32) - q 1) (Ideal.div (q 3) (lit 0x41200000#32))
  | 2 => Ideal.log (Ideal.div (b 2 - b 0) (q 2)) * lit 0x40A00000#32
  | 3 => Ideal.log (Ideal.div (b 3 - b 1) (q 3)) * lit 0x40A00000#32

/-- A magnitude, and the smooth L1 loss. -/
def mag (x : EReal) : EReal := max x (-x)
open Classical in
def smooth (x t : EReal) : EReal :=
  if mag (x - t) < lit 0x3F800000#32 then lit 0x3F000000#32 * mag (x - t) * mag (x - t) else mag (x - t) - lit 0x3F000000#32

/-- The greatest score, and the confidence loss of a class. -/
def top (s : Fin 21 → EReal) : EReal := Finset.univ.fold max (lit 0xFF800000#32) s
def conf (s : Fin 21 → EReal) (c : Fin 21) : EReal := -(s c - top s - Ideal.log (0 + ∑ k, Ideal.exp (s k - top s)))

/-- The class of a label's word. -/
def cls (l : BitVec 32) : Fin 21 := ⟨min l.toInt.toNat 20, by omega⟩

open Classical in
def ind (l : BitVec 32) : EReal := if l ≠ 0 then 1 else 0

section
variable (r : Fin 8732 → ℝ) (k : ℕ)
/-- The greatest value, the cutoff of the mining, and the mined sum. -/
def greatest : ℝ := Finset.univ.sup' ⟨0, Finset.mem_univ _⟩ r
def cutoff : ℝ := ((Mine.cellAt r (greatest r) k 6 : ℝ) + 1 / 2) * (greatest r / 262144)
open Classical in
def mined : ℝ := (∑ p, if cutoff r k < r p then r p else 0) + ((k : ℝ) - (Mine.cnt r (cutoff r k) : ℝ)) * cutoff r k
end

section
variable (pr : Fin 8732 → Fin 4 → EReal) (bx : Fin 16 → Fin 4 → EReal) (lb : Fin 16 → BitVec 32) (lc : Fin 8732 → Fin 4 → EReal)
  (sc : Fin 8732 → Fin 21 → EReal)

def ov (j : Fin 16) (p : Fin 8732) : EReal := iou (bx j) (corner (pr p))
def lab (p : Fin 8732) : BitVec 32 := label (ov pr bx) lb p
def confAt (p : Fin 8732) : EReal := conf (sc p) (cls (lab pr bx lb p))
open Classical in
def neg (p : Fin 8732) : EReal := if lab pr bx lb p ≠ 0 then 0 else confAt pr bx lb sc p
open Classical in
def npos : ℕ := (Finset.univ.filter fun p => lab pr bx lb p ≠ 0).card
def locAt (p : Fin 8732) : EReal := ∑ c, smooth (lc p c) (target (pr p) (bx (obj (ov pr bx) p)) c)

/-- The loss of one image. -/
def loss : EReal :=
  Ideal.div (∑ p, confAt pr bx lb sc p * ind (lab pr bx lb p)
      + ((mined (fun p => (neg pr bx lb sc p).toReal) (npos pr bx lb * 3) : ℝ) : EReal)
      + ∑ p, locAt pr bx lc p * ind (lab pr bx lb p))
    ((npos pr bx lb : ℝ) : EReal)
end

end Cert.Spec

end
-- ==== Proof.Fold.lean ====
/- A running choice over a list of indices: what a strict comparison keeps, and what an overwriting leaves. -/
module

public import proofs.«01_k».proof.Proof.Spec

@[expose] public section

namespace Cert.Fold

open Cert.Spec

variable {n : ℕ} {α : Type}

open Classical in
/-- Going through `l` in order with a strict comparison: either nothing exceeds the start, or the first greatest is kept. -/
theorem best (o : Fin n → EReal) (f : Fin n → α) (b0 : EReal) (a0 : α) (l : List (Fin n)) (hl : l.Pairwise (· < ·)) :
    (l.foldl (fun s j => if s.1 < o j then (o j, f j) else s) (b0, a0) = (b0, a0) ∧ ∀ j ∈ l, o j ≤ b0)
    ∨ ∃ j ∈ l, l.foldl (fun s j => if s.1 < o j then (o j, f j) else s) (b0, a0) = (o j, f j) ∧ b0 < o j
        ∧ (∀ k ∈ l, o k ≤ o j) ∧ ∀ k ∈ l, k < j → o k < o j := by
  induction l using List.reverseRecOn with
  | nil => exact Or.inl ⟨rfl, by simp⟩
  | append_singleton l x ih =>
    rw [List.pairwise_append] at hl
    obtain ⟨hl1, -, hlx⟩ := hl
    have hx : ∀ k ∈ l, k < x := fun k hk => hlx k hk x (by simp)
    rw [List.foldl_append, List.foldl_cons, List.foldl_nil]
    rcases ih hl1 with ⟨e, h⟩ | ⟨j, hj, e, hb, hm, hlt⟩
    · rw [e]
      by_cases hc : b0 < o x
      · refine Or.inr ⟨x, by simp, by rw [if_pos hc], hc, ?_, ?_⟩
        · intro k hk
          rcases List.mem_append.mp hk with hk | hk
          · exact (h k hk).trans hc.le
          · rw [List.mem_singleton.mp hk]
        · intro k hk hkx
          rcases List.mem_append.mp hk with hk | hk
          · exact lt_of_le_of_lt (h k hk) hc
          · rw [List.mem_singleton.mp hk] at hkx; exact absurd hkx (lt_irrefl _)
      · refine Or.inl ⟨by rw [if_neg hc], fun k hk => ?_⟩
        rcases List.mem_append.mp hk with hk | hk
        · exact h k hk
        · rw [List.mem_singleton.mp hk]; exact not_lt.mp hc
    · rw [e]
      by_cases hc : o j < o x
      · refine Or.inr ⟨x, by simp, by rw [if_pos hc], hb.trans hc, ?_, ?_⟩
        · intro k hk
          rcases List.mem_append.mp hk with hk | hk
          · exact (hm k hk).trans hc.le
          · rw [List.mem_singleton.mp hk]
        · intro k hk hkx
          rcases List.mem_append.mp hk with hk | hk
          · exact lt_of_le_of_lt (hm k hk) hc
          · rw [List.mem_singleton.mp hk] at hkx; exact absurd hkx (lt_irrefl _)
      · refine Or.inr ⟨j, by simp [hj], by rw [if_neg hc], hb, ?_, ?_⟩
        · intro k hk
          rcases List.mem_append.mp hk with hk | hk
          · exact hm k hk
          · rw [List.mem_singleton.mp hk]; exact not_lt.mp hc
        · intro k hk hkx
          rcases List.mem_append.mp hk with hk | hk
          · exact hlt k hk hkx
          · rw [List.mem_singleton.mp hk] at hkx; exact absurd (hkx.trans (hx j hj)) (lt_irrefl _)

open Classical in
/-- Overwriting in order wherever `c` holds: either it never does, or the greatest index at which it does is left. -/
theorem last (c : Fin n → Prop) (f : Fin n → α) (a0 : α) (l : List (Fin n)) (hl : l.Pairwise (· < ·)) :
    (l.foldl (fun s j => if c j then f j else s) a0 = a0 ∧ ∀ j ∈ l, ¬ c j)
    ∨ ∃ j ∈ l, l.foldl (fun s j => if c j then f j else s) a0 = f j ∧ c j ∧ ∀ k ∈ l, c k → k ≤ j := by
  induction l using List.reverseRecOn with
  | nil => exact Or.inl ⟨rfl, by simp⟩
  | append_singleton l x ih =>
    rw [List.pairwise_append] at hl
    obtain ⟨hl1, -, hlx⟩ := hl
    have hx : ∀ k ∈ l, k < x := fun k hk => hlx k hk x (by simp)
    rw [List.foldl_append, List.foldl_cons, List.foldl_nil]
    by_cases hc : c x
    · refine Or.inr ⟨x, by simp, by rw [if_pos hc], hc, fun k hk _ => ?_⟩
      rcases List.mem_append.mp hk with hk | hk
      · exact (hx k hk).le
      · rw [List.mem_singleton.mp hk]
    · rw [if_neg hc]
      rcases ih hl1 with ⟨e, h⟩ | ⟨j, hj, e, hcj, hm⟩
      · refine Or.inl ⟨e, fun k hk => ?_⟩
        rcases List.mem_append.mp hk with hk | hk
        · exact h k hk
        · rw [List.mem_singleton.mp hk]; exact hc
      · refine Or.inr ⟨j, by simp [hj], e, hcj, fun k hk hck => ?_⟩
        rcases List.mem_append.mp hk with hk | hk
        · exact hm k hk hck
        · rw [List.mem_singleton.mp hk] at hck; exact absurd hck hc

/-- Folds of an order's greatest and least: attained and bounding. -/
theorem fold_max_eq {ι : Type} [Fintype ι] (f : ι → EReal) (b m : EReal) (hb : b ≤ m) (hm : ∀ i, f i ≤ m) (he : ∃ i, f i = m) :
    (Finset.univ : Finset ι).fold max b f = m := by
  refine le_antisymm ?_ ?_
  · exact Finset.fold_max_le m |>.mpr ⟨hb, fun i _ => hm i⟩
  · obtain ⟨i, rfl⟩ := he
    exact Finset.le_fold_max _ |>.mpr (Or.inr ⟨i, Finset.mem_univ _, le_rfl⟩)

open Idealize.ShloMosaic in
theorem fold_minsi_eq {ι : Type} (S : Finset ι) (f : ι → BitVec 32) (b m : BitVec 32)
    (hb : m.toInt ≤ b.toInt) (hm : ∀ i ∈ S, m.toInt ≤ (f i).toInt) (he : ∃ i ∈ S, f i = m) : S.fold IntOp.minsi b f = m := by
  classical
  suffices h : (∀ i ∈ S, (S.fold IntOp.minsi b f).toInt ≤ (f i).toInt) ∧ m.toInt ≤ (S.fold IntOp.minsi b f).toInt by
    obtain ⟨i, hi, rfl⟩ := he
    exact BitVec.eq_of_toInt_eq (le_antisymm (h.1 i hi) h.2)
  clear he
  induction S using Finset.induction_on with
  | empty => exact ⟨by simp, by simpa using hb⟩
  | insert a S ha ih =>
    obtain ⟨h1, h2⟩ := ih fun i hi => hm i (Finset.mem_insert_of_mem hi)
    have h3 := hm a (Finset.mem_insert_self a S)
    rw [Finset.fold_insert ha]
    have hmin : ∀ x y : BitVec 32, (IntOp.minsi x y).toInt = min x.toInt y.toInt := by
      intro x y
      unfold IntOp.minsi
      simp only [BitVec.slt_iff_toInt_lt]
      split <;> omega
    rw [hmin]
    refine ⟨fun i hi => ?_, le_min h3 h2⟩
    rcases Finset.mem_insert.mp hi with rfl | hi
    · exact min_le_left _ _
    · exact (min_le_right _ _).trans (h1 i hi)

open Idealize.ShloMosaic in
theorem fold_maxsi_eq {ι : Type} (S : Finset ι) (f : ι → BitVec 32) (b m : BitVec 32)
    (hb : b.toInt ≤ m.toInt) (hm : ∀ i ∈ S, (f i).toInt ≤ m.toInt) (he : ∃ i ∈ S, f i = m) : S.fold IntOp.maxsi b f = m := by
  classical
  suffices h : (∀ i ∈ S, (f i).toInt ≤ (S.fold IntOp.maxsi b f).toInt) ∧ (S.fold IntOp.maxsi b f).toInt ≤ m.toInt by
    obtain ⟨i, hi, rfl⟩ := he
    exact BitVec.eq_of_toInt_eq (le_antisymm h.2 (h.1 i hi))
  clear he
  induction S using Finset.induction_on with
  | empty => exact ⟨by simp, by simpa using hb⟩
  | insert a S ha ih =>
    obtain ⟨h1, h2⟩ := ih fun i hi => hm i (Finset.mem_insert_of_mem hi)
    have h3 := hm a (Finset.mem_insert_self a S)
    rw [Finset.fold_insert ha]
    have hmax : ∀ x y : BitVec 32, (IntOp.maxsi x y).toInt = max x.toInt y.toInt := by
      intro x y
      unfold IntOp.maxsi
      simp only [BitVec.slt_iff_toInt_lt]
      split <;> omega
    rw [hmax]
    refine ⟨fun i hi => ?_, max_le h3 h2⟩
    rcases Finset.mem_insert.mp hi with rfl | hi
    · exact le_max_left _ _
    · exact (h1 i hi).trans (le_max_right _ _)

end Cert.Fold

end
-- ==== Proof.Lanes.lean ====
/- The lanes of a vector: their numbers, and a reduction over them read at the extended reals. -/
module

public import Idealize.ShloMosaic.Lib.Pointwise.Reduce
public import proofs.«01_k».proof.Proof.Img
public import proofs.«01_k».proof.Proof.Fold

@[expose] public section

noncomputable section

namespace Cert.KernelIdeal.Lanes

open Idealize.ShloMosaic Cert.KernelIdeal Cert.KernelIdeal.Gen

/-- A lane's number. -/
def num (i : S8x1152.Idx) : ℕ := (i 0).val * 1152 + (i 1).val

theorem num_lt (i : S8x1152.Idx) : num i < 9216 := by
  have h0 : (i 0).val < 8 := (i 0).isLt
  have h1 : (i 1).val < 1152 := (i 1).isLt
  unfold num; omega

/-- The lane of a number. -/
def lane (n : ℕ) (h : n < 9216) : S8x1152.Idx := ix2 ⟨n / 1152, by omega⟩ ⟨n % 1152, by omega⟩

theorem num_lane (n : ℕ) (h : n < 9216) : num (lane n h) = n := by
  show n / 1152 * 1152 + n % 1152 = n
  omega

theorem num_injective {i j : S8x1152.Idx} (h : num i = num j) : i = j := by
  have h1 : (i 1).val < 1152 := (i 1).isLt
  have h2 : (j 1).val < 1152 := (j 1).isLt
  unfold num at h
  funext a
  match a with
  | ⟨0, _⟩ => exact Fin.ext (show (i 0).val = (j 0).val by omega)
  | ⟨1, _⟩ => exact Fin.ext (show (i 1).val = (j 1).val by omega)

/-- The lane of a prior. -/
def at' (q : Fin 8732) : S8x1152.Idx := lane q.val (by omega)

theorem num_at (q : Fin 8732) : num (at' q) = q.val := num_lane _ _
theorem at_injective : Function.Injective at' := fun p q h => Fin.ext (by rw [← num_at p, ← num_at q, h])
theorem at_of_lt (i : S8x1152.Idx) (h : num i < 8732) : at' ⟨num i, h⟩ = i := num_injective (num_at _)

/-- A sum over the lanes that vanishes off the priors' is the sum over the priors. -/
theorem sum_lanes (v : S8x1152.Idx → EReal) (h : ∀ i, 8732 ≤ num i → v i = 0) : ∑ i, v i = ∑ q, v (at' q) := by
  symm
  refine Finset.sum_of_injOn at' at_injective.injOn (by simp) (fun i _ hi => h i ?_) (by simp)
  by_contra hc
  exact hi ⟨⟨num i, by omega⟩, by simp, at_of_lt i (by omega)⟩

theorem sumV_eq (v : FVec Ideal S8x1152 .f32) : Img.sumV v = ∑ i, v i := by
  refine (Ideal.multiReduction_add_total _ 0x00000000#32 _ (by decide) (.inl rfl) rfl _).trans ?_
  exact Equiv.sum_comp (Shape.reshapeEquiv shapeCasts_S8x1152_S1x8x1152) v

theorem lit_bot : Ideal.ofBits .f32 0xFF800000#32 = ⊥ := by simp [Ideal.ofBits, Ideal.ieee]

/-- Every lane lies in the one fibre of a reduction to one lane. -/
theorem all_dropped (j : S1.Idx) : (Finset.univ.filter fun i => reduces_S1x8x1152_S1.drop i = j) = Finset.univ :=
  Finset.filter_true_of_mem fun i _ => funext fun b => Fin.ext (by
    have := (reduces_S1x8x1152_S1.drop i b).isLt; have := (j b).isLt; have : ∀ b, S1.size b = 1 := by decide
    have := this b; omega)

theorem maxV_eq (v : FVec Ideal S8x1152 .f32) (m : EReal) (hm : ∀ i, v i ≤ m) (he : ∃ i, v i = m) : Img.maxV v = m := by
  have h := multiReduction_maximumf_eq_fold (F := Ideal) (φ := .f32) (shapeCast S1x8x1152 v shapeCasts_S8x1152_S1x8x1152) 0xFF800000#32
    reduces_S1x8x1152_S1 (.inl rfl) rfl (Shape.reshapeEquiv shapeCasts_S1_S1x1x1 fun a => ⟨![0, 0, 0] a, inpos_S1x1x1_p0_0_0 a⟩)
  refine Eq.trans h ?_
  rw [all_dropped]
  refine Fold.fold_max_eq _ _ _ ?_ (fun i => hm _) ?_
  · exact (lit_bot.le.trans bot_le : Ideal.ofBits .f32 0xFF800000#32 ≤ m)
  · obtain ⟨i, hi⟩ := he
    refine ⟨(Shape.reshapeEquiv shapeCasts_S8x1152_S1x8x1152).symm i, ?_⟩
    show v (Shape.reshapeEquiv shapeCasts_S8x1152_S1x8x1152 _) = m
    rw [Equiv.apply_symm_apply, hi]

theorem minI_eq (v : IVec S8x1152 32) (m : BitVec 32) (hm : ∀ i, m.toInt ≤ (v i).toInt) (he : ∃ i, v i = m) :
    Img.minI v = m := by
  have h := multiReductionI_eq_fold .minsi (shapeCast S1x8x1152 v shapeCasts_S8x1152_S1x8x1152) 2147483647#32
    reduces_S1x8x1152_S1 rfl (Shape.reshapeEquiv shapeCasts_S1_S1x1x1 fun a => ⟨![0, 0, 0] a, inpos_S1x1x1_p0_0_0 a⟩)
  refine Eq.trans h ?_
  rw [all_dropped]
  refine Fold.fold_minsi_eq _ _ _ _ ?_ (fun i _ => hm _) ?_
  · have := BitVec.toInt_lt (x := m)
    have e : (2147483647#32).toInt = 2147483647 := by decide
    rw [e]; norm_num at this; omega
  · obtain ⟨i, hi⟩ := he
    refine ⟨(Shape.reshapeEquiv shapeCasts_S8x1152_S1x8x1152).symm i, Finset.mem_univ _, ?_⟩
    show v (Shape.reshapeEquiv shapeCasts_S8x1152_S1x8x1152 _) = m
    rw [Equiv.apply_symm_apply, hi]

theorem lane_eq (i : S8x1152.Idx) : Img.lane i = BitVec.ofNat 32 (num i) := by
  show BitVec.ofNat 32 (0 * 8 + (i 0).val) * 1152#32 + BitVec.ofNat 32 (0 * 1152 + (i 1).val) = BitVec.ofNat 32 ((i 0).val * 1152 + (i 1).val)
  rw [← BitVec.ofNat_mul, ← BitVec.ofNat_add]
  simp

theorem toInt_ofNat (n : ℕ) (h : n < 9217) : (BitVec.ofNat 32 n).toInt = n := by
  rw [BitVec.toInt_ofNat', Int.bmod_def]
  norm_num
  omega

theorem ofNat_inj (m n : ℕ) (hm : m < 9217) (hn : n < 9217) (h : BitVec.ofNat 32 m = BitVec.ofNat 32 n) : m = n := by
  have := congrArg BitVec.toInt h
  rw [toInt_ofNat m hm, toInt_ofNat n hn] at this
  exact_mod_cast this

theorem valid_eq (i : S8x1152.Idx) : Img.valid i = 1#1 ↔ num i < 8732 := by
  show BitVec.ofBool ((Img.lane i).slt 8732#32) = 1#1 ↔ _
  have h := num_lt i
  rw [lane_eq]
  have e : (8732#32).toInt = 8732 := by decide
  have : (BitVec.ofNat 32 (num i)).slt 8732#32 = decide (num i < 8732) := by
    rw [Bool.eq_iff_iff, BitVec.slt_iff_toInt_lt, toInt_ofNat _ (by omega), e]
    simp
  rw [this]
  by_cases hc : num i < 8732 <;> simp [hc]

end Cert.KernelIdeal.Lanes

end
-- ==== Proof.Geo.lean ====
/- The constants of the loss as real numbers, and the signs of an overlap. -/
module

public import proofs.«01_k».proof.Proof.Spec

@[expose] public section

noncomputable section

namespace Cert.Spec

open Idealize.ShloMosaic

theorem lit_zero : lit 0x00000000#32 = 0 := Ideal.ofBits_zero_f32
theorem lit_half : lit 0x3F000000#32 = ((1 / 2 : ℝ) : EReal) := by
  simp [lit, Ideal.ofBits, Ideal.ieee, -EReal.coe_mul]; norm_num
theorem lit_one : lit 0x3F800000#32 = 1 := Ideal.ofBits_one_f32
theorem lit_two : lit 0x40000000#32 = ((2 : ℝ) : EReal) := by
  simp [lit, Ideal.ofBits, Ideal.ieee, -EReal.coe_mul]; norm_num
theorem lit_three : lit 0x40400000#32 = ((3 : ℝ) : EReal) := by
  simp [lit, Ideal.ofBits, Ideal.ieee, -EReal.coe_mul]; norm_num
theorem lit_four : lit 0x40800000#32 = ((4 : ℝ) : EReal) := by
  simp [lit, Ideal.ofBits, Ideal.ieee, -EReal.coe_mul]; norm_num
theorem lit_five : lit 0x40A00000#32 = ((5 : ℝ) : EReal) := by
  simp [lit, Ideal.ofBits, Ideal.ieee, -EReal.coe_mul]; norm_num
theorem lit_six : lit 0x40C00000#32 = ((6 : ℝ) : EReal) := by
  simp [lit, Ideal.ofBits, Ideal.ieee, -EReal.coe_mul]; norm_num
theorem lit_seven : lit 0x40E00000#32 = ((7 : ℝ) : EReal) := by
  simp [lit, Ideal.ofBits, Ideal.ieee, -EReal.coe_mul]; norm_num
theorem lit_ten : lit 0x41200000#32 = ((10 : ℝ) : EReal) := by
  simp [lit, Ideal.ofBits, Ideal.ieee, -EReal.coe_mul]; norm_num
theorem lit_nine_half : lit 0x41180000#32 = ((19 / 2 : ℝ) : EReal) := by
  simp [lit, Ideal.ofBits, Ideal.ieee, -EReal.coe_mul]; norm_num
theorem lit_eighth : lit 0x3E000000#32 = ((1 / 8 : ℝ) : EReal) := by
  simp [lit, Ideal.ofBits, Ideal.ieee, -EReal.coe_mul]; norm_num
theorem lit_cells : lit 0x48800000#32 = ((262144 : ℝ) : EReal) := by
  simp [lit, Ideal.ofBits, Ideal.ieee, -EReal.coe_mul]; norm_num
theorem lit_minus_one : lit 0xBF800000#32 = ((-1 : ℝ) : EReal) := by
  simp [lit, Ideal.ofBits, Ideal.ieee, -EReal.coe_mul, -EReal.coe_neg]; norm_num
theorem lit_bot : lit 0xFF800000#32 = ⊥ := by simp [lit, Ideal.ofBits, Ideal.ieee]
theorem lit_top : lit 0x7F800000#32 = ⊤ := by simp [lit, Ideal.ofBits, Ideal.ieee]

theorem div_coe (x : EReal) (r : ℝ) (h : r ≠ 0) : Ideal.div x (r : EReal) = x * ((r⁻¹ : ℝ) : EReal) := by
  unfold Ideal.div
  rw [if_neg (by exact_mod_cast h), EReal.coe_inv]

theorem div_two (x : EReal) : Ideal.div x (lit 0x40000000#32) = x * lit 0x3F000000#32 := by
  rw [lit_two, lit_half, div_coe _ _ (by norm_num), one_div]

theorem div_zero_nonpos (d : EReal) : Ideal.div 0 d ≤ 0 := by
  unfold Ideal.div
  split
  · rw [if_neg (lt_irrefl _)]; exact bot_le
  · rw [zero_mul]

theorem inv_nonneg {d : EReal} (h : 0 ≤ d) : 0 ≤ d⁻¹ := by
  induction d with
  | bot => simp at h
  | top => simp
  | coe r => rw [← EReal.coe_inv]; have : (0 : ℝ) ≤ r := by exact_mod_cast h
             exact_mod_cast _root_.inv_nonneg.mpr this

theorem div_nonneg {x d : EReal} (hx : 0 < x) (hd : 0 ≤ d) : 0 ≤ Ideal.div x d := by
  unfold Ideal.div
  split
  · exact le_top
  · exact mul_nonneg hx.le (inv_nonneg hd)

theorem inter_nonneg (b c : Fin 4 → EReal) : 0 ≤ inter b c := mul_nonneg (le_max_left _ _) (le_max_left _ _)

/-- The overlap of a box of no negative area with a prior of positive area is not negative. -/
theorem iou_nonneg (b c : Fin 4 → EReal) (hb : 0 ≤ area b) (hc : 0 < area c) : 0 ≤ iou b c := by
  unfold iou
  rcases (inter_nonneg b c).lt_or_eq with h | h
  · have h1 : 0 < max 0 (min (b 2) (c 2) - max (b 0) (c 0)) := by
      refine lt_of_le_of_ne (le_max_left _ _) fun e => ?_
      unfold inter at h; rw [← e, zero_mul] at h; exact lt_irrefl _ h
    have h2 : 0 < max 0 (min (b 3) (c 3) - max (b 1) (c 1)) := by
      refine lt_of_le_of_ne (le_max_left _ _) fun e => ?_
      unfold inter at h; rw [← e, mul_zero] at h; exact lt_irrefl _ h
    have e1 : max 0 (min (b 2) (c 2) - max (b 0) (c 0)) = min (b 2) (c 2) - max (b 0) (c 0) :=
      max_eq_right ((lt_max_iff.mp h1).resolve_left (lt_irrefl _)).le
    have e2 : max 0 (min (b 3) (c 3) - max (b 1) (c 1)) = min (b 3) (c 3) - max (b 1) (c 1) :=
      max_eq_right ((lt_max_iff.mp h2).resolve_left (lt_irrefl _)).le
    have hle : inter b c ≤ area c := by
      unfold inter area
      rw [e1, e2]
      rw [e1] at h1; rw [e2] at h2
      have l1 : min (b 2) (c 2) - max (b 0) (c 0) ≤ c 2 - c 0 := EReal.sub_le_sub (min_le_right _ _) (le_max_right _ _)
      have l2 : min (b 3) (c 3) - max (b 1) (c 1) ≤ c 3 - c 1 := EReal.sub_le_sub (min_le_right _ _) (le_max_right _ _)
      exact mul_le_mul l1 l2 h2.le (h1.le.trans l1)
    by_cases ht : inter b c = ⊤
    · rw [ht]
      have : area b + area c - ⊤ = ⊥ := by
        rw [sub_eq_add_neg, EReal.neg_top, EReal.add_bot]
      rw [this]; unfold Ideal.div; simp
    · have hs : inter b c ≤ area b + area c := hle.trans (by
        calc area c = 0 + area c := (zero_add _).symm
          _ ≤ _ := add_le_add_left hb _)
      refine div_nonneg h ?_
      exact (EReal.sub_nonneg (Or.inr ht) (Or.inr (ne_bot_of_gt h))).mpr hs
  · rw [← h]
    have hd : area b + area c - 0 ≠ 0 := by
      rw [sub_zero]
      exact (lt_of_lt_of_le hc (by
        calc area c = 0 + area c := (zero_add _).symm
          _ ≤ _ := add_le_add_left hb _)).ne'
    unfold Ideal.div
    rw [if_neg hd, zero_mul]

/-- No box that does not reach beyond 9.5 in both directions overlaps the square from (9.5, 9.5) on. -/
theorem iou_far (b c : Fin 4 → EReal) (hb : min (b 2) (b 3) ≤ lit 0x41180000#32) (h0 : c 0 = lit 0x41180000#32) (h1 : c 1 = lit 0x41180000#32) :
    iou b c ≤ 0 := by
  have hz : inter b c = 0 := by
    unfold inter
    rcases min_le_iff.mp hb with h | h
    · rw [max_eq_left, zero_mul]
      rw [h0]
      calc _ ≤ lit 0x41180000#32 - lit 0x41180000#32 := EReal.sub_le_sub ((min_le_left _ _).trans h) (le_max_right _ _)
        _ = 0 := by rw [lit_nine_half]; exact EReal.sub_self (EReal.coe_ne_top _) (EReal.coe_ne_bot _)
    · rw [max_eq_left (a := 0) (b := min (b 3) (c 3) - _), mul_zero]
      rw [h1]
      calc _ ≤ lit 0x41180000#32 - lit 0x41180000#32 := EReal.sub_le_sub ((min_le_left _ _).trans h) (le_max_right _ _)
        _ = 0 := by rw [lit_nine_half]; exact EReal.sub_self (EReal.coe_ne_top _) (EReal.coe_ne_bot _)
  unfold iou
  rw [hz]
  exact div_zero_nonpos _

end Cert.Spec

end
-- ==== Proof.Match.lean ====
/- The kernel's matching, read at a lane. -/
module

public import proofs.«01_k».proof.Proof.Lanes
public import proofs.«01_k».proof.Proof.Geo

@[expose] public section

noncomputable section

namespace Cert.KernelIdeal.Match

open Idealize.ShloMosaic Cert.KernelIdeal Cert.KernelIdeal.Gen Lanes

/-- The prior a lane holds. -/
def pri (p : Img.Pri Ideal) (i : S8x1152.Idx) : Fin 4 → EReal
  | 0 => p.cx i
  | 1 => p.cy i
  | 2 => p.w i
  | 3 => p.h i

theorem iou_apply (p : Img.Pri Ideal) (b : Fin 4 → EReal) (i : S8x1152.Idx) :
    Img.iou p b i = Spec.iou b (Spec.corner (pri p i)) := by
  have h0 : Spec.corner (pri p i) 0 = p.x0 i := by
    show p.cx i - Ideal.div (p.w i) _ = p.cx i - p.w i * Spec.lit 0x3F000000#32
    rw [Spec.div_two]
  have h1 : Spec.corner (pri p i) 1 = p.y0 i := by
    show p.cy i - Ideal.div (p.h i) _ = p.cy i - p.h i * Spec.lit 0x3F000000#32
    rw [Spec.div_two]
  have h2 : Spec.corner (pri p i) 2 = p.x1 i := by
    show p.cx i + Ideal.div (p.w i) _ = p.cx i + p.w i * Spec.lit 0x3F000000#32
    rw [Spec.div_two]
  have h3 : Spec.corner (pri p i) 3 = p.y1 i := by
    show p.cy i + Ideal.div (p.h i) _ = p.cy i + p.h i * Spec.lit 0x3F000000#32
    rw [Spec.div_two]
  have hi : Img.inter p b i = Spec.inter b (Spec.corner (pri p i)) := by
    unfold Spec.inter
    rw [h0, h1, h2, h3, ← Spec.lit_zero]
    rfl
  unfold Spec.iou Spec.area
  rw [h0, h1, h2, h3, ← hi]
  rfl

theorem ofBool_eq_one (b : Bool) : (BitVec.ofBool b = 1#1) ↔ b = true := by cases b <;> simp

theorem sel_gt (x y : EReal) {α : Type} (a b : α) [Decidable (y < x)] :
    Scalar.select (Ideal.cmp .ogt x y) a b = if y < x then a else b := by
  unfold Scalar.select Ideal.cmp
  by_cases h : y < x <;> simp [h]

theorem sel_lt (x y : EReal) {α : Type} (a b : α) [Decidable (x < y)] :
    Scalar.select (Ideal.cmp .olt x y) a b = if x < y then a else b := by
  unfold Scalar.select Ideal.cmp
  by_cases h : x < y <;> simp [h]

theorem sel_eq (x y : EReal) {α : Type} (a b : α) [Decidable (x = y)] :
    Scalar.select (Ideal.cmp .oeq x y) a b = if x = y then a else b := by
  unfold Scalar.select Ideal.cmp
  by_cases h : x = y <;> simp [h]

theorem sel_ieq (x y : BitVec 32) {α : Type} (a b : α) [Decidable (x = y)] :
    Scalar.select (IntOp.cmpi .eq x y) a b = if x = y then a else b := by
  unfold Scalar.select IntOp.cmpi
  by_cases h : x = y
  · simp [h]
  · have : (x == y) = false := beq_eq_false_iff_ne.mpr h
    simp [h, this]

/-! ### The least lane of the greatest overlap -/

theorem firstBest_eq (o : FVec Ideal S8x1152 .f32) (f : Fin 8732 → EReal) (hf : ∀ q, o (at' q) = f q)
    (hpad : ∀ i, 8732 ≤ num i → o i ≤ 0) (h0 : ∀ q, 0 ≤ f q) : Img.firstBest o = BitVec.ofNat 32 (Spec.first f).val := by
  obtain ⟨hm, hl⟩ := Spec.first_spec f
  set q := Spec.first f
  have hall : ∀ i, o i ≤ f q := by
    intro i
    by_cases hi : num i < 8732
    · rw [← at_of_lt i hi, hf]; exact hm _
    · exact (hpad i (by omega)).trans (h0 q)
  have hmax : Img.maxV o = f q := maxV_eq o _ hall ⟨at' q, hf q⟩
  have hval : ∀ i, (select (cmpf .oeq o (broadcast S8x1152 (Img.maxV o))) Img.lane (broadcast S8x1152 8732#32) : IVec S8x1152 32) i
      = if o i = f q then BitVec.ofNat 32 (num i) else 8732#32 := by
    intro i
    rw [← lane_eq, hmax]
    exact sel_eq (o i) (f q) (Img.lane i) 8732#32
  have hq := q.isLt
  refine minI_eq _ _ ?_ ⟨at' q, ?_⟩
  · intro i
    rw [hval, toInt_ofNat _ (by omega)]
    split
    · next he =>
      have hi := num_lt i
      rw [toInt_ofNat _ (by omega)]
      by_contra hc
      have hlt : num i < q.val := by omega
      have := hl ⟨num i, by omega⟩ hlt
      rw [← hf, at_of_lt i (by omega), he] at this
      exact lt_irrefl _ this
    · have : (8732#32).toInt = 8732 := by decide
      omega
  · rw [hval, if_pos (hf q), num_at]

/-! ### The folds, lane by lane -/

variable (p : Img.Pri Ideal) (bx : Fin 16 → Fin 4 → EReal) (lb : Fin 16 → BitVec 32) (w : Fin 16 → BitVec 32) (i : S8x1152.Idx)

/-- The steps at a lane, with any reading `π` of the state that a step overwrites with `f j` where its overlap is greater. -/
theorem steps_apply {α : Type} (π : Img.St Ideal → α) (f : Fin 16 → α)
    (hπ : ∀ s j, π (s.step (Img.iou p (bx j)) (lb j) (bx j)) = if s.best i < Img.iou p (bx j) i then f j else π s) (l : List (Fin 16)) :
    ∀ s : Img.St Ideal,
      ((l.foldl (fun s j => s.step (Img.iou p (bx j)) (lb j) (bx j)) s).best i, π (l.foldl (fun s j => s.step (Img.iou p (bx j)) (lb j) (bx j)) s))
        = l.foldl (fun s j => if s.1 < Img.iou p (bx j) i then (Img.iou p (bx j) i, f j) else s) (s.best i, π s) := by
  induction l with
  | nil => intro s; rfl
  | cons j l ih =>
    intro s
    rw [List.foldl_cons, List.foldl_cons, ih]
    congr 1
    rw [hπ]
    have : (s.step (Img.iou p (bx j)) (lb j) (bx j)).best i = if s.best i < Img.iou p (bx j) i then Img.iou p (bx j) i else s.best i :=
      sel_gt _ _ _ _
    rw [this]
    by_cases h : s.best i < Img.iou p (bx j) i <;> simp [h]

/-- The claims at a lane. -/
theorem claims_apply {α : Type} (π : Img.St Ideal → α) (f : Fin 16 → α)
    (hπ : ∀ s j, π (s.claim (w j) (lb j) (bx j)) = if Img.lane i = w j then f j else π s) (l : List (Fin 16)) :
    ∀ s : Img.St Ideal, π (l.foldl (fun s j => s.claim (w j) (lb j) (bx j)) s)
      = l.foldl (fun a j => if Img.lane i = w j then f j else a) (π s) := by
  induction l with
  | nil => intro s; rfl
  | cons j l ih => intro s; rw [List.foldl_cons, List.foldl_cons, ih, hπ]

theorem objs_sorted : Img.objs.Pairwise (· < ·) := by decide
theorem mem_objs (j : Fin 16) : j ∈ Img.objs := by revert j; decide

/-- What a lane holds after the matching, when `o` are its overlaps: the claims first, then the first greatest overlap. -/
theorem matched_cases (hw : ∀ j, Img.firstBest (Img.iou p (bx j)) = w j) :
    (∃ j, Img.lane i = w j ∧ (∀ k, Img.lane i = w k → k ≤ j) ∧ (Img.matched p bx lb).lab i = lb j
        ∧ ∀ c, (Img.matched p bx lb).g c i = bx j c)
    ∨ ((∀ j, Img.lane i ≠ w j) ∧ ((∀ j, Img.iou p (bx j) i ≤ Spec.lit 0xBF800000#32) ∧ (Img.matched p bx lb).lab i = 0
        ∨ ∃ j, Spec.IsFirst (fun j => Img.iou p (bx j) i) j
          ∧ (Img.matched p bx lb).lab i = (if Img.iou p (bx j) i < Spec.lit 0x3F000000#32 then 0 else lb j)
          ∧ ∀ c, (Img.matched p bx lb).g c i = bx j c)) := by
  have hm : Img.matched p bx lb = Img.objs.foldl (fun s j => s.claim (w j) (lb j) (bx j))
      (Img.objs.foldl (fun s j => s.step (Img.iou p (bx j)) (lb j) (bx j)) Img.St.init).cut := by
    unfold Img.matched
    simp only [hw]
  set s0 := Img.objs.foldl (fun s j => s.step (Img.iou p (bx j)) (lb j) (bx j)) Img.St.init with hs0
  have hcl := claims_apply bx lb w i (fun s => s.lab i) lb (fun s j => sel_ieq _ _ _ _) Img.objs s0.cut
  have hcg := fun c => claims_apply bx lb w i (fun s => s.g c i) (fun j => bx j c) (fun s j => sel_ieq _ _ _ _) Img.objs s0.cut
  rw [← hm] at hcl hcg
  -- the claims of the boxes and of the labels are one fold over pairs
  by_cases hc : ∃ j, Img.lane i = w j
  · left
    rcases Fold.last (fun j => Img.lane i = w j) (fun j => (lb j, bx j)) (s0.cut.lab i, fun c => s0.cut.g c i) Img.objs objs_sorted
      with ⟨-, h⟩ | ⟨j, -, e, hj, hk⟩
    · obtain ⟨j, hj⟩ := hc; exact absurd hj (h j (mem_objs j))
    · have pair : ∀ (l : List (Fin 16)) (a : BitVec 32) (g : Fin 4 → EReal),
          l.foldl (fun s j => if Img.lane i = w j then (lb j, bx j) else s) (a, g)
            = (l.foldl (fun a j => if Img.lane i = w j then lb j else a) a,
               fun c => l.foldl (fun a j => if Img.lane i = w j then bx j c else a) (g c)) := by
        intro l
        induction l with
        | nil => intro a g; rfl
        | cons j l ih =>
          intro a g
          simp only [List.foldl_cons]
          by_cases h : Img.lane i = w j
          · simp only [if_pos h]; exact ih _ _
          · simp only [if_neg h]; exact ih _ _
      have pair' := pair Img.objs (s0.cut.lab i) (fun c => s0.cut.g c i)
      have e2 : Img.objs.foldl (fun s j => if Img.lane i = w j then (lb j, bx j) else s) (s0.cut.lab i, fun c => s0.cut.g c i) = (lb j, bx j) := by
        convert e
      have e3 := pair'.symm.trans e2
      refine ⟨j, hj, fun k hk' => hk k (mem_objs k) hk', ?_, fun c => ?_⟩
      · rw [hcl]
        exact congrArg Prod.fst e3
      · rw [hcg c]
        exact congrFun (congrArg Prod.snd e3) c
  · right
    have hno : ∀ j, Img.lane i ≠ w j := fun j hj => hc ⟨j, hj⟩
    have keep : ∀ {α : Type} (f : Fin 16 → α) (a : α), Img.objs.foldl (fun a j => if Img.lane i = w j then f j else a) a = a := by
      intro α f a
      generalize Img.objs = l
      induction l with
      | nil => rfl
      | cons j l ih => rw [List.foldl_cons, if_neg (hno j), ih]
    rw [keep] at hcl
    simp only [keep] at hcg
    refine ⟨hno, ?_⟩
    have hcut : s0.cut.lab i = if s0.best i < Spec.lit 0x3F000000#32 then 0 else s0.lab i := sel_lt _ _ _ _
    have hl := steps_apply p bx lb i (fun s => (s.lab i, fun c => s.g c i)) (fun j => (lb j, bx j)) (fun s j => by
      have h1 : (s.step (Img.iou p (bx j)) (lb j) (bx j)).lab i = if s.best i < Img.iou p (bx j) i then lb j else s.lab i := sel_gt _ _ _ _
      have h2 : ∀ c, (s.step (Img.iou p (bx j)) (lb j) (bx j)).g c i = if s.best i < Img.iou p (bx j) i then bx j c else s.g c i :=
        fun c => sel_gt _ _ _ _
      simp only [h1, h2]
      by_cases h : s.best i < Img.iou p (bx j) i <;> simp [h]) Img.objs Img.St.init
    rw [← hs0] at hl
    rcases Fold.best (fun j => Img.iou p (bx j) i) (fun j => (lb j, bx j)) ((Img.St.init : Img.St Ideal).best i)
      ((Img.St.init : Img.St Ideal).lab i, fun c => (Img.St.init : Img.St Ideal).g c i) Img.objs objs_sorted
      with ⟨e, h⟩ | ⟨j, -, e, hb, hle, hlt⟩
    · left
      refine ⟨fun j => h j (mem_objs j), ?_⟩
      have e' : ((s0.best i, s0.lab i, fun c => s0.g c i) : EReal × BitVec 32 × (Fin 4 → EReal))
          = ((Img.St.init : Img.St Ideal).best i, (Img.St.init : Img.St Ideal).lab i, fun c => (Img.St.init : Img.St Ideal).g c i) := by
        rw [hl]; convert e
      have e1 := congrArg (fun x => x.2.1) e'
      have e2 : s0.lab i = 0#32 := e1
      rw [hcl]
      show s0.cut.lab i = 0
      rw [hcut, e2]
      simp
    · right
      have e' : ((s0.best i, s0.lab i, fun c => s0.g c i) : EReal × BitVec 32 × (Fin 4 → EReal)) = (Img.iou p (bx j) i, lb j, bx j) := by
        rw [hl]; convert e
      have e0 : s0.best i = Img.iou p (bx j) i := congrArg (fun x => x.1) e'
      have e1 : s0.lab i = lb j := congrArg (fun x => x.2.1) e'
      have e2 : ∀ c, s0.g c i = bx j c := fun c => congrFun (congrArg (fun x => x.2.2) e') c
      refine ⟨j, ⟨fun k => hle k (mem_objs k), fun k hk => hlt k (mem_objs k) hk⟩, ?_, fun c => ?_⟩
      · rw [hcl]
        show s0.cut.lab i = _
        rw [hcut, e0, e1]
      · rw [hcg c]; exact e2 c

end Cert.KernelIdeal.Match

end
-- ==== Proof.Label.lean ====
/- The labels and boxes the kernel's matching gives the priors' lanes, and the label 0 of every other lane. -/
module

public import proofs.«01_k».proof.Proof.Match

@[expose] public section

noncomputable section

namespace Cert.KernelIdeal.Match

open Idealize.ShloMosaic Cert.KernelIdeal Cert.KernelIdeal.Gen Lanes

/-- What is known of an image's boxes and of the priors, and how the lanes hold the priors. -/
structure Held (p : Img.Pri Ideal) (pr : Fin 8732 → Fin 4 → EReal) (bx : Fin 16 → Fin 4 → EReal) : Prop where
  at_prior : ∀ q, pri p (at' q) = pr q
  off_x : ∀ i, 8732 ≤ num i → p.cx i = Spec.lit 0x41200000#32
  off_y : ∀ i, 8732 ≤ num i → p.cy i = Spec.lit 0x41200000#32
  off_w : ∀ i, 8732 ≤ num i → p.w i = Spec.lit 0x3F800000#32
  off_h : ∀ i, 8732 ≤ num i → p.h i = Spec.lit 0x3F800000#32
  box_area : ∀ j, 0 ≤ Spec.area (bx j)
  prior_area : ∀ q, 0 < Spec.area (Spec.corner (pr q))
  reach : ∀ j, min (bx j 2) (bx j 3) ≤ Spec.lit 0x41180000#32

variable {p : Img.Pri Ideal} {pr : Fin 8732 → Fin 4 → EReal} {bx : Fin 16 → Fin 4 → EReal} (H : Held p pr bx) (lb : Fin 16 → BitVec 32)
include H

theorem ov_at (j : Fin 16) (q : Fin 8732) : Img.iou p (bx j) (at' q) = Spec.ov pr bx j q := by
  rw [iou_apply, H.at_prior]; rfl

theorem ov_off (j : Fin 16) (i : S8x1152.Idx) (hi : 8732 ≤ num i) : Img.iou p (bx j) i ≤ 0 := by
  have e : Spec.lit 0x41200000#32 - Ideal.div (Spec.lit 0x3F800000#32) (Spec.lit 0x40000000#32) = Spec.lit 0x41180000#32 := by
    rw [Spec.lit_two, Spec.div_coe _ _ (by norm_num), Spec.lit_one, one_mul, Spec.lit_ten, Spec.lit_nine_half, ← EReal.coe_sub]
    norm_num
  rw [iou_apply]
  refine Spec.iou_far _ _ (H.reach j) ?_ ?_
  · show p.cx i - Ideal.div (p.w i) _ = _
    rw [H.off_x i hi, H.off_w i hi, e]
  · show p.cy i - Ideal.div (p.h i) _ = _
    rw [H.off_y i hi, H.off_h i hi, e]

theorem best_lane (j : Fin 16) : Img.firstBest (Img.iou p (bx j)) = BitVec.ofNat 32 (Spec.first (Spec.ov pr bx j)).val :=
  firstBest_eq _ _ (ov_at H j) (ov_off H j) fun q => Spec.iou_nonneg _ _ (H.box_area j) (H.prior_area q)

theorem claims_iff (i : S8x1152.Idx) (j : Fin 16) :
    Img.lane i = BitVec.ofNat 32 (Spec.first (Spec.ov pr bx j)).val ↔ num i = (Spec.first (Spec.ov pr bx j)).val := by
  rw [lane_eq]
  have := num_lt i
  have := (Spec.first (Spec.ov pr bx j)).isLt
  exact ⟨fun h => ofNat_inj _ _ (by omega) (by omega) h, fun h => by rw [h]⟩

/-- Off the priors no lane is labelled. -/
theorem lab_off (i : S8x1152.Idx) (hi : 8732 ≤ num i) : (Img.matched p bx lb).lab i = 0 := by
  rcases matched_cases p bx lb (fun j => BitVec.ofNat 32 (Spec.first (Spec.ov pr bx j)).val) i (best_lane H)
    with ⟨j, hj, -⟩ | ⟨-, ⟨-, h⟩ | ⟨j, -, h, -⟩⟩
  · rw [claims_iff H] at hj
    have := (Spec.first (Spec.ov pr bx j)).isLt
    omega
  · exact h
  · rw [h, if_pos]
    refine lt_of_le_of_lt (ov_off H j i hi) ?_
    rw [Spec.lit_half]
    have : (0 : ℝ) < 1 / 2 := by norm_num
    exact_mod_cast this

theorem claimers_iff (q : Fin 8732) (j : Fin 16) :
    j ∈ Spec.claimers (Spec.ov pr bx) q ↔ Img.lane (at' q) = BitVec.ofNat 32 (Spec.first (Spec.ov pr bx j)).val := by
  rw [claims_iff H, num_at]
  unfold Spec.claimers
  simp only [Finset.mem_filter, Finset.mem_univ, true_and]
  exact ⟨fun h => by rw [h], fun h => Fin.ext h.symm⟩

/-- A prior's lane holds the prior's label, and the box it is matched to where that label is not 0. -/
theorem lab_at (q : Fin 8732) : (Img.matched p bx lb).lab (at' q) = Spec.lab pr bx lb q
    ∧ (Spec.lab pr bx lb q ≠ 0 → ∀ c, (Img.matched p bx lb).g c (at' q) = bx (Spec.obj (Spec.ov pr bx) q) c) := by
  classical
  rcases matched_cases p bx lb (fun j => BitVec.ofNat 32 (Spec.first (Spec.ov pr bx j)).val) (at' q) (best_lane H)
    with ⟨j, hj, hk, hl, hg⟩ | ⟨hno, ⟨hle, h⟩ | ⟨j, hj, h, hg⟩⟩
  · have hne : (Spec.claimers (Spec.ov pr bx) q).Nonempty := ⟨j, (claimers_iff H q j).mpr hj⟩
    have ho : Spec.obj (Spec.ov pr bx) q = j := by
      unfold Spec.obj
      rw [dif_pos hne]
      refine le_antisymm (hk _ ((claimers_iff H q _).mp (Finset.max'_mem _ hne))) (Finset.le_max' _ _ ((claimers_iff H q j).mpr hj))
    have hs : Spec.lab pr bx lb q = lb j := by
      unfold Spec.lab Spec.label
      rw [if_pos (Or.inl hne), ho]
    exact ⟨by rw [hl, hs], fun _ c => by rw [hg c, ho]⟩
  · have hne : ¬ (Spec.claimers (Spec.ov pr bx) q).Nonempty := fun ⟨j, hj⟩ => hno j ((claimers_iff H q j).mp hj)
    have hs : Spec.lab pr bx lb q = 0 := by
      unfold Spec.lab Spec.label
      rw [if_neg]
      rintro (h | h)
      · exact hne h
      · refine h (lt_of_le_of_lt ((ov_at H _ q).symm.le.trans (hle _)) ?_)
        rw [Spec.lit_half, Spec.lit_minus_one]
        have : (-1 : ℝ) < 1 / 2 := by norm_num
        exact EReal.coe_lt_coe_iff.mpr this
    exact ⟨by rw [h, hs], fun hn => absurd hs hn⟩
  · have hne : ¬ (Spec.claimers (Spec.ov pr bx) q).Nonempty := fun ⟨j, hj⟩ => hno j ((claimers_iff H q j).mp hj)
    simp only [ov_at H] at hj h
    have ho : Spec.first (fun j => Spec.ov pr bx j q) = j := hj.eq
    have ho' : Spec.obj (Spec.ov pr bx) q = j := by
      unfold Spec.obj
      rw [dif_neg hne, ho]
    have hs : Spec.lab pr bx lb q = if Spec.ov pr bx j q < Spec.lit 0x3F000000#32 then 0 else lb j := by
      unfold Spec.lab Spec.label
      rw [ho', ho]
      by_cases hc : Spec.ov pr bx j q < Spec.lit 0x3F000000#32
      · rw [if_pos hc, if_neg (by rintro (h | h); exact hne h; exact h hc)]
      · rw [if_neg hc, if_pos (Or.inr hc)]
    exact ⟨by rw [h, hs], fun _ c => by rw [hg c, ho']⟩

end Cert.KernelIdeal.Match

end
-- ==== Proof.KMine.lean ====
/- The kernel's search for the mining's cutoff and the mined sum, as real numbers. -/
module

public import proofs.«01_k».proof.Proof.Match

@[expose] public section

set_option maxRecDepth 16384

noncomputable section

namespace Cert.KernelIdeal.KMine

open Idealize.ShloMosaic Cert.KernelIdeal Cert.KernelIdeal.Gen Lanes

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A condition's bit as a number. -/
theorem bit_coe (b : Bool) : (((((BitVec.ofBool b).setWidth 32).toInt : ℤ) : ℝ) : EReal) = if b then 1 else 0 := by
  cases b <;> simp

theorem ind_gt (n : FVec Ideal S8x1152 .f32) (x : EReal) (i : S8x1152.Idx) :
    Img.ind (F := Ideal) (cmpf .ogt n (broadcast S8x1152 x)) i = if decide (x < n i) then 1 else 0 :=
  bit_coe (decide (x < n i))

/-- The left end of cell `d` after `s` rounds, and its marks. -/
def left (M : ℝ) (s d : ℕ) : ℝ := M * d / 8 ^ s

theorem left_nonneg (M : ℝ) (h0 : 0 ≤ M) (s d : ℕ) (c : ℝ) (hc : 0 ≤ c) : 0 ≤ left M s d + M / 8 ^ (s + 1) * c := by
  unfold left
  positivity

theorem left_mark (M : ℝ) (s d i : ℕ) : left M s d + M / 8 ^ (s + 1) * ((i + 1 : ℕ) : ℝ) = M * ((8 * d + (i + 1) : ℕ) : ℝ) / 8 ^ (s + 1) := by
  unfold left
  push_cast
  rw [pow_succ]
  field_simp

theorem left_width (M : ℝ) (s d : ℕ) : (left M s (d + 1) - left M s d) / 8 = M / 8 ^ (s + 1) := by
  unfold left; push_cast; rw [pow_succ]; field_simp; ring

theorem left_step (M : ℝ) (s d m : ℕ) : left M s d + M / 8 ^ (s + 1) * (m : ℝ) = left M (s + 1) (8 * d + m) := by
  unfold left; push_cast; rw [pow_succ]; field_simp

theorem left_next (M : ℝ) (s d : ℕ) : left M (s + 1) d + M / 8 ^ (s + 1) = left M (s + 1) (d + 1) := by
  unfold left; push_cast; field_simp

theorem left_middle (M : ℝ) (d : ℕ) : (1 / 2 : ℝ) * (left M 6 d + left M 6 (d + 1)) = ((d : ℝ) + 1 / 2) * (M / 262144) := by
  unfold left; push_cast; ring

theorem middle_nonneg (M : ℝ) (h0 : 0 ≤ M) (d : ℕ) : 0 ≤ ((d : ℝ) + 1 / 2) * (M / 262144) := by positivity

theorem card_any (P : ℕ → Prop) (S : Finset ℕ) (D E : DecidablePred P) :
    ((@Finset.filter ℕ P D S).card : ℝ) = ((@Finset.filter ℕ P E S).card : ℝ) := by
  rw [Subsingleton.elim D E]

/-- Seven indicators added up from the left are the count of a filter. -/
theorem seven (P : ℕ → Prop) [DecidablePred P] :
    (0 : ℝ) + (if P 0 then 1 else 0) + (if P 1 then 1 else 0) + (if P 2 then 1 else 0) + (if P 3 then 1 else 0) + (if P 4 then 1 else 0)
      + (if P 5 then 1 else 0) + (if P 6 then 1 else 0) = (((Finset.range 7).filter P).card : ℝ) := by
  rw [Finset.card_filter]
  push_cast
  simp only [Finset.sum_range_succ, Finset.sum_range_zero]

section
variable (n : FVec Ideal S8x1152 .f32) (r : Fin 8732 → ℝ) (k : ℕ) (h : ∀ q, n (at' q) = ((r q : ℝ) : EReal)) (hr : ∀ q, 0 ≤ r q)
  (hoff : ∀ i, 8732 ≤ num i → n i = 0)
include h hr hoff

theorem countAbove_eq (x : ℝ) (hx : 0 ≤ x) : Img.countAbove n ((x : ℝ) : EReal) = (((Mine.cnt r x : ℕ) : ℝ) : EReal) := by
  classical
  unfold Img.countAbove
  rw [sumV_eq, sum_lanes _ (fun i hi => ?_)]
  · have : ∀ q, Img.ind (F := Ideal) (cmpf .ogt n (broadcast S8x1152 ((x : ℝ) : EReal))) (at' q) = (((if x < r q then 1 else 0 : ℝ)) : EReal) := by
      intro q
      rw [ind_gt, h]
      by_cases hc : x < r q
      · have : ((x : ℝ) : EReal) < r q := by exact_mod_cast hc
        simp [hc]
      · have : ¬ ((x : ℝ) : EReal) < r q := by exact_mod_cast hc
        simp [hc]
    simp only [this]
    rw [← coe_sum]
    congr 1
    unfold Mine.cnt
    rw [Finset.sum_boole]
  · rw [ind_gt, hoff i hi]
    have : ¬ ((x : ℝ) : EReal) < 0 := not_lt.mpr (by exact_mod_cast hx)
    simp [hx]

theorem maxV_greatest : Img.maxV n = ((Spec.greatest r : ℝ) : EReal) := by
  have hge : ∀ q, r q ≤ Spec.greatest r := fun q => Finset.le_sup' r (Finset.mem_univ q)
  refine maxV_eq _ _ (fun i => ?_) ?_
  · by_cases hi : num i < 8732
    · rw [← at_of_lt i hi, h]; exact_mod_cast hge _
    · rw [hoff i (by omega)]
      exact_mod_cast (hr ⟨0, by norm_num⟩).trans (hge _)
  · obtain ⟨q, -, hq⟩ := Finset.exists_mem_eq_sup' (⟨⟨0, by norm_num⟩, Finset.mem_univ _⟩ : (Finset.univ : Finset (Fin 8732)).Nonempty) r
    exact ⟨at' q, by rw [h]; exact congrArg _ hq.symm⟩

theorem greatest_nonneg : 0 ≤ Spec.greatest r := (hr ⟨0, by norm_num⟩).trans (Finset.le_sup' r (Finset.mem_univ _))

omit h hr hoff in
theorem width_eq (lo hi : ℝ) : Img.width (F := Ideal) (lo : EReal) (hi : EReal) = (((hi - lo) / 8 : ℝ) : EReal) := by
  show ((hi : EReal) - (lo : EReal)) * Spec.lit 0x3E000000#32 = _
  rw [Spec.lit_eighth, ← EReal.coe_sub, ← EReal.coe_mul]
  congr 1; ring

/-- One mark of a round. -/
theorem mark_eq (lo w c : ℝ) (hx : 0 ≤ lo + w * c) :
    (Scalar.sitofp .f32 ((Scalar.extui (Scalar.cmpf .ogt (Img.countAbove n (Scalar.addf (lo : EReal) (Scalar.mulf (w : EReal) (c : EReal))))
      (((k : ℝ) : EReal) : Ideal .f32)) : BitVec 32)) : Ideal .f32) = (((if k < Mine.cnt r (lo + w * c) then 1 else 0 : ℝ)) : EReal) := by
  have e : (Scalar.addf (F := Ideal) (φ := .f32) (lo : EReal) (Scalar.mulf (F := Ideal) (φ := .f32) (w : EReal) (c : EReal))) = ((lo + w * c : ℝ) : EReal) := by
    show (lo : EReal) + (w : EReal) * (c : EReal) = _
    rw [← EReal.coe_mul, ← EReal.coe_add]
  rw [e, countAbove_eq n r h hr hoff _ hx]
  refine (bit_coe (decide ((((k : ℝ)) : EReal) < (((Mine.cnt r (lo + w * c) : ℕ) : ℝ) : EReal)))).trans ?_
  by_cases hc : k < Mine.cnt r (lo + w * c)
  · have : (((k : ℝ)) : EReal) < (((Mine.cnt r (lo + w * c) : ℕ) : ℝ) : EReal) := by exact_mod_cast hc
    simp [hc]
  · have : ¬ (((k : ℝ)) : EReal) < (((Mine.cnt r (lo + w * c) : ℕ) : ℝ) : EReal) := by exact_mod_cast hc
    simp [hc]

theorem steps_eq (s d : ℕ) (w : ℝ) (hw : w = Spec.greatest r / 8 ^ (s + 1)) :
    Img.steps n ((k : ℝ) : EReal) ((left (Spec.greatest r) s d : ℝ) : EReal) (w : EReal)
      = (((Mine.inner r (Spec.greatest r) k s d : ℕ) : ℝ) : EReal) := by
  classical
  have hx : ∀ c : ℝ, 0 ≤ c → 0 ≤ left (Spec.greatest r) s d + w * c := by
    intro c hc
    rw [hw]
    exact left_nonneg _ (greatest_nonneg n r h hr hoff) s d c hc
  have hm : ∀ (i : ℕ) (c : ℝ), c = ((i + 1 : ℕ) : ℝ) →
      left (Spec.greatest r) s d + w * c = Spec.greatest r * ((8 * d + (i + 1) : ℕ) : ℝ) / 8 ^ (s + 1) := by
    intro i c hc
    rw [hc, hw]
    exact left_mark _ s d i
  unfold Img.steps Img.eighths
  simp only [List.foldl_cons, List.foldl_nil]
  have hone : (Scalar.ofBits .f32 0x3F800000#32 : Ideal .f32) = ((1 : ℝ) : EReal) := Spec.lit_one.trans EReal.coe_one.symm
  have htwo : (Scalar.ofBits .f32 0x40000000#32 : Ideal .f32) = ((2 : ℝ) : EReal) := Spec.lit_two
  have hthree : (Scalar.ofBits .f32 0x40400000#32 : Ideal .f32) = ((3 : ℝ) : EReal) := Spec.lit_three
  have hfour : (Scalar.ofBits .f32 0x40800000#32 : Ideal .f32) = ((4 : ℝ) : EReal) := Spec.lit_four
  have hfive : (Scalar.ofBits .f32 0x40A00000#32 : Ideal .f32) = ((5 : ℝ) : EReal) := Spec.lit_five
  have hsix : (Scalar.ofBits .f32 0x40C00000#32 : Ideal .f32) = ((6 : ℝ) : EReal) := Spec.lit_six
  have hseven : (Scalar.ofBits .f32 0x40E00000#32 : Ideal .f32) = ((7 : ℝ) : EReal) := Spec.lit_seven
  have hz : (Scalar.ofBits .f32 0x00000000#32 : Ideal .f32) = ((0 : ℝ) : EReal) := Spec.lit_zero.trans EReal.coe_zero.symm
  rw [hone, htwo, hthree, hfour, hfive, hsix, hseven, hz]
  rw [mark_eq n r k h hr hoff _ _ _ (hx 1 (by norm_num)), mark_eq n r k h hr hoff _ _ _ (hx 2 (by norm_num)),
    mark_eq n r k h hr hoff _ _ _ (hx 3 (by norm_num)), mark_eq n r k h hr hoff _ _ _ (hx 4 (by norm_num)),
    mark_eq n r k h hr hoff _ _ _ (hx 5 (by norm_num)), mark_eq n r k h hr hoff _ _ _ (hx 6 (by norm_num)),
    mark_eq n r k h hr hoff _ _ _ (hx 7 (by norm_num))]
  have hadd : ∀ a b : ℝ, Scalar.addf (F := Ideal) (φ := .f32) (a : EReal) (b : EReal) = ((a + b : ℝ) : EReal) := fun a b => (EReal.coe_add a b).symm
  simp only [hadd]
  rw [hm 0 1 (by norm_num), hm 1 2 (by norm_num), hm 2 3 (by norm_num), hm 3 4 (by norm_num), hm 4 5 (by norm_num), hm 5 6 (by norm_num),
    hm 6 7 (by norm_num)]
  unfold Mine.inner
  have h7 := seven fun i => k < Mine.cnt r (Spec.greatest r * ((8 * d + (i + 1) : ℕ) : ℝ) / 8 ^ (s + 1))
  refine congrArg _ (Eq.trans ?_ (h7.trans ?_))
  · rfl
  · exact card_any _ _ _ _

theorem round_eq (s d : ℕ) :
    Img.round n ((k : ℝ) : EReal) (((left (Spec.greatest r) s d : ℝ) : EReal), ((left (Spec.greatest r) s (d + 1) : ℝ) : EReal))
      = (((left (Spec.greatest r) (s + 1) (8 * d + Mine.inner r (Spec.greatest r) k s d) : ℝ) : EReal),
         ((left (Spec.greatest r) (s + 1) (8 * d + Mine.inner r (Spec.greatest r) k s d + 1) : ℝ) : EReal)) := by
  have hw := left_width (Spec.greatest r) s d
  unfold Img.round
  simp only [width_eq]
  rw [steps_eq n r k h hr hoff s d _ hw, hw]
  have e : ∀ a b c : ℝ, Scalar.addf (F := Ideal) (φ := .f32) (a : EReal) (Scalar.mulf (F := Ideal) (φ := .f32) (b : EReal) (c : EReal))
      = ((a + b * c : ℝ) : EReal) := fun a b c => by
    show (a : EReal) + (b : EReal) * (c : EReal) = _
    rw [← EReal.coe_mul, ← EReal.coe_add]
  have hadd : ∀ a b : ℝ, Scalar.addf (F := Ideal) (φ := .f32) (a : EReal) (b : EReal) = ((a + b : ℝ) : EReal) := fun a b => (EReal.coe_add a b).symm
  rw [e, hadd, left_step, left_next]

theorem interval_eq : Img.interval n ((k : ℝ) : EReal)
    = (((left (Spec.greatest r) 6 (Mine.cellAt r (Spec.greatest r) k 6) : ℝ) : EReal), ((left (Spec.greatest r) 6 (Mine.cellAt r (Spec.greatest r) k 6 + 1) : ℝ) : EReal)) := by
  have h0 : ((Scalar.ofBits .f32 0x00000000#32 : Ideal .f32), Img.maxV n) = (((left (Spec.greatest r) 0 0 : ℝ) : EReal), ((left (Spec.greatest r) 0 (0 + 1) : ℝ) : EReal)) := by
    rw [maxV_greatest n r h hr hoff]
    refine Prod.ext (Spec.lit_zero.trans ?_) ?_
    · unfold left; simp
    · unfold left; simp
  unfold Img.interval
  simp only [List.foldl_cons, List.foldl_nil]
  rw [h0, round_eq n r k h hr hoff, round_eq n r k h hr hoff, round_eq n r k h hr hoff, round_eq n r k h hr hoff, round_eq n r k h hr hoff,
    round_eq n r k h hr hoff]
  rfl

theorem cutoff_eq : Img.cutoff n ((k : ℝ) : EReal) = ((Spec.cutoff r k : ℝ) : EReal) := by
  unfold Img.cutoff
  rw [interval_eq n r k h hr hoff]
  show Spec.lit 0x3F000000#32 * (((left (Spec.greatest r) 6 _ : ℝ) : EReal) + ((left (Spec.greatest r) 6 _ : ℝ) : EReal)) = _
  rw [Spec.lit_half, ← EReal.coe_add, ← EReal.coe_mul]
  refine congrArg _ ?_
  unfold Spec.cutoff
  exact left_middle _ _

theorem cutoff_nonneg : 0 ≤ Spec.cutoff r k := by
  unfold Spec.cutoff
  exact middle_nonneg _ (greatest_nonneg n r h hr hoff) _

/-- The mined part of the confidence loss. -/
theorem mined_eq : Img.mined n ((k : ℝ) : EReal) = ((Spec.mined r k : ℝ) : EReal) := by
  classical
  have hc := cutoff_nonneg n r k h hr hoff
  unfold Img.mined
  rw [cutoff_eq n r k h hr hoff, countAbove_eq n r h hr hoff _ hc, sumV_eq]
  have hsel : ∀ i, (select (cmpf .ogt n (broadcast S8x1152 ((Spec.cutoff r k : ℝ) : EReal))) n (Img.cst 0x00000000#32) : FVec Ideal S8x1152 .f32) i
      = if ((Spec.cutoff r k : ℝ) : EReal) < n i then n i else 0 := by
    intro i
    rw [← Spec.lit_zero]
    exact Match.sel_gt _ _ _ _
  rw [sum_lanes _ (fun i hi => by rw [hsel, hoff i hi]; simp)]
  simp only [hsel, h]
  have hs : ∀ q, (if ((Spec.cutoff r k : ℝ) : EReal) < r q then ((r q : ℝ) : EReal) else 0) = (((if Spec.cutoff r k < r q then r q else 0 : ℝ)) : EReal) := by
    intro q
    by_cases hq : Spec.cutoff r k < r q
    · rw [if_pos hq, if_pos (by exact_mod_cast hq)]
    · rw [if_neg hq, if_neg (by exact_mod_cast hq), EReal.coe_zero]
  simp only [hs]
  rw [← coe_sum]
  show ((∑ q, (if Spec.cutoff r k < r q then r q else 0) : ℝ) : EReal)
    + (((k : ℝ) : EReal) - (((Mine.cnt r (Spec.cutoff r k) : ℕ) : ℝ) : EReal)) * ((Spec.cutoff r k : ℝ) : EReal) = _
  rw [← EReal.coe_sub, ← EReal.coe_mul, ← EReal.coe_add]
  congr 1
end

end Cert.KernelIdeal.KMine

end
-- ==== Proof.Conf.lean ====
/- The confidence loss of finite scores is a nonnegative real number. -/
module

public import proofs.«01_k».proof.Proof.Fold
public import proofs.«01_k».proof.Proof.Geo

@[expose] public section

noncomputable section

namespace Cert.Spec

open Idealize.ShloMosaic

theorem sum_coe {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable (s : Fin 21 → EReal) (hs : ∀ c, ∃ x : ℝ, s c = (x : EReal))

theorem top_spec : (∀ c, s c ≤ top s) ∧ ∃ c, s c = top s := by
  obtain ⟨m, -, hm⟩ := Finset.exists_max_image (Finset.univ : Finset (Fin 21)) s ⟨0, Finset.mem_univ _⟩
  have : top s = s m := Fold.fold_max_eq s _ _ (lit_bot.le.trans bot_le) (fun i => hm i (Finset.mem_univ _)) ⟨m, rfl⟩
  rw [this]
  exact ⟨fun c => hm c (Finset.mem_univ _), m, rfl⟩

include hs

/-- The shifted scores and the logarithm of their exponentials' sum as real numbers. -/
theorem conf_real : ∃ t : Fin 21 → ℝ, (∀ c, s c - top s = (t c : EReal))
    ∧ Ideal.log (0 + ∑ k, Ideal.exp (s k - top s)) = ((Real.log (∑ k, Real.exp (t k)) : ℝ) : EReal)
    ∧ ∀ c, t c ≤ Real.log (∑ k, Real.exp (t k)) := by
  choose x hx using hs
  obtain ⟨-, m, hm⟩ := top_spec s
  have ht : ∀ c, s c - top s = ((x c - x m : ℝ) : EReal) := fun c => by rw [← hm, hx, hx, EReal.coe_sub]
  have hpos : 0 < ∑ k, Real.exp (x k - x m) := Finset.sum_pos (fun k _ => Real.exp_pos _) ⟨0, Finset.mem_univ _⟩
  refine ⟨fun c => x c - x m, ht, ?_, fun c => ?_⟩
  · have e : ∀ k, Ideal.exp (s k - top s) = ((Real.exp (x k - x m) : ℝ) : EReal) := fun k => by rw [ht]; rfl
    simp only [e]
    rw [zero_add, ← sum_coe]
    show (if _ then _ else _) = _
    rw [if_neg (not_le.mpr hpos)]
  · rw [Real.le_log_iff_exp_le hpos]
    exact Finset.single_le_sum (f := fun k => Real.exp (x k - x m)) (fun k _ => (Real.exp_pos _).le) (Finset.mem_univ c)

/-- The two ways of writing the loss agree, and it is a nonnegative real number. -/
theorem conf_flip (c : Fin 21) : Ideal.log (0 + ∑ k, Ideal.exp (s k - top s)) - (s c - top s) = conf s c := by
  obtain ⟨t, h1, h2, -⟩ := conf_real s hs
  unfold conf
  rw [h1, h2, ← EReal.coe_sub, ← EReal.coe_sub, ← EReal.coe_neg]
  congr 1; ring

theorem conf_nonneg (c : Fin 21) : ∃ y : ℝ, 0 ≤ y ∧ conf s c = (y : EReal) := by
  obtain ⟨t, h1, h2, h3⟩ := conf_real s hs
  refine ⟨Real.log (∑ k, Real.exp (t k)) - t c, by linarith [h3 c], ?_⟩
  rw [← conf_flip s hs, h1, h2, EReal.coe_sub]

end Cert.Spec

end
-- ==== Proof.KConf.lean ====
/- The kernel's confidence and location losses, read at a lane. -/
module

public import proofs.«01_k».proof.Proof.Match
public import proofs.«01_k».proof.Proof.Conf

@[expose] public section

noncomputable section

namespace Cert.KernelIdeal.KConf

open Idealize.ShloMosaic Cert.KernelIdeal Cert.KernelIdeal.Gen Lanes

/-- A fold of vectors read at a lane. -/
theorem foldl_apply {β : Type} {α : Type} (G : (S8x1152.Idx → α) → β → S8x1152.Idx → α) (g : α → β → α) (i : S8x1152.Idx)
    (h : ∀ a c, G a c i = g (a i) c) (l : List β) : ∀ v, (l.foldl G v) i = l.foldl g (v i) := by
  induction l with
  | nil => intro v; rfl
  | cons c l ih => intro v; rw [List.foldl_cons, List.foldl_cons, ih, h]

theorem foldl_add {β : Type} (f : β → EReal) (l : List β) : ∀ b, l.foldl (fun a c => a + f c) b = b + (l.map f).sum := by
  induction l with
  | nil => intro b; simp
  | cons c l ih => intro b; rw [List.foldl_cons, ih, List.map_cons, List.sum_cons, add_assoc]

theorem foldl_max {β : Type} (f : β → EReal) (l : List β) : ∀ b,
    (b ≤ l.foldl (fun a c => max a (f c)) b ∧ ∀ c ∈ l, f c ≤ l.foldl (fun a c => max a (f c)) b)
    ∧ (l.foldl (fun a c => max a (f c)) b = b ∨ ∃ c ∈ l, l.foldl (fun a c => max a (f c)) b = f c) := by
  induction l with
  | nil => intro b; exact ⟨⟨le_rfl, by simp⟩, Or.inl rfl⟩
  | cons c l ih =>
    intro b
    obtain ⟨⟨h1, h2⟩, h3⟩ := ih (max b (f c))
    rw [List.foldl_cons]
    refine ⟨⟨(le_max_left _ _).trans h1, fun d hd => ?_⟩, ?_⟩
    · rcases List.mem_cons.mp hd with rfl | hd
      · exact (le_max_right _ _).trans h1
      · exact h2 d hd
    · rcases h3 with h3 | ⟨d, hd, h3⟩
      · rw [h3]
        rcases max_choice b (f c) with h | h
        · exact Or.inl h
        · exact Or.inr ⟨c, by simp, h⟩
      · exact Or.inr ⟨d, by simp [hd], h3⟩

variable (sc : Fin 21 → FVec Ideal S8x1152 .f32) (lab : IVec S8x1152 32) (i : S8x1152.Idx)

theorem topScore_apply : Img.topScore sc i = Spec.top fun c => sc c i := by
  have e : Img.topScore sc i = [(1 : Fin 21), 2, 3, 4, 5, 6, 7, 8, 9, 10, 11, 12, 13, 14, 15, 16, 17, 18, 19, 20].foldl
      (fun a c => max a (sc c i)) (sc 0 i) := foldl_apply _ _ i (fun a c => rfl) _ _
  rw [e]
  obtain ⟨⟨h1, h2⟩, h3⟩ := foldl_max (fun c => sc c i) [(1 : Fin 21), 2, 3, 4, 5, 6, 7, 8, 9, 10, 11, 12, 13, 14, 15, 16, 17, 18, 19, 20] (sc 0 i)
  have hm : ∀ c : Fin 21, c = 0 ∨ c ∈ [(1 : Fin 21), 2, 3, 4, 5, 6, 7, 8, 9, 10, 11, 12, 13, 14, 15, 16, 17, 18, 19, 20] := by decide
  symm
  refine Fold.fold_max_eq (fun c => sc c i) _ _ (Spec.lit_bot.le.trans bot_le) (fun c => ?_) ?_
  · rcases hm c with rfl | hc
    · exact h1
    · exact h2 c hc
  · rcases h3 with h3 | ⟨c, -, h3⟩
    · exact ⟨0, h3.symm⟩
    · exact ⟨c, h3.symm⟩

theorem classes_eq : Img.classes = (List.finRange 21).map fun c => (c, BitVec.ofNat 32 c.val) := by decide

theorem sumExp_apply : Img.sumExp sc i = 0 + ∑ k, Ideal.exp (sc k i - Spec.top fun c => sc c i) := by
  have e : Img.sumExp sc i = Img.classes.foldl (fun a c => a + Ideal.exp (sc c.1 i - Img.topScore sc i)) (Spec.lit 0x00000000#32) :=
    foldl_apply _ _ i (fun a c => rfl) _ _
  rw [e, foldl_add, Spec.lit_zero, classes_eq, List.map_map, topScore_apply, Fin.sum_univ_def]
  rfl

theorem picked_apply (c : Fin 21) (hc : lab i = BitVec.ofNat 32 c.val) : Img.picked lab sc i = sc c i - Spec.top fun c => sc c i := by
  have e : Img.picked lab sc i = Img.classes.foldl (fun a d => if lab i = d.2 then sc d.1 i - Img.topScore sc i else a) (Spec.lit 0x00000000#32) :=
    foldl_apply _ _ i (fun a d => Match.sel_ieq _ _ _ _) _ _
  rw [e, classes_eq, List.foldl_map, topScore_apply]
  have hsort : (List.finRange 21).Pairwise (· < ·) := by decide
  have hinj : ∀ a b : Fin 21, BitVec.ofNat 32 a.val = BitVec.ofNat 32 b.val → a = b := by decide
  rcases Fold.last (fun d : Fin 21 => lab i = BitVec.ofNat 32 d.val) (fun d => sc d i - Spec.top fun c => sc c i) (Spec.lit 0x00000000#32)
    (List.finRange 21) hsort with ⟨-, h⟩ | ⟨d, -, h, hd, -⟩
  · exact absurd hc (h c (List.mem_finRange c))
  · have : d = c := hinj _ _ (hd.symm.trans hc)
    rw [this] at h
    convert h

theorem cls_eq (c : Fin 21) : Spec.cls (BitVec.ofNat 32 c.val) = c := by revert c; decide

theorem conf_apply (hs : ∀ c, ∃ x : ℝ, sc c i = (x : EReal)) (hl : ∃ c : Fin 21, lab i = BitVec.ofNat 32 c.val) :
    Img.conf lab sc i = Spec.conf (fun c => sc c i) (Spec.cls (lab i)) := by
  obtain ⟨c, hc⟩ := hl
  rw [hc, cls_eq, ← Spec.conf_flip _ hs, ← picked_apply sc lab i c hc, ← sumExp_apply]
  rfl

theorem bit_coe (b : Bool) : (((((BitVec.ofBool b).setWidth 32).toInt : ℤ) : ℝ) : EReal) = if b then 1 else 0 := by
  cases b <;> simp

theorem pos_apply : Img.pos lab i = BitVec.ofBool (lab i != 0#32) := rfl

theorem ind_pos : Img.ind (F := Ideal) (Img.pos lab) i = Spec.ind (lab i) := by
  refine (bit_coe (lab i != 0#32)).trans ?_
  unfold Spec.ind
  by_cases h : lab i = 0#32
  · simp [h]
  · have : (lab i != 0#32) = true := bne_iff_ne.mpr h
    rw [this, if_pos rfl, if_pos (show lab i ≠ 0 from h)]

theorem negv_apply : Img.negv lab sc i = if lab i ≠ 0 ∨ 8732 ≤ num i then 0 else Img.conf lab sc i := by
  have e : Img.negv lab sc i = Scalar.select (Img.pos lab i ||| (Img.valid i ^^^ 1#1)) (Spec.lit 0x00000000#32) (Img.conf lab sc i) := rfl
  rw [e, Spec.lit_zero, pos_apply]
  have hv := valid_eq i
  have h01 : Img.valid i = 0#1 ∨ Img.valid i = 1#1 := by
    generalize Img.valid i = b; revert b; decide
  by_cases h : lab i = 0#32
  · have h' : ¬ (lab i ≠ 0) := not_not.mpr h
    rcases h01 with h0 | h0
    · have hn : 8732 ≤ num i := by
        by_contra hc
        rw [hv.mpr (by omega)] at h0
        exact absurd h0 (by decide)
      rw [if_pos (Or.inr hn), h0, h]; rfl
    · have hn : num i < 8732 := hv.mp h0
      rw [if_neg (by rintro (h2 | h2); exact h' h2; omega), h0, h]; rfl
  · have : (lab i != 0#32) = true := bne_iff_ne.mpr h
    rw [if_pos (Or.inl (show lab i ≠ 0 from h)), this]
    rcases h01 with h0 | h0 <;> rw [h0] <;> rfl

variable (p : Img.Pri Ideal) (g lc : Fin 4 → FVec Ideal S8x1152 .f32)

theorem target_apply (b : Fin 4 → EReal) (hb : ∀ c, g c i = b c) (c : Fin 4) :
    Img.target p g c i = Spec.target (Match.pri p i) b c := by
  obtain rfl : b = fun c => g c i := funext fun c => (hb c).symm
  match c with
  | 0 =>
    show _ = Ideal.div (Ideal.div (g 0 i + g 2 i) _ - p.cx i) (Ideal.div (p.w i) _)
    rw [Spec.div_two]; rfl
  | 1 =>
    show _ = Ideal.div (Ideal.div (g 1 i + g 3 i) _ - p.cy i) (Ideal.div (p.h i) _)
    rw [Spec.div_two]; rfl
  | 2 => rfl
  | 3 => rfl

theorem smooth_apply (x t : FVec Ideal S8x1152 .f32) : Img.smooth x t i = Spec.smooth (x i) (t i) := by
  unfold Spec.smooth
  exact Match.sel_lt _ _ _ _

theorem smoothAll_apply (b : Fin 4 → EReal) (hb : ∀ c, g c i = b c) :
    Img.smoothAll p g lc i = ∑ c, Spec.smooth (lc c i) (Spec.target (Match.pri p i) b c) := by
  have e : Img.smoothAll p g lc i = [(0 : Fin 4), 1, 2, 3].foldl (fun a c => a + Spec.smooth (lc c i) (Img.target p g c i)) (Spec.lit 0x00000000#32) :=
    foldl_apply (fun a c => addf a (Img.smooth (lc c) (Img.target p g c))) (fun a c => a + Spec.smooth (lc c i) (Img.target p g c i)) i
      (fun a c => congrArg (fun y : EReal => a i + y) (smooth_apply i (lc c) (Img.target p g c))) _ _
  rw [e]
  simp only [target_apply i p g b hb]
  rw [foldl_add, Spec.lit_zero, zero_add, Fin.sum_univ_def]
  rfl

end Cert.KernelIdeal.KConf

end
-- ==== Proof.KLoss.lean ====
/- One image's loss as the kernel computes it is the loss of the image. -/
module

public import proofs.«01_k».proof.Proof.Label
public import proofs.«01_k».proof.Proof.KMine
public import proofs.«01_k».proof.Proof.KConf

@[expose] public section

set_option maxRecDepth 16384

noncomputable section

namespace Cert.KernelIdeal.KLoss

open Idealize.ShloMosaic Cert.KernelIdeal Cert.KernelIdeal.Gen Lanes

/-- The words of the classes. -/
def InClasses (l : BitVec 32) : Prop := ∃ c : Fin 21, l = BitVec.ofNat 32 c.val

/-- The label of a prior is one of the objects' or 0. -/
theorem lab_inClasses (pr : Fin 8732 → Fin 4 → EReal) (bx : Fin 16 → Fin 4 → EReal) (lb : Fin 16 → BitVec 32) (hlb : ∀ j, InClasses (lb j))
    (q : Fin 8732) : InClasses (Spec.lab pr bx lb q) := by
  unfold Spec.lab Spec.label
  split
  · exact hlb _
  · exact ⟨0, rfl⟩

theorem ind_zero (l : BitVec 32) (h : l = 0) : Spec.ind l = 0 := by unfold Spec.ind; rw [if_neg (not_not.mpr h)]

/-- The mined values are nonnegative real numbers. -/
theorem neg_real (pr : Fin 8732 → Fin 4 → EReal) (bx : Fin 16 → Fin 4 → EReal) (lb : Fin 16 → BitVec 32) (sc : Fin 8732 → Fin 21 → EReal)
    (hsc : ∀ q c, ∃ x : ℝ, sc q c = (x : EReal)) (q : Fin 8732) :
    0 ≤ (Spec.neg pr bx lb sc q).toReal ∧ Spec.neg pr bx lb sc q = (((Spec.neg pr bx lb sc q).toReal : ℝ) : EReal) := by
  unfold Spec.neg
  split
  · simp
  · obtain ⟨y, hy, e⟩ := Spec.conf_nonneg (sc q) (hsc q) (Spec.cls (Spec.lab pr bx lb q))
    unfold Spec.confAt
    rw [e]
    exact ⟨by rwa [EReal.toReal_coe], by rw [EReal.toReal_coe]⟩

/-- The number of positive priors. -/
theorem sum_ind (l : Fin 8732 → BitVec 32) [DecidablePred fun q => l q ≠ 0] :
    ∑ q, Spec.ind (l q) = (((((Finset.univ.filter fun q => l q ≠ 0).card : ℕ) : ℝ)) : EReal) := by
  classical
  have : ∀ q, Spec.ind (l q) = (((if l q ≠ 0 then 1 else 0 : ℝ)) : EReal) := by
    intro q
    unfold Spec.ind
    by_cases h : l q ≠ 0
    · rw [if_pos h, if_pos h]; exact EReal.coe_one.symm
    · rw [if_neg h, if_neg h]; exact EReal.coe_zero.symm
  simp only [this]
  rw [← Spec.sum_coe, Finset.sum_boole]

variable {p : Img.Pri Ideal} {pr : Fin 8732 → Fin 4 → EReal} {bx : Fin 16 → Fin 4 → EReal} (H : Match.Held p pr bx) (lb : Fin 16 → BitVec 32)
  (hlb : ∀ j, InClasses (lb j)) (lc : Fin 4 → FVec Ideal S8x1152 .f32) (lc' : Fin 8732 → Fin 4 → EReal) (hlc : ∀ q c, lc c (at' q) = lc' q c)
  (sc : Fin 21 → FVec Ideal S8x1152 .f32) (sc' : Fin 8732 → Fin 21 → EReal) (hsc : ∀ q c, sc c (at' q) = sc' q c)
  (hfin : ∀ q c, ∃ x : ℝ, sc' q c = (x : EReal))
include H

theorem ind_at (q : Fin 8732) : Img.ind (F := Ideal) (Img.pos (Img.matched p bx lb).lab) (at' q) = Spec.ind (Spec.lab pr bx lb q) := by
  rw [KConf.ind_pos, (Match.lab_at H lb q).1]

theorem ind_off (i : S8x1152.Idx) (hi : 8732 ≤ num i) : Img.ind (F := Ideal) (Img.pos (Img.matched p bx lb).lab) i = 0 := by
  rw [KConf.ind_pos, Match.lab_off H lb i hi]
  exact ind_zero _ rfl

theorem npos_eq : Img.sumV (F := Ideal) (Img.ind (Img.pos (Img.matched p bx lb).lab)) = ((Spec.npos pr bx lb : ℝ) : EReal) := by
  classical
  rw [sumV_eq, sum_lanes _ (ind_off H lb)]
  simp only [ind_at H lb]
  rw [sum_ind]
  unfold Spec.npos
  congr!

include hlb hsc hfin

theorem conf_at (q : Fin 8732) : Img.conf (Img.matched p bx lb).lab sc (at' q) = Spec.confAt pr bx lb sc' q := by
  have hs : (fun c => sc c (at' q)) = sc' q := funext fun c => hsc q c
  rw [KConf.conf_apply sc _ _ (fun c => by rw [hsc]; exact hfin q c) (by
    rw [(Match.lab_at H lb q).1]; exact lab_inClasses pr bx lb hlb q), hs, (Match.lab_at H lb q).1]
  rfl

theorem conf_sum : Img.sumV (mulf (Img.conf (Img.matched p bx lb).lab sc) (Img.ind (Img.pos (Img.matched p bx lb).lab)))
    = ∑ q, Spec.confAt pr bx lb sc' q * Spec.ind (Spec.lab pr bx lb q) := by
  rw [sumV_eq, sum_lanes _ (fun i hi => ?_)]
  · refine Finset.sum_congr rfl fun q _ => ?_
    show Img.conf (Img.matched p bx lb).lab sc (at' q) * Img.ind (F := Ideal) (Img.pos (Img.matched p bx lb).lab) (at' q) = _
    rw [conf_at H lb hlb sc sc' hsc hfin, ind_at H]
  · show Img.conf (Img.matched p bx lb).lab sc i * Img.ind (F := Ideal) (Img.pos (Img.matched p bx lb).lab) i = 0
    rw [ind_off H lb i hi, mul_zero]

theorem negv_at (q : Fin 8732) : Img.negv (Img.matched p bx lb).lab sc (at' q) = Spec.neg pr bx lb sc' q := by
  rw [KConf.negv_apply, (Match.lab_at H lb q).1, num_at, conf_at H lb hlb sc sc' hsc hfin]
  have := q.isLt
  unfold Spec.neg
  by_cases h : Spec.lab pr bx lb q ≠ 0
  · rw [if_pos (Or.inl h), if_pos h]
  · rw [if_neg (by rintro (h2 | h2); exact h h2; omega), if_neg h]

theorem mined_at : Img.mined (Img.negv (Img.matched p bx lb).lab sc) (Scalar.mulf (Img.sumV (Img.ind (Img.pos (Img.matched p bx lb).lab)))
      (Scalar.ofBits .f32 0x40400000#32))
    = ((Spec.mined (fun q => (Spec.neg pr bx lb sc' q).toReal) (Spec.npos pr bx lb * 3) : ℝ) : EReal) := by
  have hk : (Scalar.mulf (Img.sumV (Img.ind (Img.pos (Img.matched p bx lb).lab))) (Scalar.ofBits .f32 0x40400000#32) : Ideal .f32)
      = (((Spec.npos pr bx lb * 3 : ℕ) : ℝ) : EReal) := by
    rw [npos_eq H lb]
    show ((Spec.npos pr bx lb : ℝ) : EReal) * Spec.lit 0x40400000#32 = _
    rw [Spec.lit_three, ← EReal.coe_mul]
    push_cast
    rfl
  rw [hk]
  refine KMine.mined_eq _ _ _ (fun q => ?_) (fun q => (neg_real pr bx lb sc' hfin q).1) (fun i hi => ?_)
  · rw [negv_at H lb hlb sc sc' hsc hfin]; exact (neg_real pr bx lb sc' hfin q).2
  · rw [KConf.negv_apply, if_pos (Or.inr hi)]

omit hlb hsc hfin in
include hlc in
theorem loc_sum : Img.sumV (mulf (Img.smoothAll p (Img.matched p bx lb).g lc) (Img.ind (Img.pos (Img.matched p bx lb).lab)))
    = ∑ q, Spec.locAt pr bx lc' q * Spec.ind (Spec.lab pr bx lb q) := by
  rw [sumV_eq, sum_lanes _ (fun i hi => ?_)]
  · refine Finset.sum_congr rfl fun q _ => ?_
    show Img.smoothAll p (Img.matched p bx lb).g lc (at' q) * Img.ind (F := Ideal) (Img.pos (Img.matched p bx lb).lab) (at' q) = _
    rw [ind_at H]
    by_cases h : Spec.lab pr bx lb q = 0
    · rw [ind_zero _ h, mul_zero, mul_zero]
    · rw [KConf.smoothAll_apply _ p _ lc _ ((Match.lab_at H lb q).2 h), H.at_prior]
      simp only [hlc]
      rfl
  · show Img.smoothAll p (Img.matched p bx lb).g lc i * Img.ind (F := Ideal) (Img.pos (Img.matched p bx lb).lab) i = 0
    rw [ind_off H lb i hi, mul_zero]

include hlc in
/-- One image's loss. -/
theorem loss_eq : Img.loss p bx lb lc sc = Spec.loss pr bx lb lc' sc' := by
  unfold Img.loss Img.lossOf Spec.loss
  rw [conf_sum H lb hlb sc sc' hsc hfin, mined_at H lb hlb sc sc' hsc hfin, loc_sum H lb lc lc' hlc, npos_eq H lb]
  rfl

end Cert.KernelIdeal.KLoss

end
-- ==== Proof.Pre.lean ====
/- What the precondition says of the arguments. -/
module

public import proofs.«01_k».proof.Pre_proper
public import proofs.«01_k».proof.Proof.KLoss
public import Idealize.ShloMosaic.Lib.Pointwise

@[expose] public section

set_option maxRecDepth 16384

noncomputable section

namespace Cert.Pre_proper

open Idealize.ShloMosaic

instance facts : Cert.Pre_proper.Facts where
  slices_S8732x4_S8732x2_0_0 := by decide
  slices_S8732x4_S8732x2_0_2 := by decide
  bcast_S_S8732x2 := by decide
  slices_S64x16x4_S64x16x1_0_0_2 := by decide
  shapeCasts_S64x16x1_S64x16 := by decide
  slices_S64x16x4_S64x16x1_0_0_0 := by decide
  slices_S64x16x4_S64x16x1_0_0_3 := by decide
  slices_S64x16x4_S64x16x1_0_0_1 := by decide
  bcast_S_S64x8732x21 := by decide
  bcast_S_S64x16 := by decide
  slices_S8732x2_S8732x1_0_0 := by decide
  shapeCasts_S8732x1_S8732 := by decide
  slices_S8732x2_S8732x1_0_1 := by decide
  bcast_S_S8732 := by decide

variable (x0 : FVec Ideal S64x8732x4 .f32) (x1 : FVec Ideal S64x8732x21 .f32) (x2 : FVec Ideal S64x16x4 .f32) (x3 : IVec S64x16 32)
  (x4 : FVec Ideal S8732x4 .f32)

theorem holds_of_bit {p : Prop} [Decidable p] (h : BitVec.ofBool (decide p) = 1#1) : p := by
  by_contra hp
  rw [decide_eq_false hp] at h
  exact absurd h (by decide)

theorem bit_true {t : Bool} (h : BitVec.ofBool t = 1#1) : t = true := by
  cases t
  · exact absurd h (by decide)
  · rfl

theorem box_area_at (h : (fn (F := Ideal) x0 x1 x2 x3 x4).2.1 = fun _ => 1#1) (b : Fin 64) (j : Fin 16) :
    0 ≤ (x2 (ix3 b j 2) - x2 (ix3 b j 0)) * (x2 (ix3 b j 3) - x2 (ix3 b j 1)) := by
  have h1 := congrFun h (ix2 b j)
  unfold fn fn_part1 fn_part2 at h1
  dsimp only at h1
  pointwise at h1
  exact holds_of_bit h1

theorem prior_area_at (h : (fn (F := Ideal) x0 x1 x2 x3 x4).2.2.1 = fun _ => 1#1) (q : Fin 8732) :
    0 < Spec.area (Spec.corner fun k => x4 (ix2 q k)) := by
  have h1 := congrFun h (ix1 q)
  unfold fn fn_part1 fn_part2 at h1
  dsimp only at h1
  pointwise at h1
  exact holds_of_bit h1

theorem reach_at (h : (fn (F := Ideal) x0 x1 x2 x3 x4).2.2.2.1 = fun _ => 1#1) (b : Fin 64) (j : Fin 16) :
    min (x2 (ix3 b j 2)) (x2 (ix3 b j 3)) ≤ Spec.lit 0x41180000#32 := by
  have h1 := congrFun h (ix2 b j)
  unfold fn fn_part1 fn_part2 at h1
  dsimp only at h1
  pointwise at h1
  exact holds_of_bit h1

theorem finite_at (h : (fn (F := Ideal) x0 x1 x2 x3 x4).1 = fun _ => 1#1) (b : Fin 64) (q : Fin 8732) (k : Fin 21) :
    ∃ x : ℝ, x1 (ix3 b q k) = x := by
  have h1 := congrFun h (ix3 b q k)
  unfold fn fn_part1 fn_part2 at h1
  dsimp only at h1
  pointwise at h1
  have h2 : max (x1 (ix3 b q k)) (-x1 (ix3 b q k)) < (⊤ : EReal) := (holds_of_bit h1).trans_eq Spec.lit_top
  rw [max_lt_iff] at h2
  exact ⟨(x1 (ix3 b q k) : EReal).toReal, (EReal.coe_toReal h2.1.ne fun hb => h2.2.ne (by rw [hb]; rfl)).symm⟩

theorem classes_at (h : (fn (F := Ideal) x0 x1 x2 x3 x4).2.2.2.2.1 = fun _ => 1#1) (h' : (fn (F := Ideal) x0 x1 x2 x3 x4).2.2.2.2.2 = fun _ => 1#1)
    (b : Fin 64) (j : Fin 16) : KernelIdeal.KLoss.InClasses (x3 (ix2 b j)) := by
  have h1 := congrFun h (ix2 b j)
  have h2 := congrFun h' (ix2 b j)
  unfold fn fn_part1 fn_part2 at h1 h2
  dsimp only at h1 h2
  pointwise at h1 h2
  generalize x3 (ix2 b j) = l at h1 h2
  have h3 : (0#32).sle l = true := bit_true h1
  have h4 : l.sle 20#32 = true := bit_true h2
  have h5 : l.toNat ≤ 20 := by
    rw [BitVec.sle_eq_decide, decide_eq_true_eq, BitVec.toInt_eq_toNat_cond] at h3 h4
    have e1 : (20#32).toInt = 20 := rfl
    have e0 : (if 2 * (0#32).toNat < 2 ^ 32 then ((0#32).toNat : Int) else ((0#32).toNat : Int) - ((2 ^ 32 : Nat) : Int)) = 0 := rfl
    have e2 : (if 2 * (20#32).toNat < 2 ^ 32 then ((20#32).toNat : Int) else ((20#32).toNat : Int) - ((2 ^ 32 : Nat) : Int)) = 20 := rfl
    simp only [BitVec.toInt_eq_toNat_cond, e0, e1, e2] at h3 h4
    split at h4 <;> omega
  exact ⟨⟨l.toNat, by omega⟩, by simp⟩
end Cert.Pre_proper
end
-- ==== Proof.Bridge.lean ====
/- What the body's run stores, as the sum of the four images' losses over what it loads. -/
module

public import proofs.«01_k».proof.Proof.Gen.KernelIdeal.Frame
public import proofs.«01_k».proof.Proof.Img

@[expose] public section

set_option maxRecDepth 16384

noncomputable section

namespace Cert.KernelIdeal.Img

open Idealize.ShloMosaic Idealize.ShloMosaic.TcCoe Idealize.ShloMosaic.Tactic Cert.KernelIdeal Cert.KernelIdeal.Gen

variable {F : FTy → Type} [FloatOps F]

theorem inbB (g : Fin 4) (j : Fin 16) (c : Fin 4) :
    ∀ a, (![g.val, 0, j.val, c.val] : Fin 4 → Nat) a + S1x1x1x1.size a ≤ S4x1x16x4.size a := by revert g j c; decide
theorem inbL (g : Fin 4) (j : Fin 16) :
    ∀ a, (![g.val, 0, 0, j.val] : Fin 4 → Nat) a + S1x1x1x1.size a ≤ S4x1x1x16.size a := by revert g j; decide
theorem inbP (k : Fin 4) : ∀ a, (![k.val, 0, 0] : Fin 3 → Nat) a + S1x8x1152.size a ≤ S4x8x1152.size a := by revert k; decide
theorem inbC (g c : Fin 4) : ∀ a, (![g.val, c.val, 0, 0] : Fin 4 → Nat) a + S1x1x8x1152.size a ≤ S4x4x8x1152.size a := by
  revert g c; decide
theorem inbS (g : Fin 4) (c : Fin 21) :
    ∀ a, (![g.val, c.val, 0, 0] : Fin 4 → Nat) a + S1x1x8x1152.size a ≤ S4x21x8x1152.size a := by revert g c; decide

section
variable (arg1 : Memref sig .tc .smem S4x1x16x4 .f32) (harg1 : arg1.IsWhole) (arg2 : Memref sig .tc .smem S4x1x1x16 .i32)
  (harg2 : arg2.IsWhole) (arg3 : Memref sig .tc .vmem S4x8x1152 .f32) (harg3 : arg3.IsWhole)
  (arg4 : Memref sig .tc .vmem S4x4x8x1152 .f32) (harg4 : arg4.IsWhole) (arg5 : Memref sig .tc .vmem S4x21x8x1152 .f32)
  (harg5 : arg5.IsWhole)
  (x0 : Vec F S4x1x16x4 .f32) (x1 : Vec F S4x1x1x16 .i32) (x2 : Vec F S4x8x1152 .f32) (x3 : Vec F S4x4x8x1152 .f32)
  (x4 : Vec F S4x21x8x1152 .f32)

/-- The loads. -/
def ldB (g : Fin 4) (j : Fin 16) (c : Fin 4) : F .f32 :=
  View.readAt (Elt F) arg1.view (Rect.unit (s := S4x1x16x4) ![g.val, 0, j.val, c.val] S1x1x1x1.size (inbB g j c)).toLoadRect (harg1.unread x0)
    (Shape.Idx.first (s := S1x1x1x1) (by decide))
def ldL (g : Fin 4) (j : Fin 16) : BitVec 32 :=
  View.readAt (Elt F) arg2.view (Rect.unit (s := S4x1x1x16) ![g.val, 0, 0, j.val] S1x1x1x1.size (inbL g j)).toLoadRect (harg2.unread x1)
    (Shape.Idx.first (s := S1x1x1x1) (by decide))
def ldP (k : Fin 4) : FVec F S8x1152 .f32 :=
  shapeCast S8x1152 (View.readAt (Elt F) arg3.view (Rect.unit (s := S4x8x1152) ![k.val, 0, 0] S1x8x1152.size (inbP k)).toLoadRect (harg3.unread x2))
    shapeCasts_S1x8x1152_S8x1152
def ldC (g c : Fin 4) : FVec F S8x1152 .f32 :=
  shapeCast S8x1152 (View.readAt (Elt F) arg4.view (Rect.unit (s := S4x4x8x1152) ![g.val, c.val, 0, 0] S1x1x8x1152.size (inbC g c)).toLoadRect
    (harg4.unread x3)) shapeCasts_S1x1x8x1152_S8x1152
def ldS (g : Fin 4) (c : Fin 21) : FVec F S8x1152 .f32 :=
  shapeCast S8x1152 (View.readAt (Elt F) arg5.view (Rect.unit (s := S4x21x8x1152) ![g.val, c.val, 0, 0] S1x1x8x1152.size (inbS g c)).toLoadRect
    (harg5.unread x4)) shapeCasts_S1x1x8x1152_S8x1152

/-- One image's loss, over the loads. -/
def lossLd (g : Fin 4) : F .f32 :=
  loss ⟨ldP arg3 harg3 x2 0, ldP arg3 harg3 x2 1, ldP arg3 harg3 x2 2, ldP arg3 harg3 x2 3⟩ (ldB arg1 harg1 x0 g) (ldL arg2 harg2 x1 g)
    (ldC arg4 harg4 x3 g) (ldS arg5 harg5 x4 g)

/-- The body stores the sum of its four images' losses. -/
theorem run_val (c : Dev nD) (i : grid0.Coords) (arg6 : Memref sig .tc .smem S1x1x1 .f32) (harg6 : arg6.IsWhole) :
    (kernelRun0_A c i arg1 harg1 arg2 harg2 arg3 harg3 arg4 harg4 arg5 harg5 arg6 harg6 x0 x1 x2 x3 x4).1 =
      [⟨Rect.unit ![0, 0, 0] ![1, 1, 1] inb_S1x1x1_S1x1x1_0_0_0, fun _ => Scalar.addf (Scalar.addf (Scalar.addf
        (lossLd arg1 harg1 arg2 harg2 arg3 harg3 arg4 harg4 arg5 harg5 x0 x1 x2 x3 x4 0)
        (lossLd arg1 harg1 arg2 harg2 arg3 harg3 arg4 harg4 arg5 harg5 x0 x1 x2 x3 x4 1))
        (lossLd arg1 harg1 arg2 harg2 arg3 harg3 arg4 harg4 arg5 harg5 x0 x1 x2 x3 x4 2))
        (lossLd arg1 harg1 arg2 harg2 arg3 harg3 arg4 harg4 arg5 harg5 x0 x1 x2 x3 x4 3)⟩] := by sl_kernel_rfl
end
end Cert.KernelIdeal.Img
end
-- ==== Proof.Loads.lean ====
/- What the body leaves at a point, over the point's blocks: each load is a read of its block, and the stored sum is of the
   losses of the block's four images. -/
module

public import proofs.«01_k».proof.Proof.Bridge
public import Idealize.ShloMosaic.Lib.Pipeline.ValueKit
public import Idealize.ShloMosaic.Lib.Pointwise

@[expose] public section

set_option maxRecDepth 16384

noncomputable section

namespace Cert.KernelIdeal.Img

open Idealize.ShloMosaic Idealize.ShloMosaic.TcCoe Idealize.ShloMosaic.Tactic Cert.KernelIdeal Cert.KernelIdeal.Gen

variable {F : FTy → Type} [FloatOps F]

section
variable (x0 : Vec F S4x1x16x4 .f32) (x1 : Vec F S4x1x1x16 .i32) (x2 : Vec F S4x8x1152 .f32) (x3 : Vec F S4x4x8x1152 .f32)
  (x4 : Vec F S4x21x8x1152 .f32)

/-- The loss of image `g` of a block of four. -/
def lossBlk (g : Fin 4) : F .f32 :=
  loss ⟨fun i => x2 (ix3 0 (i 0) (i 1)), fun i => x2 (ix3 1 (i 0) (i 1)), fun i => x2 (ix3 2 (i 0) (i 1)), fun i => x2 (ix3 3 (i 0) (i 1))⟩
    (fun j c => x0 (ix4 g 0 j c)) (fun j => x1 (ix4 g 0 0 j)) (fun c i => x3 (ix4 g c (i 0) (i 1))) (fun c i => x4 (ix4 g c (i 0) (i 1)))

variable (arg1 : Memref sig .tc .smem S4x1x16x4 .f32) (harg1 : arg1.IsWhole) (arg2 : Memref sig .tc .smem S4x1x1x16 .i32)
  (harg2 : arg2.IsWhole) (arg3 : Memref sig .tc .vmem S4x8x1152 .f32) (harg3 : arg3.IsWhole)
  (arg4 : Memref sig .tc .vmem S4x4x8x1152 .f32) (harg4 : arg4.IsWhole) (arg5 : Memref sig .tc .vmem S4x21x8x1152 .f32)
  (harg5 : arg5.IsWhole)

theorem ldB_eq (g : Fin 4) (j : Fin 16) (c : Fin 4) : ldB arg1 harg1 x0 g j c = x0 (ix4 g 0 j c) := by
  unfold ldB
  rw [View.readAt_eq_ld, harg1.read_unread]
  refine View.ld_unit_apply_of x0 _ _ _ _ _ fun a => ?_
  fin_cases a <;> simp [ix4, Shape.Idx.first]

theorem ldL_eq (g : Fin 4) (j : Fin 16) : ldL arg2 harg2 x1 g j = x1 (ix4 g 0 0 j) := by
  unfold ldL
  rw [View.readAt_eq_ld, harg2.read_unread]
  refine View.ld_unit_apply_of x1 _ _ _ _ _ fun a => ?_
  fin_cases a <;> simp [ix4, Shape.Idx.first]

theorem cast3 (v : Vec F S1x8x1152 .f32) (i : S8x1152.Idx) :
    shapeCast S8x1152 v shapeCasts_S1x8x1152_S8x1152 i = v (ix3 0 (i 0) (i 1)) :=
  congrArg v (Shape.reshapeEquiv_eq_of_vals _ _ _ _ _ (rowMajor_val3 _ 9216 1152 rfl rfl) (rowMajor_val2 _ 1152 rfl) (by simp))
theorem cast4 (v : Vec F S1x1x8x1152 .f32) (i : S8x1152.Idx) :
    shapeCast S8x1152 v shapeCasts_S1x1x8x1152_S8x1152 i = v (ix4 0 0 (i 0) (i 1)) :=
  congrArg v (Shape.reshapeEquiv_eq_of_vals _ _ _ _ _ (rowMajor_val4 _ 9216 9216 1152 rfl rfl rfl) (rowMajor_val2 _ 1152 rfl) (by simp))

theorem ldP_eq (k : Fin 4) : ldP arg3 harg3 x2 k = fun i => x2 (ix3 k (i 0) (i 1)) := by
  funext i
  unfold ldP
  rw [cast3, View.readAt_eq_ld, harg3.read_unread]
  refine View.ld_unit_apply_of x2 _ _ _ _ _ fun a => ?_
  fin_cases a <;> simp [ix3]

theorem ldC_eq (g c : Fin 4) : ldC arg4 harg4 x3 g c = fun i => x3 (ix4 g c (i 0) (i 1)) := by
  funext i
  unfold ldC
  rw [cast4, View.readAt_eq_ld, harg4.read_unread]
  refine View.ld_unit_apply_of x3 _ _ _ _ _ fun a => ?_
  fin_cases a <;> simp [ix4]

theorem ldS_eq (g : Fin 4) (c : Fin 21) : ldS arg5 harg5 x4 g c = fun i => x4 (ix4 g c (i 0) (i 1)) := by
  funext i
  unfold ldS
  rw [cast4, View.readAt_eq_ld, harg5.read_unread]
  refine View.ld_unit_apply_of x4 _ _ _ _ _ fun a => ?_
  fin_cases a <;> simp [ix4]

theorem lossLd_eq (g : Fin 4) :
    lossLd arg1 harg1 arg2 harg2 arg3 harg3 arg4 harg4 arg5 harg5 x0 x1 x2 x3 x4 g = lossBlk x0 x1 x2 x3 x4 g := by
  unfold lossLd lossBlk
  rw [ldP_eq, ldP_eq, ldP_eq, ldP_eq, show ldB arg1 harg1 x0 g = _ from funext fun j => funext fun c => ldB_eq x0 arg1 harg1 g j c,
    show ldL arg2 harg2 x1 g = _ from funext fun j => ldL_eq x1 arg2 harg2 g j,
    show ldC arg4 harg4 x3 g = _ from funext fun c => ldC_eq x3 arg4 harg4 g c,
    show ldS arg5 harg5 x4 g = _ from funext fun c => ldS_eq x4 arg5 harg5 g c]

/-- What the body leaves: the sum of the block's four losses. -/
theorem out_eq (c : Dev nD) (i : grid0.Coords) (arg6 : Memref sig .tc .smem S1x1x1 .f32) (harg6 : arg6.IsWhole) :
    out0_A_5 c i arg1 harg1 arg2 harg2 arg3 harg3 arg4 harg4 arg5 harg5 arg6 harg6 x0 x1 x2 x3 x4 =
      fun _ => Scalar.addf (Scalar.addf (Scalar.addf (lossBlk x0 x1 x2 x3 x4 0) (lossBlk x0 x1 x2 x3 x4 1)) (lossBlk x0 x1 x2 x3 x4 2))
        (lossBlk x0 x1 x2 x3 x4 3) := by
  unfold out0_A_5
  rw [View.read_writes_eq_canon _ _ _ (cover0_A_5 c i arg1 harg1 arg2 harg2 arg3 harg3 arg4 harg4 arg5 harg5 arg6 harg6 x0 x1 x2 x3 x4), run_val]
  simp only [lossLd_eq]
  exact View.canon_unit_zero (S := S1x1x1) (funext fun a => by fin_cases a <;> rfl) _ _
end

/-! The blocks at a point. -/
section
variable (m : (ℓ : Loc nD τ sig) → Buf (Elt F) ℓ) (c : Dev nD) (t : Fin cfg0.N)

/-- The image a point's block holds at `g`. -/
def im (g : Fin 4) : Fin 64 := ⟨4 * t.val + g.val, by have h : t.val < 16 := t.isLt.trans_eq N_0; omega⟩

theorem index0_0 : ∀ t : Fin cfg0.N, win0_0.index t = ![t.val, 0, 0, 0] := by decide +kernel
theorem index0_1 : ∀ t : Fin cfg0.N, win0_1.index t = ![t.val, 0, 0, 0] := by decide +kernel
theorem index0_2 : ∀ t : Fin cfg0.N, win0_2.index t = ![0, 0, 0] := by decide +kernel
theorem index0_3 : ∀ t : Fin cfg0.N, win0_3.index t = ![t.val, 0, 0, 0] := by decide +kernel
theorem index0_4 : ∀ t : Fin cfg0.N, win0_4.index t = ![t.val, 0, 0, 0] := by decide +kernel
theorem index0_5 : ∀ t : Fin cfg0.N, win0_5.index t = ![t.val, 0, 0] := by decide +kernel

theorem blk_boxes (g : Fin 4) (j : Fin 16) (k : Fin 4) :
    (iblk m c 0 t : Vec F S4x1x16x4 .f32) (ix4 g 0 j k) = (V m c main_v10 : Vec F S64x1x16x4 .f32) (ix4 (im t g) 0 j k) := by
  blk_simp [iblk]
  refine congrArg (V m c main_v10) (funext fun a => Fin.ext ?_)
  fin_cases a <;> blk_simp [index0_0] <;> simp [ix4, im] <;> omega

theorem blk_labels (g : Fin 4) (j : Fin 16) :
    (iblk m c 1 t : Vec F S4x1x1x16 .i32) (ix4 g 0 0 j) = (V m c main_v11 : Vec F S64x1x1x16 .i32) (ix4 (im t g) 0 0 j) := by
  blk_simp [iblk]
  refine congrArg (V m c main_v11) (funext fun a => Fin.ext ?_)
  fin_cases a <;> blk_simp [index0_1] <;> simp [ix4, im] <;> omega

theorem blk_priors (k : Fin 4) (r : Fin 8) (l : Fin 1152) :
    (iblk m c 2 t : Vec F S4x8x1152 .f32) (ix3 k r l) = (V m c main_v9 : Vec F S4x8x1152 .f32) (ix3 k r l) := by
  blk_simp [iblk]
  refine congrArg (V m c main_v9) (funext fun a => Fin.ext ?_)
  fin_cases a <;> blk_simp [index0_2] <;> simp [ix3]

theorem blk_locs (g k : Fin 4) (r : Fin 8) (l : Fin 1152) :
    (iblk m c 3 t : Vec F S4x4x8x1152 .f32) (ix4 g k r l) = (V m c main_v2 : Vec F S64x4x8x1152 .f32) (ix4 (im t g) k r l) := by
  blk_simp [iblk]
  refine congrArg (V m c main_v2) (funext fun a => Fin.ext ?_)
  fin_cases a <;> blk_simp [index0_3] <;> simp [ix4, im] <;> omega

theorem blk_scores (g : Fin 4) (k : Fin 21) (r : Fin 8) (l : Fin 1152) :
    (iblk m c 4 t : Vec F S4x21x8x1152 .f32) (ix4 g k r l) = (V m c main_v5 : Vec F S64x21x8x1152 .f32) (ix4 (im t g) k r l) := by
  blk_simp [iblk]
  refine congrArg (V m c main_v5) (funext fun a => Fin.ext ?_)
  fin_cases a <;> blk_simp [index0_4] <;> simp [ix4, im] <;> omega
end
end Cert.KernelIdeal.Img
end
-- ==== Proof.Host.lean ====
/- What the host prepares: each array the kernel reads, at an index, over the arguments. -/
module

public import proofs.«01_k».proof.Proof.Gen.KernelIdeal.Frame
public import Idealize.ShloMosaic.Lib.StableHlo.ReadAt
public import Idealize.ShloMosaic.Lib.Pointwise
public import Idealize.ShloMosaic.Lib.KernelVsHost
public import proofs.«01_k».proof.Proof.Lanes

@[expose] public section

set_option maxRecDepth 16384

noncomputable section

namespace Cert.KernelIdeal.Host₀

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD)

/-- The arguments' contents. -/
abbrev a0 : Vec F S64x8732x4 .f32 := m ((c : Thread nD τ).loc main_arg0)
abbrev a1 : Vec F S64x8732x21 .f32 := m ((c : Thread nD τ).loc main_arg1)
abbrev a2 : Vec F S64x16x4 .f32 := m ((c : Thread nD τ).loc main_arg2)
abbrev a3 : Vec F S64x16 .i32 := m ((c : Thread nD τ).loc main_arg3)
abbrev a4 : Vec F S8732x4 .f32 := m ((c : Thread nD τ).loc main_arg4)

theorem boxes_eq : (V m c main_v10 : Vec F S64x1x16x4 .f32) =
    broadcastInDim S64x1x16x4 ![0, 2, 3] bcast_S64x16x4_S64x1x16x4_0_2_3 (a2 m c) := by
  unfold V V0
  after_results
  rfl

theorem labels_eq : (V m c main_v11 : Vec F S64x1x1x16 .i32) =
    broadcastInDim S64x1x1x16 ![0, 3] bcast_S64x16_S64x1x1x16_0_3 (a3 m c) := by
  unfold V V0
  after_results
  rfl

theorem priors_eq : (V m c main_v9 : Vec F S4x8x1152 .f32) = shapeCast S4x8x1152
    (concatenate S4x9216 1 [⟨S4x8732, transpose S4x8732 [1, 0] (a4 m c) transposes_S8732x4_S4x8732_1_0⟩,
      ⟨S4x484, broadcastInDim S4x484 ![0, 1] bcast_S4x1_S4x484_0_1 (fun i => FloatOps.ofBits .f32 (lit0 (S4x1.rowMajor i)))⟩]
      concatenates_S4x8732_S4x484_S4x9216_d1) shapeCasts_S4x9216_S4x8x1152 := by
  unfold V V0
  after_results
  rfl

theorem locs_eq : (V m c main_v2 : Vec F S64x4x8x1152 .f32) = shapeCast S64x4x8x1152
    (pad S64x4x9216 ![0, 0, 0] ![0, 0, 484] ![0, 0, 0] (transpose S64x4x8732 [0, 2, 1] (a0 m c) transposes_S64x8732x4_S64x4x8732_0_2_1)
      (sitofp .f32 (constantI S_ 32 0#32)) pads_S64x4x8732_S64x4x9216_000_000_04840 h_S_) shapeCasts_S64x4x9216_S64x4x8x1152 := by
  unfold V V0
  after_results
  rfl

theorem scores_eq : (V m c main_v5 : Vec F S64x21x8x1152 .f32) = shapeCast S64x21x8x1152
    (pad S64x21x9216 ![0, 0, 0] ![0, 0, 484] ![0, 0, 0] (transpose S64x21x8732 [0, 2, 1] (a1 m c) transposes_S64x8732x21_S64x21x8732_0_2_1)
      (sitofp .f32 (constantI S_ 32 0#32)) pads_S64x21x8732_S64x21x9216_000_000_04840 h_S_) shapeCasts_S64x21x9216_S64x21x8x1152 := by
  unfold V V0
  after_results
  rfl

/-! Each at an index. -/

theorem boxes_at (b : Fin 64) (j : Fin 16) (k : Fin 4) : (V m c main_v10 : Vec F S64x1x16x4 .f32) (ix4 b 0 j k) = a2 m c (ix3 b j k) := by
  rw [boxes_eq]
  refine congrArg (a2 m c) (funext fun a => ?_)
  fin_cases a <;> rfl

theorem labels_at (b : Fin 64) (j : Fin 16) : (V m c main_v11 : Vec F S64x1x1x16 .i32) (ix4 b 0 0 j) = a3 m c (ix2 b j) := by
  rw [labels_eq]
  refine congrArg (a3 m c) (funext fun a => ?_)
  fin_cases a <;> rfl

theorem split2 (v : Vec F S4x9216 .f32) (k : Fin 4) (i : S8x1152.Idx) :
    shapeCast S4x8x1152 v shapeCasts_S4x9216_S4x8x1152 (ix3 k (i 0) (i 1)) = v (ix2 k ⟨Lanes.num i, Lanes.num_lt i⟩) :=
  congrArg v (Shape.reshapeEquiv_eq_of_vals _ _ _ _ _ (rowMajor_val2 _ 9216 rfl) (rowMajor_val3 _ 9216 1152 rfl rfl)
    (by simp [Lanes.num]; omega))
theorem split4 (v : Vec F S64x4x9216 .f32) (b : Fin 64) (k : Fin 4) (i : S8x1152.Idx) :
    shapeCast S64x4x8x1152 v shapeCasts_S64x4x9216_S64x4x8x1152 (ix4 b k (i 0) (i 1)) = v (ix3 b k ⟨Lanes.num i, Lanes.num_lt i⟩) :=
  congrArg v (Shape.reshapeEquiv_eq_of_vals _ _ _ _ _ (rowMajor_val3 _ 36864 9216 rfl rfl) (rowMajor_val4 _ 36864 9216 1152 rfl rfl rfl)
    (by simp [Lanes.num]; omega))
theorem split21 (v : Vec F S64x21x9216 .f32) (b : Fin 64) (k : Fin 21) (i : S8x1152.Idx) :
    shapeCast S64x21x8x1152 v shapeCasts_S64x21x9216_S64x21x8x1152 (ix4 b k (i 0) (i 1)) = v (ix3 b k ⟨Lanes.num i, Lanes.num_lt i⟩) :=
  congrArg v (Shape.reshapeEquiv_eq_of_vals _ _ _ _ _ (rowMajor_val3 _ 193536 9216 rfl rfl) (rowMajor_val4 _ 193536 9216 1152 rfl rfl rfl)
    (by simp [Lanes.num]; omega))

theorem locs_at (b : Fin 64) (k : Fin 4) (q : Fin 8732) :
    (V m c main_v2 : Vec F S64x4x8x1152 .f32) (ix4 b k (Lanes.at' q 0) (Lanes.at' q 1)) = a0 m c (ix3 b q k) := by
  rw [locs_eq, split4]
  refine (pad_apply_of_inside _ _ _ _ _ _ _ _ (ix3 b k q) fun a => ?_).trans ?_
  · fin_cases a <;> simp [ix3, Lanes.num_at]
  · refine congrArg (a0 m c) (funext fun a => ?_)
    fin_cases a <;> rfl

theorem scores_at (b : Fin 64) (k : Fin 21) (q : Fin 8732) :
    (V m c main_v5 : Vec F S64x21x8x1152 .f32) (ix4 b k (Lanes.at' q 0) (Lanes.at' q 1)) = a1 m c (ix3 b q k) := by
  rw [scores_eq, split21]
  refine (pad_apply_of_inside _ _ _ _ _ _ _ _ (ix3 b k q) fun a => ?_).trans ?_
  · fin_cases a <;> simp [ix3, Lanes.num_at]
  · refine congrArg (a1 m c) (funext fun a => ?_)
    fin_cases a <;> rfl

theorem priors_at (k : Fin 4) (q : Fin 8732) :
    (V m c main_v9 : Vec F S4x8x1152 .f32) (ix3 k (Lanes.at' q 0) (Lanes.at' q 1)) = a4 m c (ix2 q k) := by
  rw [priors_eq, split2]
  refine (concatenate_pair_apply_left (t := S4x9216) (s₁ := S4x8732) (s₂ := S4x484) 1 _ _ _ _ rfl (ix2 k q) fun a => ?_).trans ?_
  · fin_cases a <;> simp [ix2, Lanes.num_at]
  · refine congrArg (a4 m c) (funext fun a => ?_)
    fin_cases a <;> rfl

theorem priors_off (k : Fin 4) (i : S8x1152.Idx) (h : 8732 ≤ Lanes.num i) :
    (V m c main_v9 : Vec F S4x8x1152 .f32) (ix3 k (i 0) (i 1)) = FloatOps.ofBits .f32 (lit0 k) := by
  have hi := Lanes.num_lt i
  rw [priors_eq, split2]
  refine (concatenate_pair_apply_right (t := S4x9216) (s₁ := S4x8732) (s₂ := S4x484) 1 _ _ _ _ rfl rfl (ix2 k ⟨Lanes.num i - 8732, by omega⟩) (fun a ha => ?_) ?_).trans ?_
  · fin_cases a
    · show k.val = k.val
      rfl
    · exact absurd rfl ha
  · show Lanes.num i - 8732 + 8732 = Lanes.num i
    omega
  · refine congrArg (fun a => FloatOps.ofBits .f32 (lit0 a)) (Fin.ext ?_)
    refine (rowMajor_val2 _ 1 rfl).trans ?_
    simp
end Cert.KernelIdeal.Host₀
end
-- ==== Proof.Final.lean ====
/- The kernel's run: its result is the mean of the images' losses. -/
module

public import proofs.«01_k».proof.Proof.Loads
public import proofs.«01_k».proof.Proof.Host
public import proofs.«01_k».proof.Proof.KLoss
public import Idealize.ShloMosaic.Lib.Pointwise.Reduce

@[expose] public section

set_option maxRecDepth 16384

noncomputable section

namespace Cert.KernelIdeal.Final

open Idealize.ShloMosaic Idealize.ShloMosaic.TcCoe Idealize.ShloMosaic.Tactic Cert.KernelIdeal Cert.KernelIdeal.Gen Host₀
open Idealize.SL.Sem

variable (m : (ℓ : Loc nD τ sig) → Buf (Elt Ideal) ℓ) (ρ : Dev nD → PrngReg) (c : Dev nD)

/-- The arguments by their parts. -/
def pr (q : Fin 8732) (k : Fin 4) : EReal := a4 m c (ix2 q k)
def bx (b : Fin 64) (j : Fin 16) (k : Fin 4) : EReal := a2 m c (ix3 b j k)
def lb (b : Fin 64) (j : Fin 16) : BitVec 32 := a3 m c (ix2 b j)
def lc (b : Fin 64) (q : Fin 8732) (k : Fin 4) : EReal := a0 m c (ix3 b q k)
def sc (b : Fin 64) (q : Fin 8732) (k : Fin 21) : EReal := a1 m c (ix3 b q k)

/-- One image's loss. -/
def image (b : Fin 64) : EReal := Spec.loss (pr m c) (bx m c b) (lb m c b) (lc m c b) (sc m c b)

/-- What the claim asks of the arguments. -/
structure Proper : Prop where
  finite : ∀ b q k, ∃ x : ℝ, sc m c b q k = x
  box_area : ∀ b j, 0 ≤ Spec.area (bx m c b j)
  prior_area : ∀ q, 0 < Spec.area (Spec.corner (pr m c q))
  reach : ∀ b j, min (bx m c b j 2) (bx m c b j 3) ≤ Spec.lit 0x41180000#32
  classes : ∀ b j, KLoss.InClasses (lb m c b j)

variable (H : Proper m c)
include H

/-- The priors as the point's block holds them. -/
theorem held (t : Fin cfg0.N) (b : Fin 64) : Match.Held
    (⟨fun i => (iblk m c 2 t : Vec Ideal S4x8x1152 .f32) (ix3 0 (i 0) (i 1)), fun i => (iblk m c 2 t : Vec Ideal S4x8x1152 .f32) (ix3 1 (i 0) (i 1)),
      fun i => (iblk m c 2 t : Vec Ideal S4x8x1152 .f32) (ix3 2 (i 0) (i 1)),
      fun i => (iblk m c 2 t : Vec Ideal S4x8x1152 .f32) (ix3 3 (i 0) (i 1))⟩ : Img.Pri Ideal) (pr m c) (bx m c b) where
  at_prior q := by
    funext k
    fin_cases k <;> exact (Img.blk_priors m c t _ _ _).trans (priors_at m c _ q)
  off_x i h := (Img.blk_priors m c t _ _ _).trans (priors_off m c _ i h)
  off_y i h := (Img.blk_priors m c t _ _ _).trans (priors_off m c _ i h)
  off_w i h := (Img.blk_priors m c t _ _ _).trans (priors_off m c _ i h)
  off_h i h := (Img.blk_priors m c t _ _ _).trans (priors_off m c _ i h)
  box_area := H.box_area b
  prior_area := H.prior_area
  reach := H.reach b

/-- The loss the body finds for image `g` of a point's block. -/
theorem loss_blk (t : Fin cfg0.N) (g : Fin 4) :
    Img.lossBlk (iblk m c 0 t) (iblk m c 1 t) (iblk m c 2 t) (iblk m c 3 t) (iblk m c 4 t) g = image m c (Img.im t g) := by
  unfold Img.lossBlk
  rw [show (fun (j : Fin 16) (k : Fin 4) => (iblk m c 0 t : Vec Ideal S4x1x16x4 .f32) (ix4 g 0 j k)) = bx m c (Img.im t g) from
      funext fun j => funext fun k => (Img.blk_boxes m c t g j k).trans (boxes_at m c _ j k),
    show (fun (j : Fin 16) => (iblk m c 1 t : Vec Ideal S4x1x1x16 .i32) (ix4 g 0 0 j)) = lb m c (Img.im t g) from
      funext fun j => (Img.blk_labels m c t g j).trans (labels_at m c _ j)]
  exact KLoss.loss_eq (held m c H t (Img.im t g)) (lb m c (Img.im t g)) (H.classes _) _ (lc m c (Img.im t g))
    (fun q k => (Img.blk_locs m c t g k _ _).trans (locs_at m c _ k q)) _ (sc m c (Img.im t g))
    (fun q k => (Img.blk_scores m c t g k _ _).trans (scores_at m c _ k q)) (H.finite _)
omit H

/-- The four losses of a point. -/
def quad (t : Fin 16) : EReal :=
  image m c ⟨4 * t.val + 0, by omega⟩ + image m c ⟨4 * t.val + 1, by omega⟩ + image m c ⟨4 * t.val + 2, by omega⟩
    + image m c ⟨4 * t.val + 3, by omega⟩

include H in
theorem outs_eq (t : Fin cfg0.N) : outsAt0 m c t = fun _ => quad m c ⟨t.val, t.isLt.trans_eq N_0⟩ := by
  unfold outsAt0
  rw [Img.out_eq]
  funext _
  rw [loss_blk m c H, loss_blk m c H, loss_blk m c H, loss_blk m c H]
  rfl

include H in
/-- The array of the points' sums. -/
theorem sums_eq : (dats m 0 c).arrAt 5 cfg0.N = fun i : S16x1x1.Idx => quad m c (i 0) := by
  refine (dats m 0 c).arrAt_eq_of_covers 5 _ (by decide +kernel) fun t hf y => ?_
  blk_simp
  rw [after0_5, outs_eq m c H]
  refine congrArg (quad m c) (Fin.ext ?_)
  blk_simp [Img.index0_5]

theorem sum_points (f : S16x1x1.Idx → EReal) : ∑ i, f i = ∑ t : Fin 16, f (ix3 t 0 0) := by
  symm
  refine Fintype.sum_bijective (fun t : Fin 16 => (ix3 t 0 0 : S16x1x1.Idx)) ⟨fun a c h => congrFun h 0, fun j => ⟨j 0, ?_⟩⟩ _ _ fun _ => rfl
  refine Eq.trans ?_ (eq_ix3 j).symm
  have h1 : (j 1) = (0 : Fin 1) := Subsingleton.elim (α := Fin 1) _ _
  have h2 : (j 2) = (0 : Fin 1) := Subsingleton.elim (α := Fin 1) _ _
  rw [h1, h2]

/-- The images in fours. -/
theorem sum_fours (f : Fin 64 → EReal) :
    ∑ t : Fin 16, (f ⟨4 * t.val + 0, by omega⟩ + f ⟨4 * t.val + 1, by omega⟩ + f ⟨4 * t.val + 2, by omega⟩ + f ⟨4 * t.val + 3, by omega⟩)
      = ∑ b, f b := by
  rw [← (finProdFinEquiv : Fin 16 × Fin 4 ≃ Fin (16 * 4)).sum_comp f, Fintype.sum_prod_type]
  refine Finset.sum_congr rfl fun t _ => ?_
  rw [Fin.sum_univ_four]
  refine congrArg₂ (· + ·) (congrArg₂ (· + ·) (congrArg₂ (· + ·) ?_ ?_) ?_) ?_ <;>
    exact congrArg f (Fin.ext (by simp [finProdFinEquiv, Nat.add_comm]))

/-- The lines after the launch: the sum of the points' array, over 64. -/
theorem after_tail (W : Valuation τ sig (Elt Ideal)) : StableHlo.after hostOps1 W (Proc.devRef .tc main_v14)
    = (Host.divf (Host.reduceAdd (W (Proc.devRef .tc main_v12) : FVec Ideal S16x1x1 .f32) (constant S_ .f32 0x00000000#32) reducesTo_S16x1x1_S_d0_1_2 h_S_)
        (constant S_ .f32 0x42800000#32) : FVec Ideal S_ .f32) := by
  after_results

include H in
/-- The result: the images' mean loss. -/
theorem tail_eq : (Pipeline.afterTail₀ cfgs (dats m) 0 (V0 m) [hostOps1] c main_v14 : FVec Ideal S_ .f32)
    = fun _ => Ideal.div (0 + ∑ b, image m c b) (Spec.lit 0x42800000#32) := by
  refine (after_tail _).trans ?_
  rw [show Pipeline.withArrays spec0 c (V0 m c) (fun w => (dats m 0 c).arrAt w cfg0.N) (Proc.devRef .tc main_v12) = _ from
    (Pipeline.withArrays_arr spec0 winFacts0.arr_inj c (V0 m c) (fun w => (dats m 0 c).arrAt w cfg0.N) 5).trans (sums_eq m c H)]
  funext i
  refine congrArg (fun z : EReal => Ideal.div z (Spec.lit 0x42800000#32)) (congrArg₂ (fun a c : EReal => a + c) Spec.lit_zero ?_)
  rw [Finset.filter_true_of_mem fun k _ => funext fun a => a.elim0]
  exact (sum_points fun i => quad m c (i 0)).trans (sum_fours (image m c))

/-- The run: the result is the mean, and the arguments end as they were. -/
theorem run_val (H : ∀ c, Proper m c) : θ_run defs (onTc (τ := τ) (main (F := Ideal))) ⟨m, fun _ => 0, ρ⟩ (fun r => ∀ c : Dev nD,
      r.2.mem ((c.tc : Thread nD τ).loc main_v14) = (fun _ => Ideal.div (0 + ∑ b, image m c b) (Spec.lit 0x42800000#32) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).trans (tail_eq m c (H c)), h.2 c⟩)
    (θ_run_and ((θ_run defs _ _).mono (fun _ h c => (h c).2 main_v14 (Pipeline.mem_restRefs_of main_v14 (by decide) (by decide)))
      (run_main m ρ)) (unchanged m ρ))
end Cert.KernelIdeal.Final
end
-- ==== Proof.ROv.lean ====
/- The reference's corners and overlaps, read at an index. -/
module

public import proofs.«01_k».proof.Proof.Gen.ReferenceIdeal.Read
public import proofs.«01_k».proof.Proof.Geo
public import Idealize.ShloMosaic.Lib.Pointwise.SelectCore

@[expose] public section

noncomputable section

namespace Cert.ReferenceIdeal.Ref

open Idealize.ShloMosaic
open Cert.ReferenceIdeal Cert.ReferenceIdeal.Facts₀ Cert.ReferenceIdeal.Facts Cert.ReferenceIdeal.Read

attribute [local instance] Cert.ReferenceIdeal.Gen.facts

/-- The priors, and one image's boxes, labels, locations and scores. -/
def priors (x4 : (⟨S8732x4, .f32⟩ : BufTy).Contents (Elt Ideal)) : Fin 8732 → Fin 4 → EReal := fun p c => x4 (ix2 p c)
def boxes (x2 : (⟨S64x16x4, .f32⟩ : BufTy).Contents (Elt Ideal)) (b : Fin 64) : Fin 16 → Fin 4 → EReal := fun j c => x2 (ix3 b j c)
def labels (x3 : (⟨S64x16, .i32⟩ : BufTy).Contents (Elt Ideal)) (b : Fin 64) : Fin 16 → BitVec 32 := fun j => x3 (ix2 b j)
def locs (x0 : (⟨S64x8732x4, .f32⟩ : BufTy).Contents (Elt Ideal)) (b : Fin 64) : Fin 8732 → Fin 4 → EReal := fun p c => x0 (ix3 b p c)
def scores (x1 : (⟨S64x8732x21, .f32⟩ : BufTy).Contents (Elt Ideal)) (b : Fin 64) : Fin 8732 → Fin 21 → EReal := fun p c => x1 (ix3 b p c)

section
variable (x2 : (⟨S64x16x4, .f32⟩ : BufTy).Contents (Elt Ideal)) (x4 : (⟨S8732x4, .f32⟩ : BufTy).Contents (Elt Ideal))

/-- The first two coordinates and the last two, on their own axis. -/
abbrev lo (d : Fin 2) : Fin 4 := ⟨d.val, by omega⟩
abbrev hi (d : Fin 2) : Fin 4 := ⟨2 + d.val, by omega⟩

theorem low_at (p : Fin 8732) (d : Fin 2) :
    val_main_v4 (F := Ideal) x4 (ix2 p d) = priors x4 p (lo d) - Ideal.div (priors x4 p (hi d)) (Spec.lit 0x40000000#32) := by
  rw [val_main_v4_apply, val_main_v3_apply, val_main_v0_apply, val_main_v1_apply, val_main_v2_apply, val_main_cst_apply]
  exact congrArg₂ (fun a b : EReal => a - Ideal.div b (Spec.lit 0x40000000#32)) (congrArg x4 (eq_ix2 _)) (congrArg x4 (eq_ix2 _))

theorem high_at (p : Fin 8732) (d : Fin 2) :
    val_main_v9 (F := Ideal) x4 (ix2 p d) = priors x4 p (lo d) + Ideal.div (priors x4 p (hi d)) (Spec.lit 0x40000000#32) := by
  rw [val_main_v9_apply, val_main_v8_apply, val_main_v5_apply, val_main_v6_apply, val_main_v7_apply, val_main_cst_0_apply]
  exact congrArg₂ (fun a b : EReal => a + Ideal.div b (Spec.lit 0x40000000#32)) (congrArg x4 (eq_ix2 _)) (congrArg x4 (eq_ix2 _))

theorem corner_at (p : Fin 8732) (c : Fin 4) : val_main_v10 (F := Ideal) x4 (ix2 p c) = Spec.corner (priors x4 p) c := by
  have h := concatenate_pair_apply (t := S8732x4) 1 (val_main_v4 (F := Ideal) x4) (val_main_v9 (F := Ideal) x4)
    concatenates_S8732x2_S8732x2_S8732x4_d1 (ix2 p c)
  have hl := low_at x4 p
  have hh := high_at x4 p
  refine Eq.trans h ?_
  fin_cases c
  · exact (congrArg (val_main_v4 (F := Ideal) x4) (eq_ix2 _)).trans (hl 0)
  · exact (congrArg (val_main_v4 (F := Ideal) x4) (eq_ix2 _)).trans (hl 1)
  · exact (congrArg (val_main_v9 (F := Ideal) x4) (eq_ix2 _)).trans (hh 0)
  · exact (congrArg (val_main_v9 (F := Ideal) x4) (eq_ix2 _)).trans (hh 1)

section
variable (b : Fin 64) (j : Fin 16) (p : Fin 8732) (d : Fin 2)

theorem v16_at : val_main_v16 (F := Ideal) x2 (ix4 b j p d) = boxes x2 b j (lo d) := by
  rw [val_main_v16_apply, val_main_v12_apply, val_main_v11_apply]
  exact congrArg x2 (eq_ix3 _)
theorem v24_at : val_main_v24 (F := Ideal) x2 (ix4 b j p d) = boxes x2 b j (hi d) := by
  rw [val_main_v24_apply, val_main_v20_apply, val_main_v19_apply]
  exact congrArg x2 (eq_ix3 _)
theorem v17_at : val_main_v17 (F := Ideal) x4 (ix4 b j p d) = Spec.corner (priors x4 p) (lo d) := by
  rw [val_main_v17_apply, val_main_v15_apply, val_main_v14_apply, val_main_v13_apply, ← corner_at]
  exact congrArg _ (eq_ix2 _)
theorem v25_at : val_main_v25 (F := Ideal) x4 (ix4 b j p d) = Spec.corner (priors x4 p) (hi d) := by
  rw [val_main_v25_apply, val_main_v23_apply, val_main_v22_apply, val_main_v21_apply, ← corner_at]
  exact congrArg _ (eq_ix2 _)

theorem side_at : val_main_v28 (F := Ideal) x2 x4 (ix4 b j p d)
    = max 0 (min (boxes x2 b j (hi d)) (Spec.corner (priors x4 p) (hi d)) - max (boxes x2 b j (lo d)) (Spec.corner (priors x4 p) (lo d))) := by
  rw [val_main_v28_apply, val_main_v27_apply, val_main_v26_apply, val_main_v18_apply, v16_at, v17_at, v24_at, v25_at,
    val_main_call0_v1_apply, val_main_call0_v0_apply, val_main_cst_1_apply]
  exact congrArg (fun z : EReal => max z _) Spec.lit_zero

theorem inter_at : val_main_v33 (F := Ideal) x2 x4 (ix3 b j p) = Spec.inter (boxes x2 b j) (Spec.corner (priors x4 p)) := by
  rw [val_main_v33_apply, val_main_v30_apply, val_main_v29_apply, val_main_v32_apply, val_main_v31_apply]
  refine congrArg₂ (fun a b : EReal => a * b) ?_ ?_
  · refine Eq.trans (congrArg (val_main_v28 (F := Ideal) x2 x4) ?_) (side_at x2 x4 b j p 0)
    exact funext fun a => by fin_cases a <;> refine Fin.ext ?_ <;> simp [ix3, ix4] <;> omega
  · refine Eq.trans (congrArg (val_main_v28 (F := Ideal) x2 x4) ?_) (side_at x2 x4 b j p 1)
    exact funext fun a => by fin_cases a <;> refine Fin.ext ?_ <;> simp [ix3, ix4] <;> omega

theorem area_box_at : val_main_v59 (F := Ideal) x2 (ix3 b j p) = Spec.area (boxes x2 b j) := by
  rw [val_main_v59_apply, val_main_v56_apply, val_main_v44_apply, val_main_v38_apply, val_main_v43_apply, val_main_v35_apply,
    val_main_v34_apply, val_main_v37_apply, val_main_v36_apply, val_main_v40_apply, val_main_v39_apply, val_main_v42_apply,
    val_main_v41_apply]
  refine congrArg₂ (fun a b : EReal => a * b) (congrArg₂ (fun a b : EReal => a - b) ?_ ?_) (congrArg₂ (fun a b : EReal => a - b) ?_ ?_)
  all_goals
    refine congrArg x2 (funext fun a => ?_)
    fin_cases a <;> refine Fin.ext ?_ <;> simp [ix2, ix3] <;> omega

theorem area_prior_at : val_main_v60 (F := Ideal) x4 (ix3 b j p) = Spec.area (Spec.corner (priors x4 p)) := by
  rw [val_main_v60_apply, val_main_v58_apply, val_main_v57_apply, val_main_v55_apply, val_main_v49_apply, val_main_v54_apply,
    val_main_v46_apply, val_main_v45_apply, val_main_v48_apply, val_main_v47_apply, val_main_v51_apply, val_main_v50_apply,
    val_main_v53_apply, val_main_v52_apply]
  unfold Spec.area
  rw [← corner_at, ← corner_at, ← corner_at, ← corner_at]
  refine congrArg₂ (fun a b : EReal => a * b) (congrArg₂ (fun a b : EReal => a - b) ?_ ?_) (congrArg₂ (fun a b : EReal => a - b) ?_ ?_)
  all_goals
    refine congrArg (val_main_v10 (F := Ideal) x4) (funext fun a => ?_)
    fin_cases a <;> refine Fin.ext ?_ <;> simp [ix1, ix2, ix3] <;> omega

theorem overlap_at : val_main_v63 (F := Ideal) x2 x4 (ix3 b j p) = Spec.ov (priors x4) (boxes x2 b) j p := by
  rw [val_main_v63_apply, val_main_v62_apply, val_main_v61_apply, inter_at, area_box_at, area_prior_at]
  rfl
end
end
end Cert.ReferenceIdeal.Ref
end
-- ==== Proof.RMatch.lean ====
/- The reference's matching of priors to objects, read at an index. -/
module

public import proofs.«01_k».proof.Proof.ROv
public import proofs.«01_k».proof.Proof.Fold
public import proofs.«01_k».proof.Proof.Match
public import Idealize.ShloMosaic.Lib.Pointwise.Reduce

@[expose] public section

noncomputable section

namespace Cert.ReferenceIdeal.Ref

open Idealize.ShloMosaic
open Cert.ReferenceIdeal Cert.ReferenceIdeal.Facts₀ Cert.ReferenceIdeal.Facts Cert.ReferenceIdeal.Read
open Cert.KernelIdeal.Lanes (toInt_ofNat)

attribute [local instance] Cert.ReferenceIdeal.Gen.facts

/-! ### The words of an index -/

open Classical in
/-- The least word of the indices at which `f` is greatest. -/
theorem fold_first {n : ℕ} [NeZero n] (hn : n < 9217) (f : Fin n → EReal) (m : EReal) (hm : m = f (Spec.first f)) :
    (Finset.univ : Finset (Fin n)).fold IntOp.minsi 2147483647#32 (fun k => if f k = m then BitVec.ofNat 32 k.val else BitVec.ofNat 32 n)
      = BitVec.ofNat 32 (Spec.first f).val := by
  obtain ⟨hg, hl⟩ := Spec.first_spec f
  have hq := (Spec.first f).isLt
  refine Fold.fold_minsi_eq _ _ _ _ ?_ (fun k _ => ?_) ⟨Spec.first f, Finset.mem_univ _, if_pos hm.symm⟩
  · rw [toInt_ofNat _ (by omega)]; have : (2147483647#32 : BitVec 32).toInt = 2147483647 := rfl; omega
  · rw [toInt_ofNat _ (by omega)]
    have hk := k.isLt
    split
    · rename_i he
      rw [toInt_ofNat _ (by omega)]
      by_contra hc
      have := hl k (Fin.lt_def.mpr (by omega))
      rw [he, hm] at this
      exact lt_irrefl _ this
    · rw [toInt_ofNat _ (by omega)]; omega

open Classical in
/-- The greatest word of the objects of a set, -1 of the empty one. -/
theorem fold_last (c : Finset (Fin 16)) :
    (Finset.univ : Finset (Fin 16)).fold IntOp.maxsi 2147483648#32 (fun j => if j ∈ c then BitVec.ofNat 32 j.val else 4294967295#32)
      = if h : c.Nonempty then BitVec.ofNat 32 (c.max' h).val else 4294967295#32 := by
  have hb : (2147483648#32 : BitVec 32).toInt = -2147483648 := rfl
  have hn : (4294967295#32 : BitVec 32).toInt = -1 := rfl
  by_cases h : c.Nonempty
  · rw [dif_pos h]
    have hm := (c.max' h).isLt
    refine Fold.fold_maxsi_eq _ _ _ _ ?_ (fun j _ => ?_) ⟨c.max' h, Finset.mem_univ _, if_pos (c.max'_mem h)⟩
    · rw [hb, toInt_ofNat _ (by omega)]; omega
    · rw [toInt_ofNat _ (by omega)]
      split
      · rename_i hj
        have := Fin.le_def.mp (c.le_max' j hj)
        rw [toInt_ofNat _ (by omega)]; omega
      · omega
  · rw [dif_neg h]
    have hc : ∀ j, j ∉ c := fun j hj => h ⟨j, hj⟩
    refine Fold.fold_maxsi_eq _ _ _ _ (by omega) (fun j _ => ?_) ⟨0, Finset.mem_univ _, if_neg (hc 0)⟩
    rw [if_neg (hc j)]

theorem sel_sge (x : BitVec 32) {α : Type} (a b : α) : Scalar.select (IntOp.cmpi .sge x 0#32) a b = if 0 ≤ x.toInt then a else b := by
  unfold Scalar.select IntOp.cmpi
  have h0 : (0#32 : BitVec 32).toInt = 0 := rfl
  by_cases h : 0 ≤ x.toInt <;> simp [BitVec.sle, h]

theorem sel_slt (x : BitVec 32) {α : Type} (a b : α) : Scalar.select (IntOp.cmpi .slt x 0#32) a b = if x.toInt < 0 then a else b := by
  unfold Scalar.select IntOp.cmpi
  have h0 : (0#32 : BitVec 32).toInt = 0 := rfl
  by_cases h : x.toInt < 0 <;> simp [BitVec.slt, h]

section
variable (x2 : (⟨S64x16x4, .f32⟩ : BufTy).Contents (Elt Ideal)) (x4 : (⟨S8732x4, .f32⟩ : BufTy).Contents (Elt Ideal))
variable (b : Fin 64) (j : Fin 16) (p : Fin 8732)

/-- The image's overlaps. -/
abbrev o : Fin 16 → Fin 8732 → EReal := Spec.ov (priors x4) (boxes x2 b)

theorem bot_word : Ideal.ofBits .f32 0xFF800000#32 = ⊥ := Spec.lit_bot

theorem most_prior_at : val_main_v66 (F := Ideal) x2 x4 (ix2 b p) = o x2 x4 b (Spec.first fun j => o x2 x4 b j p) p := by
  obtain ⟨hg, -⟩ := Spec.first_spec fun j => o x2 x4 b j p
  refine (Host.reduce_eq_fold (FloatOps.maximumf (F := Ideal) (φ := .f32)) (val_main_v63 (F := Ideal) x2 x4) (val_main_cst_3 (F := Ideal))
    reducesTo_S64x16x8732_S64x8732_d1 h_S_ (ix2 b p)).trans ?_
  refine (Shape.ReducesTo.fold_fiber_r3_a1 reducesTo_S64x16x8732_S64x8732_d1 (ix2 b p) _ _ _).trans ?_
  refine Fold.fold_max_eq _ _ _ ?_ (fun j => ?_) ⟨Spec.first fun j => o x2 x4 b j p, overlap_at x2 x4 b _ p⟩
  · exact le_of_eq_of_le bot_word bot_le
  · exact le_of_eq_of_le (overlap_at x2 x4 b j p) (hg j)

theorem most_object_at : val_main_v76 (F := Ideal) x2 x4 (ix2 b j) = o x2 x4 b j (Spec.first (o x2 x4 b j)) := by
  obtain ⟨hg, -⟩ := Spec.first_spec (o x2 x4 b j)
  refine (Host.reduce_eq_fold (FloatOps.maximumf (F := Ideal) (φ := .f32)) (val_main_v63 (F := Ideal) x2 x4) (val_main_cst_5 (F := Ideal))
    reducesTo_S64x16x8732_S64x16_d2 h_S_ (ix2 b j)).trans ?_
  refine (Shape.ReducesTo.fold_fiber_r3_a2 reducesTo_S64x16x8732_S64x16_d2 (ix2 b j) _ _ _).trans ?_
  refine Fold.fold_max_eq _ _ _ ?_ (fun p => ?_) ⟨Spec.first (o x2 x4 b j), overlap_at x2 x4 b j _⟩
  · exact le_of_eq_of_le bot_word bot_le
  · exact le_of_eq_of_le (overlap_at x2 x4 b j p) (hg p)

open Classical in
theorem candidate_object_at : val_main_v73 (F := Ideal) x2 x4 (ix3 b j p)
    = if o x2 x4 b j p = o x2 x4 b (Spec.first fun j => o x2 x4 b j p) p then BitVec.ofNat 32 j.val else BitVec.ofNat 32 16 := by
  have hm : val_main_v68 (F := Ideal) x2 x4 (ix3 b j p) = o x2 x4 b (Spec.first fun j => o x2 x4 b j p) p := by
    rw [val_main_v68_apply, val_main_v67_apply]
    exact (congrArg _ (eq_ix2 _)).trans (most_prior_at x2 x4 b p)
  rw [val_main_v73_apply, val_main_v69_apply, hm, overlap_at, val_main_v72_apply, val_main_v65_apply, val_main_v71_apply,
    val_main_v70_apply, val_main_c_apply]
  exact KernelIdeal.Match.sel_eq _ _ _ _

open Classical in
theorem candidate_prior_at : val_main_v83 (F := Ideal) x2 x4 (ix3 b j p)
    = if o x2 x4 b j p = o x2 x4 b j (Spec.first (o x2 x4 b j)) then BitVec.ofNat 32 p.val else BitVec.ofNat 32 8732 := by
  have hm : val_main_v78 (F := Ideal) x2 x4 (ix3 b j p) = o x2 x4 b j (Spec.first (o x2 x4 b j)) := by
    rw [val_main_v78_apply, val_main_v77_apply]
    exact (congrArg _ (eq_ix2 _)).trans (most_object_at x2 x4 b j)
  rw [val_main_v83_apply, val_main_v79_apply, hm, overlap_at, val_main_v82_apply, val_main_v75_apply, val_main_v81_apply,
    val_main_v80_apply, val_main_c_6_apply]
  exact KernelIdeal.Match.sel_eq _ _ _ _

theorem first_object_at : val_main_v74 (F := Ideal) x2 x4 (ix2 b p) = BitVec.ofNat 32 (Spec.first fun j => o x2 x4 b j p).val := by
  classical
  refine (Host.reduce_eq_fold IntOp.minsi (val_main_v73 (F := Ideal) x2 x4) (val_main_c_4 (F := Ideal))
    reducesTo_S64x16x8732_S64x8732_d1 h_S_ (ix2 b p)).trans ?_
  refine (Shape.ReducesTo.fold_fiber_r3_a1 reducesTo_S64x16x8732_S64x8732_d1 (ix2 b p) _ _ _).trans ?_
  refine Eq.trans ?_ (fold_first (by omega) (fun j => o x2 x4 b j p) _ rfl)
  exact Finset.fold_congr fun j _ => candidate_object_at x2 x4 b j p

theorem first_prior_at : val_main_v84 (F := Ideal) x2 x4 (ix2 b j) = BitVec.ofNat 32 (Spec.first (o x2 x4 b j)).val := by
  classical
  refine (Host.reduce_eq_fold IntOp.minsi (val_main_v83 (F := Ideal) x2 x4) (val_main_c_7 (F := Ideal))
    reducesTo_S64x16x8732_S64x16_d2 h_S_ (ix2 b j)).trans ?_
  refine (Shape.ReducesTo.fold_fiber_r3_a2 reducesTo_S64x16x8732_S64x16_d2 (ix2 b j) _ _ _).trans ?_
  refine Eq.trans ?_ (fold_first (by omega) (o x2 x4 b j) _ rfl)
  exact Finset.fold_congr fun p _ => candidate_prior_at x2 x4 b j p

open Classical in
theorem claim_at : val_main_v95 (F := Ideal) x2 x4 (ix3 b j p)
    = if j ∈ Spec.claimers (o x2 x4 b) p then BitVec.ofNat 32 j.val else 4294967295#32 := by
  have hm : val_main_v89 (F := Ideal) x2 x4 (ix3 b j p) = BitVec.ofNat 32 (Spec.first (o x2 x4 b j)).val := by
    rw [val_main_v89_apply, val_main_v86_apply]
    exact (congrArg _ (eq_ix2 _)).trans (first_prior_at x2 x4 b j)
  rw [val_main_v95_apply, val_main_v91_apply, hm, val_main_v90_apply, val_main_v88_apply, val_main_v87_apply, val_main_v94_apply,
    val_main_v85_apply, val_main_v93_apply, val_main_v92_apply, val_main_c_8_apply]
  refine (KernelIdeal.Match.sel_ieq _ _ _ _).trans ?_
  refine if_congr ?_ rfl rfl
  have h1 := (Spec.first (o x2 x4 b j)).isLt
  have h2 := p.isLt
  unfold Spec.claimers
  rw [Finset.mem_filter]
  constructor
  · intro h
    exact ⟨Finset.mem_univ _, Fin.ext (KernelIdeal.Lanes.ofNat_inj _ _ (by omega) (by omega) h)⟩
  · rintro ⟨-, h⟩
    rw [h]
    rfl

open Classical in
theorem claimer_at : val_main_v96 (F := Ideal) x2 x4 (ix2 b p)
    = if h : (Spec.claimers (o x2 x4 b) p).Nonempty then BitVec.ofNat 32 ((Spec.claimers (o x2 x4 b) p).max' h).val else 4294967295#32 := by
  refine (Host.reduce_eq_fold IntOp.maxsi (val_main_v95 (F := Ideal) x2 x4) (val_main_c_9 (F := Ideal))
    reducesTo_S64x16x8732_S64x8732_d1 h_S_ (ix2 b p)).trans ?_
  refine (Shape.ReducesTo.fold_fiber_r3_a1 reducesTo_S64x16x8732_S64x8732_d1 (ix2 b p) _ _ _).trans ?_
  refine Eq.trans ?_ (fold_last (Spec.claimers (o x2 x4 b) p))
  exact Finset.fold_congr fun j _ => claim_at x2 x4 b j p

theorem object_at : val_main_v99 (F := Ideal) x2 x4 (ix2 b p) = BitVec.ofNat 32 (Spec.obj (o x2 x4 b) p).val := by
  classical
  rw [val_main_v99_apply, val_main_v98_apply, val_main_v97_apply, val_main_c_10_apply, claimer_at, first_object_at]
  refine (sel_sge _ _ _).trans ?_
  unfold Spec.obj
  by_cases h : (Spec.claimers (o x2 x4 b) p).Nonempty
  · have := ((Spec.claimers (o x2 x4 b) p).max' h).isLt
    rw [dif_pos h, dif_pos h, if_pos (by rw [toInt_ofNat _ (by omega)]; omega)]
  · rw [dif_neg h, dif_neg h, if_neg (by decide)]

open Classical in
theorem overlap_claimed_at : val_main_v102 (F := Ideal) x2 x4 (ix2 b p)
    = if (Spec.claimers (o x2 x4 b) p).Nonempty then Spec.lit 0x3F800000#32 else o x2 x4 b (Spec.first fun j => o x2 x4 b j p) p := by
  have hm : val_main_v64 (F := Ideal) x2 x4 (ix2 b p) = o x2 x4 b (Spec.first fun j => o x2 x4 b j p) p := most_prior_at x2 x4 b p
  rw [val_main_v102_apply, val_main_v101_apply, val_main_v100_apply, val_main_c_11_apply, claimer_at, hm, val_main_call2_v2_apply,
    val_main_call2_v1_apply, val_main_call2_v0_apply, val_main_cst_12_apply]
  refine (sel_sge _ _ _).trans ?_
  by_cases h : (Spec.claimers (o x2 x4 b) p).Nonempty
  · have := ((Spec.claimers (o x2 x4 b) p).max' h).isLt
    rw [dif_pos h, if_pos h, if_pos (by rw [toInt_ofNat _ (by omega)]; omega)]
    rfl
  · rw [dif_neg h, if_neg h, if_neg (by decide)]

theorem gathered_at : val_main_v107 (F := Ideal) x2 x4 (ix2 b p) = BitVec.ofNat 32 (Spec.obj (o x2 x4 b) p).val := by
  rw [val_main_v107_apply, val_main_v104_apply, val_main_v103_apply, val_main_c_13_apply, object_at]
  have := (Spec.obj (o x2 x4 b) p).isLt
  exact (sel_slt _ _ _).trans (if_neg (by rw [toInt_ofNat _ (by omega)]; omega))
end
end Cert.ReferenceIdeal.Ref
end
-- ==== Proof.RGather.lean ====
/- The reference's three gathers, read at an index. -/
module

public import proofs.«01_k».proof.Proof.RMatch

@[expose] public section

noncomputable section

namespace Cert.ReferenceIdeal.Ref

open Idealize.ShloMosaic
open Cert.ReferenceIdeal Cert.ReferenceIdeal.Facts₀ Cert.ReferenceIdeal.Facts Cert.ReferenceIdeal.Read

attribute [local instance] Cert.ReferenceIdeal.Gen.facts

/-- A label of the image, at the index a prior holds. -/
theorem gather_label {α : Type} (x : S64x16.Idx → α) (idx : IVec S64x8732x1 32) (b : Fin 64) (p : Fin 8732) (k : Fin 16)
    (hk : (idx (ix3 b p 0)).toInt.toNat = k.val) :
    Host.gather gather_S64x16_S64x8732x1_S64x8732_n_1_0_0_1_2_11 x idx (ix2 b p) = x (ix2 b k) := by
  unfold Host.gather
  refine congrArg x (funext fun a => Fin.ext ?_)
  set d := gather_S64x16_S64x8732x1_S64x8732_n_1_0_0_1_2_11 with hd
  show d.start (ix2 b p) idx a + d.batchCoord (ix2 b p) a + d.offCoord (ix2 b p) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 b p) ⟨List.idxOf (1 : Fin 2) d.startIndexMap,
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi, hk]
    exact Nat.min_eq_left (show k.val ≤ 16 - 1 by omega)

/-- A box of the image, at the index a prior holds. -/
theorem gather_box {α : Type} (x : S64x16x4.Idx → α) (idx : IVec S64x8732x1 32) (b : Fin 64) (p : Fin 8732) (c : Fin 4) (k : Fin 16)
    (hk : (idx (ix3 b p 0)).toInt.toNat = k.val) :
    Host.gather gather_S64x16x4_S64x8732x1_S64x8732x4_2_1_0_0_1_2_114 x idx (ix3 b p c) = x (ix3 b k c) := by
  unfold Host.gather
  refine congrArg x (funext fun a => Fin.ext ?_)
  set d := gather_S64x16x4_S64x8732x1_S64x8732x4_2_1_0_0_1_2_114 with hd
  show d.start (ix3 b p c) idx a + d.batchCoord (ix3 b p c) a + d.offCoord (ix3 b p c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b p c) ⟨List.idxOf (1 : Fin 3) d.startIndexMap,
        List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    rw [hsi, hk]
    exact Nat.min_eq_left (show k.val ≤ 16 - 1 by omega)
  · rw [GatherDims.batchCoord_eq_zero _ _ _ (fun h => absurd (List.mem_singleton.mp h) (by decide))]
    unfold GatherDims.start GatherDims.offCoord
    rw [dif_neg (show (2 : Fin 3) ∉ d.startIndexMap from fun h => absurd (List.mem_singleton.mp h) (by decide)),
      dif_pos (show (2 : Fin 3) ∈ d.sKept from (GatherDims.mem_sKept _ _).mpr
        ⟨fun h => absurd (List.mem_singleton.mp h) (by decide), fun h => absurd (List.mem_singleton.mp h) (by decide)⟩)]
    simp only [Nat.zero_add]
    rfl

/-- A class of a prior's scores, at the index it holds. -/
theorem gather_class {α : Type} (x : S64x8732x21.Idx → α) (idx : IVec S64x8732x1x1 32) (b : Fin 64) (p : Fin 8732) :
    Host.gather gather_S64x8732x21_S64x8732x1x1_S64x8732x1_n_2_01_01_2_3_111 x idx (ix3 b p 0)
      = x (ix3 b p ⟨min (idx (ix4 b p 0 0)).toInt.toNat 20, by omega⟩) := by
  unfold Host.gather
  refine congrArg x (funext fun a => Fin.ext ?_)
  set d := gather_S64x8732x21_S64x8732x1x1_S64x8732x1_n_2_01_01_2_3_111 with hd
  show d.start (ix3 b p 0) idx a + d.batchCoord (ix3 b p 0) a + d.offCoord (ix3 b p 0) a = _
  have hb0 : (0 : Fin 3) ∈ d.operandBatchingDims := List.mem_cons_self
  have hb1 : (1 : Fin 3) ∈ d.operandBatchingDims := List.mem_cons_of_mem _ (List.mem_singleton.mpr rfl)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ hb0, GatherDims.offCoord_eq_zero _ _ _ (fun h => ((GatherDims.mem_sKept _ _).mp h).2 hb0)]
    simp only [Nat.zero_add, Nat.add_zero]
    unfold GatherDims.batchCoord
    rw [dif_pos hb0]
    rfl
  · rw [GatherDims.start_batching _ _ _ _ hb1, GatherDims.offCoord_eq_zero _ _ _ (fun h => ((GatherDims.mem_sKept _ _).mp h).2 hb1)]
    simp only [Nat.zero_add, Nat.add_zero]
    unfold GatherDims.batchCoord
    rw [dif_pos hb1]
    rfl
  · have hn : (2 : Fin 3) ∉ d.operandBatchingDims := by
      intro h
      rcases List.mem_cons.mp h with h | h
      · exact absurd h (by decide)
      · exact absurd (List.mem_singleton.mp h) (by decide)
    rw [GatherDims.batchCoord_eq_zero _ _ _ hn,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ d.startIndexMap from List.mem_singleton.mpr rfl)]
    have hsi : d.siIdx (ix3 b p 0) ⟨List.idxOf (2 : Fin 3) d.startIndexMap,
        List.idxOf_lt_length_iff.2 (List.mem_singleton.mpr rfl)⟩ = ix4 b p 0 0 := by
      funext c; refine Fin.ext ?_
      match c with
      | ⟨0, _⟩ => rfl
      | ⟨1, _⟩ => rfl
      | ⟨2, _⟩ => rfl
      | ⟨3, _⟩ => rfl
    rw [hsi]
    rfl

end Cert.ReferenceIdeal.Ref
end
-- ==== Proof.RLoc.lean ====
/- The reference's labels and its location loss, read at an index. -/
module

public import proofs.«01_k».proof.Proof.RGather

@[expose] public section

noncomputable section

namespace Cert.ReferenceIdeal.Ref

open Idealize.ShloMosaic
open Cert.ReferenceIdeal Cert.ReferenceIdeal.Facts₀ Cert.ReferenceIdeal.Facts Cert.ReferenceIdeal.Read
open Cert.KernelIdeal.Lanes (toInt_ofNat)

attribute [local instance] Cert.ReferenceIdeal.Gen.facts

theorem ofNat_toNat_obj (k : Fin 16) : (BitVec.ofNat 32 k.val).toInt.toNat = k.val := by
  have := k.isLt
  rw [toInt_ofNat _ (by omega)]; rfl

/-- A label's word is not 0, as a number. -/
theorem ind_word (l : BitVec 32) : FloatOps.uitofp (F := Ideal) .f32 (IntOp.cmpi .ne l 0#32) = Spec.ind l := by
  show (((IntOp.cmpi .ne l 0#32).toNat : ℝ) : EReal) = _
  unfold Spec.ind IntOp.cmpi
  by_cases h : l = 0#32
  · subst h; rw [if_neg (show ¬ ((0#32 : BitVec 32) ≠ 0) from not_not.mpr rfl)]; simp
  · rw [if_pos (show l ≠ 0 from h)]
    have : (l != 0#32) = true := by simpa using h
    simp [this]

section
variable (x0 : (⟨S64x8732x4, .f32⟩ : BufTy).Contents (Elt Ideal)) (x2 : (⟨S64x16x4, .f32⟩ : BufTy).Contents (Elt Ideal))
  (x3 : (⟨S64x16, .i32⟩ : BufTy).Contents (Elt Ideal)) (x4 : (⟨S8732x4, .f32⟩ : BufTy).Contents (Elt Ideal))
variable (b : Fin 64) (p : Fin 8732)

/-- The image's labels. -/
abbrev l : Fin 8732 → BitVec 32 := Spec.lab (priors x4) (boxes x2 b) (labels x3 b)

theorem label_at : val_main_v112 (F := Ideal) x2 x3 x4 (ix2 b p) = l x2 x3 x4 b p := by
  classical
  have hg : val_main_v109 (F := Ideal) x2 x3 x4 (ix2 b p) = labels x3 b (Spec.obj (o x2 x4 b) p) := by
    refine gather_label x3 (val_main_v108 (F := Ideal) x2 x4) b p _ ?_
    rw [val_main_v108_apply]
    refine Eq.trans (congrArg (fun w : BitVec 32 => w.toInt.toNat) ?_) (ofNat_toNat_obj (Spec.obj (o x2 x4 b) p))
    exact (congrArg _ (eq_ix2 _)).trans (gathered_at x2 x4 b p)
  rw [val_main_v112_apply, val_main_v111_apply, val_main_v110_apply, val_main_cst_15_apply, overlap_claimed_at, hg,
    val_main_call3_v2_apply, val_main_call3_v1_apply, val_main_call3_v0_apply, val_main_c_16_apply]
  refine (KernelIdeal.Match.sel_lt _ _ _ _).trans ?_
  show (if _ < Spec.lit 0x3F000000#32 then (0 : BitVec 32) else _) = Spec.label (o x2 x4 b) (labels x3 b) p
  unfold Spec.label
  have hlt : ¬ Spec.lit 0x3F800000#32 < Spec.lit 0x3F000000#32 := by
    rw [show Spec.lit 0x3F800000#32 = ((1 : ℝ) : EReal) from Spec.lit_one.trans EReal.coe_one.symm, show Spec.lit 0x3F000000#32 = ((1 / 2 : ℝ) : EReal) from Spec.lit_half,
      EReal.coe_lt_coe_iff]
    norm_num
  by_cases hc : (Spec.claimers (o x2 x4 b) p).Nonempty
  · rw [if_pos hc, if_neg hlt, if_pos (Or.inl hc)]
  · rw [if_neg hc]
    by_cases hh : o x2 x4 b (Spec.first fun j => o x2 x4 b j p) p < Spec.lit 0x3F000000#32
    · rw [if_pos hh, if_neg (by rintro (h | h); exacts [hc h, h hh])]
    · rw [if_neg hh, if_pos (Or.inr hh)]

theorem box_at (c : Fin 4) : val_main_v119 (F := Ideal) x2 x4 (ix3 b p c) = boxes x2 b (Spec.obj (o x2 x4 b) p) c := by
  refine gather_box x2 (val_main_v118 (F := Ideal) x2 x4) b p c _ ?_
  rw [val_main_v118_apply]
  refine Eq.trans (congrArg (fun w : BitVec 32 => w.toInt.toNat) ?_) (ofNat_toNat_obj (Spec.obj (o x2 x4 b) p))
  exact (congrArg _ (eq_ix2 _)).trans (gathered_at x2 x4 b p)

/-- The matched box. -/
abbrev bo : Fin 4 → EReal := boxes x2 b (Spec.obj (o x2 x4 b) p)

theorem centre_at (d : Fin 2) : val_main_v128 (F := Ideal) x2 x4 (ix3 b p (lo d))
    = Ideal.div (bo x2 x4 b p (lo d) + bo x2 x4 b p (hi d)) (Spec.lit 0x40000000#32) := by
  have h := concatenate_pair_apply (t := S64x8732x4) 2 (val_main_v124 (F := Ideal) x2 x4) (val_main_v127 (F := Ideal) x2 x4)
    concatenates_S64x8732x2_S64x8732x2_S64x8732x4_d2 (ix3 b p (lo d))
  refine Eq.trans h ?_
  refine (dif_pos (show d.val < 2 from d.isLt)).trans ?_
  refine (congrArg (val_main_v124 (F := Ideal) x2 x4) (eq_ix3 _)).trans ?_
  rw [val_main_v124_apply, val_main_v123_apply, val_main_cst_19_apply, val_main_v122_apply, val_main_v120_apply, val_main_v121_apply]
  refine congrArg₂ (fun a b : EReal => Ideal.div (a + b) (Spec.lit 0x40000000#32)) ?_ ?_
  · exact (congrArg _ (eq_ix3 _)).trans (box_at x2 x4 b p (lo d))
  · exact (congrArg _ (eq_ix3 _)).trans (box_at x2 x4 b p (hi d))

theorem extent_at (d : Fin 2) : val_main_v128 (F := Ideal) x2 x4 (ix3 b p (hi d)) = bo x2 x4 b p (hi d) - bo x2 x4 b p (lo d) := by
  have h := concatenate_pair_apply (t := S64x8732x4) 2 (val_main_v124 (F := Ideal) x2 x4) (val_main_v127 (F := Ideal) x2 x4)
    concatenates_S64x8732x2_S64x8732x2_S64x8732x4_d2 (ix3 b p (hi d))
  refine Eq.trans h ?_
  refine (dif_neg (show ¬ 2 + d.val < 2 by omega)).trans ?_
  refine (congrArg (val_main_v127 (F := Ideal) x2 x4) ((eq_ix3 _).trans
    (congrArg (fun z : Fin 2 => (ix3 b p z : S64x8732x2.Idx)) (Fin.ext (show 2 + d.val - 2 = d.val by omega))))).trans ?_
  rw [val_main_v127_apply, val_main_v125_apply, val_main_v126_apply]
  refine congrArg₂ (fun a b : EReal => a - b) ?_ ?_
  · exact (congrArg _ (eq_ix3 _)).trans (box_at x2 x4 b p (hi d))
  · exact (congrArg _ (eq_ix3 _)).trans (box_at x2 x4 b p (lo d))

theorem offset_at (d : Fin 2) : val_main_v139 (F := Ideal) x2 x4 (ix3 b p d)
    = Ideal.div (Ideal.div (bo x2 x4 b p (lo d) + bo x2 x4 b p (hi d)) (Spec.lit 0x40000000#32) - priors x4 p (lo d))
        (Ideal.div (priors x4 p (hi d)) (Spec.lit 0x41200000#32)) := by
  rw [val_main_v139_apply, val_main_v133_apply, val_main_v129_apply, val_main_v132_apply, val_main_v131_apply, val_main_v130_apply,
    val_main_v138_apply, val_main_v137_apply, val_main_v136_apply, val_main_v134_apply, val_main_v135_apply, val_main_cst_20_apply]
  refine congrArg₂ Ideal.div (congrArg₂ (fun a b : EReal => a - b) ?_ (congrArg x4 (eq_ix2 _)))
    (congrArg (fun a : EReal => Ideal.div a (Spec.lit 0x41200000#32)) (congrArg x4 (eq_ix2 _)))
  exact (congrArg _ (eq_ix3 _)).trans (centre_at x2 x4 b p d)

theorem scale_at (d : Fin 2) : val_main_v147 (F := Ideal) x2 x4 (ix3 b p d)
    = Ideal.log (Ideal.div (bo x2 x4 b p (hi d) - bo x2 x4 b p (lo d)) (priors x4 p (hi d))) * Spec.lit 0x40A00000#32 := by
  rw [val_main_v147_apply, val_main_v145_apply, val_main_v144_apply, val_main_v140_apply, val_main_v143_apply, val_main_v142_apply,
    val_main_v141_apply, val_main_v146_apply, val_main_cst_21_apply]
  refine congrArg₂ (fun a b : EReal => Ideal.log (Ideal.div a b) * Spec.lit 0x40A00000#32) ?_ (congrArg x4 (eq_ix2 _))
  exact (congrArg _ (eq_ix3 _)).trans (extent_at x2 x4 b p d)

theorem target_at (c : Fin 4) : val_main_v148 (F := Ideal) x2 x4 (ix3 b p c) = Spec.target (priors x4 p) (bo x2 x4 b p) c := by
  have h := concatenate_pair_apply (t := S64x8732x4) 2 (val_main_v139 (F := Ideal) x2 x4) (val_main_v147 (F := Ideal) x2 x4)
    concatenates_S64x8732x2_S64x8732x2_S64x8732x4_d2 (ix3 b p c)
  have hl := offset_at x2 x4 b p
  have hh := scale_at x2 x4 b p
  refine Eq.trans h ?_
  fin_cases c
  · exact (congrArg (val_main_v139 (F := Ideal) x2 x4) (eq_ix3 _)).trans (hl 0)
  · exact (congrArg (val_main_v139 (F := Ideal) x2 x4) (eq_ix3 _)).trans (hl 1)
  · exact (congrArg (val_main_v147 (F := Ideal) x2 x4) (eq_ix3 _)).trans (hh 0)
  · exact (congrArg (val_main_v147 (F := Ideal) x2 x4) (eq_ix3 _)).trans (hh 1)

theorem smooth_at (c : Fin 4) : val_main_v169 (F := Ideal) x0 x2 x4 (ix3 b p c)
    = Spec.smooth (locs x0 b p c) (Spec.target (priors x4 p) (bo x2 x4 b p) c) := by
  classical
  have hm : val_main_v161 (F := Ideal) x0 x2 x4 (ix3 b p c)
      = Spec.mag (locs x0 b p c - Spec.target (priors x4 p) (bo x2 x4 b p) c) := by
    rw [val_main_v161_apply, val_main_v160_apply, target_at]; rfl
  rw [val_main_v169_apply, val_main_v163_apply, val_main_v166_apply, val_main_v165_apply, val_main_v168_apply, hm, val_main_v162_apply,
    val_main_v164_apply, val_main_v167_apply, val_main_cst_25_apply, val_main_cst_26_apply, val_main_cst_27_apply]
  exact (KernelIdeal.Match.sel_lt _ _ _ _).trans rfl

theorem ind_at (c : Fin 4) : val_main_v172 (F := Ideal) x2 x3 x4 (ix3 b p c) = Spec.ind (l x2 x3 x4 b p) := by
  rw [val_main_v172_apply, val_main_v171_apply, val_main_v170_apply, val_main_v150_apply, val_main_v149_apply, val_main_c_22_apply,
    ← label_at]
  exact (ind_word _).trans (congrArg _ (congrArg _ (eq_ix2 _)))

/-- A factor of 0 or 1 goes through a sum. -/
theorem sum_mul_ind (w : BitVec 32) (f : Fin 4 → EReal) : ∑ c, f c * Spec.ind w = (∑ c, f c) * Spec.ind w := by
  unfold Spec.ind
  split <;> simp

theorem loc_loss_at : val_main_v174 (F := Ideal) x0 x2 x3 x4 (ix1 b)
    = ∑ p, Spec.locAt (priors x4) (boxes x2 b) (locs x0 b) p * Spec.ind (l x2 x3 x4 b p) := by
  have h := Ideal.hostReduceAdd_r3_a12 reducesTo_S64x8732x4_S64_d1_2 (val_main_v173 (F := Ideal) x0 x2 x3 x4)
    (val_main_cst_28 (F := Ideal) (Shape.Idx.first h_S_)) (ix1 b)
  refine Eq.trans h ?_
  rw [val_main_cst_28_apply]
  refine (congrArg (fun z : EReal => z + _) Spec.lit_zero).trans ?_
  rw [zero_add]
  refine Finset.sum_congr rfl fun p _ => ?_
  unfold Spec.locAt
  rw [← sum_mul_ind]
  refine Finset.sum_congr rfl fun c _ => ?_
  refine (val_main_v173_apply x0 x2 x3 x4 _).trans ?_
  exact congrArg₂ (fun a b : EReal => a * b) (smooth_at x0 x2 x4 b p c) (ind_at x2 x3 x4 b p c)
end
end Cert.ReferenceIdeal.Ref
end
-- ==== Proof.RConf.lean ====
/- The reference's confidence loss, read at an index. -/
module

public import proofs.«01_k».proof.Proof.RLoc
public import proofs.«01_k».proof.Proof.KLoss

@[expose] public section

set_option maxRecDepth 16384

noncomputable section

namespace Cert.ReferenceIdeal.Ref

open Idealize.ShloMosaic
open Cert.ReferenceIdeal Cert.ReferenceIdeal.Facts₀ Cert.ReferenceIdeal.Facts Cert.ReferenceIdeal.Read
open Cert.KernelIdeal.Lanes (toInt_ofNat)

attribute [local instance] Cert.ReferenceIdeal.Gen.facts

section
variable (x1 : (⟨S64x8732x21, .f32⟩ : BufTy).Contents (Elt Ideal)) (x2 : (⟨S64x16x4, .f32⟩ : BufTy).Contents (Elt Ideal))
  (x3 : (⟨S64x16, .i32⟩ : BufTy).Contents (Elt Ideal)) (x4 : (⟨S8732x4, .f32⟩ : BufTy).Contents (Elt Ideal))
variable (b : Fin 64) (p : Fin 8732)

theorem top_at : val_main_call4_v2 (F := Ideal) x1 (ix2 b p) = Spec.top (scores x1 b p) := by
  have h : val_main_call4_v0 (F := Ideal) x1 (ix2 b p) = Spec.top (scores x1 b p) := by
    refine (Host.reduce_eq_fold (FloatOps.maximumf (F := Ideal) (φ := .f32)) x1 (val_main_call4_cst (F := Ideal))
      reducesTo_S64x8732x21_S64x8732_d2 h_S_ (ix2 b p)).trans ?_
    exact (Shape.ReducesTo.fold_fiber_r3_a2 reducesTo_S64x8732x21_S64x8732_d2 (ix2 b p) _ _ _).trans rfl
  rw [val_main_call4_v2_apply, h, val_main_call4_v1_apply, val_main_call4_cst_0_apply]
  exact (congrArg (fun z : EReal => max z _) Spec.lit_bot).trans (max_eq_right bot_le)

theorem shifted_at (c : Fin 21) : val_main_call4_v5 (F := Ideal) x1 (ix3 b p c) = scores x1 b p c - Spec.top (scores x1 b p) := by
  rw [val_main_call4_v5_apply, val_main_call4_v4_apply, val_main_call4_v3_apply, ← top_at]
  exact congrArg (fun z : EReal => scores x1 b p c - z) (congrArg _ (eq_ix2 _))

theorem log_prob_at (c : Fin 21) : val_main_v155 (F := Ideal) x1 (ix3 b p c)
    = scores x1 b p c - Spec.top (scores x1 b p) - Ideal.log (0 + ∑ k, Ideal.exp (scores x1 b p k - Spec.top (scores x1 b p))) := by
  have hs : val_main_call4_v7 (F := Ideal) x1 (ix2 b p) = 0 + ∑ k, Ideal.exp (scores x1 b p k - Spec.top (scores x1 b p)) := by
    rw [val_main_call4_v7_apply, val_main_call4_cst_1_apply]
    refine congrArg₂ (fun a b : EReal => a + b) Spec.lit_zero (Finset.sum_congr rfl fun k _ => ?_)
    rw [val_main_call4_v6_apply]
    exact congrArg Ideal.exp ((congrArg _ (eq_ix3 _)).trans (shifted_at x1 b p k))
  rw [val_main_v155_apply, shifted_at, val_main_call4_v10_apply, val_main_call4_v9_apply, val_main_call4_v8_apply, ← hs]
  exact congrArg (fun z : EReal => scores x1 b p c - Spec.top (scores x1 b p) - Ideal.log z) (congrArg _ (eq_ix2 _))

variable (hlb : ∀ j, KernelIdeal.KLoss.InClasses (labels x3 b j))
include hlb

theorem class_at : val_main_call5_v5 (F := Ideal) x2 x3 x4 (ix4 b p 0 0) = l x2 x3 x4 b p := by
  have hl : val_main_v156 (F := Ideal) x2 x3 x4 (ix3 b p 0) = l x2 x3 x4 b p := by
    rw [val_main_v156_apply]
    exact (congrArg _ (eq_ix2 _)).trans (label_at x2 x3 x4 b p)
  have hs : val_main_call5_v4 (F := Ideal) x2 x3 x4 (ix3 b p 0) = l x2 x3 x4 b p := by
    rw [val_main_call5_v4_apply, val_main_call5_v1_apply, val_main_call5_v0_apply, val_main_call5_c_apply, hl]
    refine (sel_slt _ _ _).trans (if_neg ?_)
    obtain ⟨c, hc⟩ := KernelIdeal.KLoss.lab_inClasses (priors x4) (boxes x2 b) (labels x3 b) hlb p
    have := c.isLt
    rw [show l x2 x3 x4 b p = _ from hc, toInt_ofNat _ (by omega)]
    omega
  rw [val_main_call5_v5_apply, ← hs]
  refine congrArg _ (funext fun a => ?_)
  fin_cases a <;> refine Fin.ext ?_ <;> simp [ix3, ix4] <;> omega

theorem conf_at : val_main_v159 (F := Ideal) x1 x2 x3 x4 (ix2 b p)
    = Spec.confAt (priors x4) (boxes x2 b) (labels x3 b) (scores x1 b) p := by
  have hg : val_main_v157 (F := Ideal) x1 x2 x3 x4 (ix3 b p 0) = val_main_v155 (F := Ideal) x1 (ix3 b p (Spec.cls (l x2 x3 x4 b p))) := by
    refine (gather_class (val_main_v155 (F := Ideal) x1) (val_main_call5_v5 (F := Ideal) x2 x3 x4) b p).trans ?_
    exact congrArg (fun w : BitVec 32 => val_main_v155 (F := Ideal) x1 (ix3 b p (Spec.cls w))) (class_at x2 x3 x4 b p hlb)
  have hv : val_main_v158 (F := Ideal) x1 x2 x3 x4 (ix2 b p) = val_main_v157 (F := Ideal) x1 x2 x3 x4 (ix3 b p 0) := by
    rw [val_main_v158_apply]
    refine congrArg _ (funext fun a => ?_)
    fin_cases a <;> refine Fin.ext ?_ <;> simp [ix2, ix3] <;> omega
  rw [val_main_v159_apply, hv, hg, log_prob_at]
  rfl

theorem conf_pos_at : val_main_v177 (F := Ideal) x1 x2 x3 x4 (ix1 b)
    = ∑ p, Spec.confAt (priors x4) (boxes x2 b) (labels x3 b) (scores x1 b) p * Spec.ind (l x2 x3 x4 b p) := by
  rw [val_main_v177_apply, val_main_cst_29_apply]
  refine (congrArg (fun z : EReal => z + _) Spec.lit_zero).trans ?_
  rw [zero_add]
  refine Finset.sum_congr rfl fun p _ => ?_
  refine (congrArg _ (eq_ix2 _)).trans ?_
  refine (val_main_v176_apply x1 x2 x3 x4 (ix2 b p)).trans ?_
  refine congrArg₂ (fun a b : EReal => a * b) (conf_at x1 x2 x3 x4 b p hlb) ?_
  rw [val_main_v175_apply, val_main_v150_apply, val_main_v149_apply, val_main_c_22_apply, label_at]
  exact ind_word _

open Classical in
theorem neg_at : val_main_v178 (F := Ideal) x1 x2 x3 x4 (ix2 b p)
    = Spec.neg (priors x4) (boxes x2 b) (labels x3 b) (scores x1 b) p := by
  rw [val_main_v178_apply, val_main_v150_apply, val_main_v149_apply, val_main_c_22_apply, label_at, conf_at x1 x2 x3 x4 b p hlb,
    val_main_call7_v1_apply, val_main_call7_v0_apply, val_main_cst_30_apply]
  unfold Spec.neg Scalar.select IntOp.cmpi
  by_cases h : l x2 x3 x4 b p = 0#32
  · rw [if_neg (not_not.mpr (show Spec.lab (priors x4) (boxes x2 b) (labels x3 b) p = 0 from h)), h]
    simp
  · rw [if_pos (show Spec.lab (priors x4) (boxes x2 b) (labels x3 b) p ≠ 0 from h)]
    have : (l x2 x3 x4 b p != 0#32) = true := by simpa using h
    rw [this]
    exact Spec.lit_zero
end
end Cert.ReferenceIdeal.Ref
end
-- ==== Proof.RMine.lean ====
/- The reference's mined part of the confidence loss, read at an image. -/
module

public import proofs.«01_k».proof.Proof.RConf
public import Idealize.ShloMosaic.Lib.SortFacts
public import Idealize.ShloMosaic.Lib.IndicatorCount

@[expose] public section

set_option maxRecDepth 16384

noncomputable section

namespace Cert.ReferenceIdeal.Ref

open Idealize.ShloMosaic
open Cert.ReferenceIdeal Cert.ReferenceIdeal.Facts₀ Cert.ReferenceIdeal.Facts Cert.ReferenceIdeal.Read

attribute [local instance] Cert.ReferenceIdeal.Gen.facts

/-! ### Facts about plain numbers -/

/-- The order the sort compares by. -/
theorem comparator_eq (x y : EReal) : (comparator_f32_d1 (F := Ideal) x y == 1#1) = decide (x < y) := by
  classical
  have hz : ∀ z : EReal, Scalar.select (FloatOps.cmpf (F := Ideal) (φ := .f32) .oeq z (FloatOps.ofBits .f32 0x00000000#32))
      (FloatOps.ofBits (F := Ideal) .f32 0x00000000#32) z = z := by
    intro z
    refine (KernelIdeal.Match.sel_eq z _ _ _).trans ?_
    split
    · rename_i h; exact h.symm
    · rfl
  have hn : ∀ z w u : EReal, Scalar.select (FloatOps.cmpf (F := Ideal) (φ := .f32) .une z z) w u = u := by
    intro z w u
    show Scalar.select (Ideal.cmp .une z z) w u = u
    unfold Scalar.select Ideal.cmp
    simp
  unfold comparator_f32_d1
  simp only [hz, hn]
  show (Ideal.cmp .olt x y == 1#1) = _
  unfold Ideal.cmp
  by_cases h : x < y <;> simp [h]

/-- An order of real numbers by a strict comparison sorts by a permutation. -/
theorem descending {n : ℕ} (r : Fin n → ℝ) (R : Fin n → Fin n → Bool) (hR : ∀ i j, R i j = true ↔ r j < r i) :
    ∃ e : Equiv.Perm (Fin n), (∀ i j, i ≤ j → r (e j) ≤ r (e i)) ∧ ∀ i, e i = sortedFrom R i := by
  have hRf : ∀ i j, R i j = false ↔ r i ≤ r j := by
    intro i j
    rw [← not_lt, ← hR, Bool.not_eq_true]
  refine ⟨Equiv.ofBijective (sortedFrom R) ⟨sortedFrom_injective R, sortedFrom_surjective R⟩, fun i j hij => ?_, fun i => rfl⟩
  rcases hij.lt_or_eq with h | h
  · have := sortedFrom_noInversion R R (fun a c hac => (hRf _ _).mpr ((hR _ _).mp hac).le) (fun a c hac => hac)
      (fun a c d h1 h2 => (hRf _ _).mpr (((hRf _ _).mp h1).trans ((hRf _ _).mp h2))) i j h
    exact (hRf _ _).mp this
  · rw [h]

/-- A row sorted by the comparison. -/
theorem sort_row {m n : ℕ} (x : (⟨2, ![m, n]⟩ : Shape).Idx → EReal) (b : Fin m) (i : Fin n) :
    Host.sort ⟨2, ![m, n]⟩ 1 (comparator_f32_d1 (F := Ideal)) x (ix2 b i)
      = x (ix2 b (sortedFrom (fun k k' => decide (x (ix2 b k) < x (ix2 b k'))) i)) := by
  have halong : ∀ k : Fin n, (ix2 b i : (⟨2, ![m, n]⟩ : Shape).Idx).along (1 : Fin 2) k = ix2 b k := by
    intro k
    funext a
    match a with
    | ⟨0, _⟩ => rfl
    | ⟨1, _⟩ => rfl
  have hcmp : (fun k k' : Fin n => comparator_f32_d1 (F := Ideal) (x ((ix2 b i : (⟨2, ![m, n]⟩ : Shape).Idx).along (1 : Fin 2) k))
      (x ((ix2 b i : (⟨2, ![m, n]⟩ : Shape).Idx).along (1 : Fin 2) k')) == 1#1) = fun k k' => decide (x (ix2 b k) < x (ix2 b k')) := by
    funext k k'
    rw [halong, halong, comparator_eq]
  unfold Host.sort
  rw [dif_pos (show 1 < (⟨2, ![m, n]⟩ : Shape).rank from Nat.one_lt_two)]
  refine congrArg x (Eq.trans ?_ (halong _))
  exact congrArg (fun B => (ix2 b i : (⟨2, ![m, n]⟩ : Shape).Idx).along (1 : Fin 2) (sortedFrom B i)) hcmp

theorem sort_descending {m n : ℕ} (x : (⟨2, ![m, n]⟩ : Shape).Idx → EReal) (b : Fin m) (r : Fin n → ℝ)
    (hx : ∀ p, x (ix2 b p) = ((-r p : ℝ) : EReal)) : ∃ e : Equiv.Perm (Fin n), (∀ i j, i ≤ j → r (e j) ≤ r (e i)) ∧
      ∀ i, Host.sort ⟨2, ![m, n]⟩ 1 (comparator_f32_d1 (F := Ideal)) x (ix2 b i) = ((-r (e i) : ℝ) : EReal) := by
  obtain ⟨e, he, hs⟩ := descending r (fun k k' => decide (x (ix2 b k) < x (ix2 b k'))) fun i j => by
    rw [decide_eq_true_eq, hx, hx, EReal.coe_lt_coe_iff, neg_lt_neg_iff]
  exact ⟨e, he, fun i => by rw [sort_row, ← hs, hx]⟩

theorem toInt_small (n : ℕ) (h : n < 2147483648) : (BitVec.ofNat 32 n).toInt = n := by
  rw [BitVec.toInt_ofNat', Int.bmod_def]
  norm_num
  omega

theorem ofNat_small (m n : ℕ) (hm : m < 2147483648) (hn : n < 2147483648) : BitVec.ofNat 32 m = BitVec.ofNat 32 n ↔ m = n := by
  constructor
  · intro h
    have := congrArg BitVec.toInt h
    rw [toInt_small m hm, toInt_small n hn] at this
    exact_mod_cast this
  · rintro rfl; rfl

/-- The cutoff from the value the sorted array holds at the position. -/
theorem cutoff_of (M t c : ℝ) (h0 : 0 ≤ M) (hc : 0 < M → max ((⌈t / (M / 262144)⌉ : ℝ) - 1) 0 = c) :
    (max (Ideal.liftRound Int.ceil (Ideal.div (t : EReal) ((M / 262144 : ℝ) : EReal)) - ((1 : ℝ) : EReal)) ((0 : ℝ) : EReal) + ((1 / 2 : ℝ) : EReal))
      * ((M / 262144 : ℝ) : EReal) = (((c + 1 / 2) * (M / 262144) : ℝ) : EReal) := by
  rcases h0.lt_or_eq with h | h
  · have hw : M / 262144 ≠ 0 := by positivity
    rw [Spec.div_coe _ _ hw, ← EReal.coe_mul, Ideal.liftRound_coe, ← EReal.coe_sub, ← EReal.coe_strictMono.monotone.map_max, ← EReal.coe_add, ← EReal.coe_mul]
    rw [show t * (M / 262144)⁻¹ = t / (M / 262144) from rfl, hc h]
  · rw [← h, zero_div, mul_zero, EReal.coe_zero, mul_zero]

section
variable (x1 : (⟨S64x8732x21, .f32⟩ : BufTy).Contents (Elt Ideal)) (x2 : (⟨S64x16x4, .f32⟩ : BufTy).Contents (Elt Ideal))
  (x3 : (⟨S64x16, .i32⟩ : BufTy).Contents (Elt Ideal)) (x4 : (⟨S8732x4, .f32⟩ : BufTy).Contents (Elt Ideal))
variable (b : Fin 64)

theorem npos_le : Spec.npos (priors x4) (boxes x2 b) (labels x3 b) ≤ 8732 := by
  unfold Spec.npos
  refine (Finset.card_filter_le _ _).trans ?_
  rw [Finset.card_univ, Fintype.card_fin]

theorem npos_at : val_main_v152 (F := Ideal) x2 x3 x4 (ix1 b) = BitVec.ofNat 32 (Spec.npos (priors x4) (boxes x2 b) (labels x3 b)) := by
  classical
  refine (Host.reduce_eq_fold IntOp.addi (val_main_v151 (F := Ideal) x2 x3 x4) (val_main_c_23 (F := Ideal))
    reducesTo_S64x8732_S64_d1 h_S_ (ix1 b)).trans ?_
  refine (Shape.ReducesTo.fold_fiber_r2_a1 reducesTo_S64x8732_S64_d1 (ix1 b) _ _ _).trans ?_
  refine Eq.trans (Finset.fold_congr (g := fun p => (IntOp.cmpi .ne (l x2 x3 x4 b p) 0#32).setWidth 32) fun p _ => ?_)
    ((IndicatorCount.fold_addi_setWidth_eq_card _ _).trans (congrArg _ ?_))
  · rw [← label_at]; rfl
  · unfold Spec.npos
    congr 1
    refine Finset.filter_congr fun p _ => ?_
    unfold IntOp.cmpi
    by_cases h : l x2 x3 x4 b p = 0#32
    · simp only [h]; simp [show Spec.lab (priors x4) (boxes x2 b) (labels x3 b) p = 0 from h]
    · have : (l x2 x3 x4 b p != 0#32) = true := by simpa using h
      simp only [this]
      simpa using (show ¬ Spec.lab (priors x4) (boxes x2 b) (labels x3 b) p = 0#32 from h)

/-- Three times the positive priors. -/
abbrev hard : ℕ := Spec.npos (priors x4) (boxes x2 b) (labels x3 b) * 3

theorem hard_at : val_main_v154 (F := Ideal) x2 x3 x4 (ix1 b) = BitVec.ofNat 32 (hard x2 x3 x4 b) := by
  rw [val_main_v154_apply, npos_at, val_main_v153_apply, val_main_c_24_apply]
  exact (BitVec.ofNat_mul _ _).symm

theorem hard_lt : hard x2 x3 x4 b < 2147483648 := by have := npos_le x2 x3 x4 b; unfold hard; omega

theorem sitofp_small (n : ℕ) (h : n < 2147483648) : FloatOps.sitofp (F := Ideal) .f32 (BitVec.ofNat 32 n) = (((n : ℝ)) : EReal) := by
  show ((((BitVec.ofNat 32 n).toInt : ℤ) : ℝ) : EReal) = _
  rw [toInt_small n h]
  rfl

theorem npos_float_at : val_main_v216 (F := Ideal) x2 x3 x4 (ix1 b) = (((Spec.npos (priors x4) (boxes x2 b) (labels x3 b) : ℕ) : ℝ) : EReal) := by
  rw [val_main_v216_apply, npos_at]
  exact sitofp_small _ (by have := npos_le x2 x3 x4 b; omega)

theorem hard_float_at : val_main_v207 (F := Ideal) x2 x3 x4 (ix1 b) = (((hard x2 x3 x4 b : ℕ) : ℝ) : EReal) := by
  rw [val_main_v207_apply, hard_at]
  exact sitofp_small _ (hard_lt x2 x3 x4 b)

variable (r : Fin 8732 → ℝ) (hv : ∀ p, val_main_v178 (F := Ideal) x1 x2 x3 x4 (ix2 b p) = ((r p : ℝ) : EReal)) (hr : ∀ p, 0 ≤ r p)
include hv

theorem greatest_at : val_main_v182 (F := Ideal) x1 x2 x3 x4 (ix1 b) = ((Spec.greatest r : ℝ) : EReal) := by
  have hge : ∀ q, r q ≤ Spec.greatest r := fun q => Finset.le_sup' r (Finset.mem_univ q)
  refine (Host.reduce_eq_fold (FloatOps.maximumf (F := Ideal) (φ := .f32)) (val_main_v178 (F := Ideal) x1 x2 x3 x4) (val_main_cst_31 (F := Ideal))
    reducesTo_S64x8732_S64_d1 h_S_ (ix1 b)).trans ?_
  refine (Shape.ReducesTo.fold_fiber_r2_a1 reducesTo_S64x8732_S64_d1 (ix1 b) _ _ _).trans ?_
  refine Fold.fold_max_eq _ _ _ (le_of_eq_of_le bot_word bot_le) (fun p => le_of_eq_of_le (hv p) (EReal.coe_le_coe_iff.mpr (hge p))) ?_
  obtain ⟨q, -, hq⟩ := Finset.exists_mem_eq_sup' (⟨⟨0, by norm_num⟩, Finset.mem_univ _⟩ : (Finset.univ : Finset (Fin 8732)).Nonempty) r
  exact ⟨q, (hv q).trans (congrArg _ hq.symm)⟩

theorem width_at : val_main_v184 (F := Ideal) x1 x2 x3 x4 (ix1 b) = ((Spec.greatest r / 262144 : ℝ) : EReal) := by
  rw [val_main_v184_apply, greatest_at x1 x2 x3 x4 b r hv, val_main_v183_apply, val_main_cst_32_apply]
  refine (congrArg (Ideal.div _) Spec.lit_cells).trans ?_
  rw [Spec.div_coe _ _ (by norm_num), ← EReal.coe_mul]
  rfl

/-- The sorted array, through a permutation that puts the values in descending order. -/
theorem sorted_at : ∃ e : Equiv.Perm (Fin 8732), (∀ i j, i ≤ j → r (e j) ≤ r (e i)) ∧
    ∀ i, val_main_v181 (F := Ideal) x1 x2 x3 x4 (ix2 b i) = ((r (e i) : ℝ) : EReal) := by
  have hneg : ∀ p, val_main_v179 (F := Ideal) x1 x2 x3 x4 (ix2 b p) = ((-r p : ℝ) : EReal) := by
    intro p
    rw [val_main_v179_apply, hv, EReal.coe_neg]
    rfl
  obtain ⟨e, he, hs⟩ := sort_descending (val_main_v179 (F := Ideal) x1 x2 x3 x4) b r hneg
  refine ⟨e, he, fun i => ?_⟩
  rw [val_main_v181_apply]
  refine (congrArg (fun z : EReal => -z) (hs i)).trans ?_
  rw [EReal.coe_neg, neg_neg]

/-- The value the sorted array holds at the position, 0 where the position is past its end. -/
theorem kth_at : ∃ t : ℝ, val_main_v192 (F := Ideal) x1 x2 x3 x4 (ix1 b) = ((t : ℝ) : EReal)
    ∧ ((∃ (e : Equiv.Perm (Fin 8732)) (hk : hard x2 x3 x4 b < 8732), (∀ i j, i ≤ j → r (e j) ≤ r (e i)) ∧ t = r (e ⟨hard x2 x3 x4 b, hk⟩))
      ∨ (8732 ≤ hard x2 x3 x4 b ∧ t = 0)) := by
  classical
  obtain ⟨e, he, hs⟩ := sorted_at x1 x2 x3 x4 b r hv
  have hlt := hard_lt x2 x3 x4 b
  have hsel : ∀ i : Fin 8732, val_main_v191 (F := Ideal) x1 x2 x3 x4 (ix2 b i) = if i.val = hard x2 x3 x4 b then ((r (e i) : ℝ) : EReal) else 0 := by
    intro i
    have hi := i.isLt
    have hk : val_main_v189 (F := Ideal) x2 x3 x4 (ix2 b i) = BitVec.ofNat 32 (hard x2 x3 x4 b) := by
      rw [val_main_v189_apply, val_main_v187_apply]
      exact (congrArg _ (eq_ix1 _)).trans (hard_at x2 x3 x4 b)
    rw [val_main_v191_apply, val_main_v190_apply, hk, hs, val_main_v188_apply, val_main_v186_apply, val_main_v185_apply,
      val_main_call9_v1_apply, val_main_call9_v0_apply, val_main_cst_33_apply]
    refine (KernelIdeal.Match.sel_ieq _ _ _ _).trans ?_
    refine if_congr ?_ rfl Spec.lit_zero
    exact ofNat_small i.val _ (by omega) hlt
  have hsum : val_main_v192 (F := Ideal) x1 x2 x3 x4 (ix1 b) = ∑ i : Fin 8732, if i.val = hard x2 x3 x4 b then ((r (e i) : ℝ) : EReal) else 0 := by
    rw [val_main_v192_apply, val_main_cst_34_apply]
    refine (congrArg (fun z : EReal => z + _) Spec.lit_zero).trans ?_
    rw [zero_add]
    exact Finset.sum_congr rfl fun i _ => (congrArg _ (eq_ix2 _)).trans (hsel i)
  rw [hsum]
  by_cases hk : hard x2 x3 x4 b < 8732
  · refine ⟨r (e ⟨hard x2 x3 x4 b, hk⟩), ?_, Or.inl ⟨e, hk, he, rfl⟩⟩
    rw [Finset.sum_eq_single (⟨hard x2 x3 x4 b, hk⟩ : Fin 8732)]
    · rw [if_pos rfl]
    · intro i _ hi
      rw [if_neg fun h => hi (Fin.ext h)]
    · intro h; exact absurd (Finset.mem_univ _) h
  · refine ⟨0, ?_, Or.inr ⟨by omega, rfl⟩⟩
    rw [EReal.coe_zero]
    refine Finset.sum_eq_zero fun i _ => if_neg ?_
    have := i.isLt
    omega

include hr

/-- The value is the one exactly more than the position's number exceed. -/
theorem kth_spec (t : ℝ)
    (ht : (∃ (e : Equiv.Perm (Fin 8732)) (hk : hard x2 x3 x4 b < 8732), (∀ i j, i ≤ j → r (e j) ≤ r (e i)) ∧ t = r (e ⟨hard x2 x3 x4 b, hk⟩))
      ∨ (8732 ≤ hard x2 x3 x4 b ∧ t = 0)) :
    0 ≤ t ∧ t ≤ Spec.greatest r ∧ ∀ x, 0 ≤ x → (hard x2 x3 x4 b < Mine.cnt r x ↔ x < t) := by
  have hge : ∀ q, r q ≤ Spec.greatest r := fun q => Finset.le_sup' r (Finset.mem_univ q)
  rcases ht with ⟨e, hk, he, rfl⟩ | ⟨hk, rfl⟩
  · exact ⟨hr _, hge _, fun x _ => Mine.cnt_iff_sorted r e he _ hk x⟩
  · refine ⟨le_rfl, (hr ⟨0, by norm_num⟩).trans (hge _), fun x hx => ?_⟩
    have hc : Mine.cnt r x ≤ 8732 := by
      unfold Mine.cnt
      refine (Finset.card_filter_le _ _).trans ?_
      rw [Finset.card_univ, Fintype.card_fin]
    constructor
    · intro h; omega
    · intro h; exact absurd h (not_lt.mpr hx)

theorem cutoff_at : val_main_v201 (F := Ideal) x1 x2 x3 x4 (ix1 b) = ((Spec.cutoff r (hard x2 x3 x4 b) : ℝ) : EReal) := by
  obtain ⟨t, ht, hs⟩ := kth_at x1 x2 x3 x4 b r hv
  obtain ⟨h0, hM, hcnt⟩ := kth_spec x1 x2 x3 x4 b r hv hr t hs
  have hone : (FloatOps.ofBits (F := Ideal) .f32 0x3F800000#32) = ((1 : ℝ) : EReal) := Spec.lit_one.trans EReal.coe_one.symm
  have hzero : (FloatOps.ofBits (F := Ideal) .f32 0x00000000#32) = ((0 : ℝ) : EReal) := Spec.lit_zero.trans EReal.coe_zero.symm
  have hhalf : (FloatOps.ofBits (F := Ideal) .f32 0x3F000000#32) = ((1 / 2 : ℝ) : EReal) := Spec.lit_half
  rw [val_main_v201_apply, val_main_v200_apply, val_main_v198_apply, val_main_v196_apply, val_main_v194_apply, val_main_v193_apply, ht,
    width_at x1 x2 x3 x4 b r hv, val_main_v195_apply, val_main_v197_apply, val_main_v199_apply, val_main_cst_35_apply, val_main_cst_36_apply,
    val_main_cst_37_apply, hone, hzero, hhalf]
  unfold Spec.cutoff
  refine cutoff_of (Spec.greatest r) t _ (h0.trans hM) fun hpos => ?_
  have h := Mine.cellAt_eq r (Spec.greatest r) (hard x2 x3 x4 b) hpos t h0 hM hcnt 6
  rw [show (8 : ℝ) ^ 6 = 262144 by norm_num] at h
  exact h

theorem above_at (p : Fin 8732) : val_main_v204 (F := Ideal) x1 x2 x3 x4 (ix2 b p)
    = Ideal.cmp .ogt ((r p : ℝ) : EReal) ((Spec.cutoff r (hard x2 x3 x4 b) : ℝ) : EReal) := by
  rw [val_main_v204_apply, hv, val_main_v203_apply, val_main_v202_apply, ← cutoff_at x1 x2 x3 x4 b r hv hr]
  exact congrArg (fun z : EReal => Ideal.cmp .ogt ((r p : ℝ) : EReal) z) (congrArg _ (eq_ix1 _))

theorem count_at : val_main_v209 (F := Ideal) x1 x2 x3 x4 (ix1 b) = BitVec.ofNat 32 (Mine.cnt r (Spec.cutoff r (hard x2 x3 x4 b))) := by
  classical
  refine (Host.reduce_eq_fold IntOp.addi (val_main_v208 (F := Ideal) x1 x2 x3 x4) (val_main_c_40 (F := Ideal))
    reducesTo_S64x8732_S64_d1 h_S_ (ix1 b)).trans ?_
  refine (Shape.ReducesTo.fold_fiber_r2_a1 reducesTo_S64x8732_S64_d1 (ix1 b) _ _ _).trans ?_
  refine Eq.trans (Finset.fold_congr
    (g := fun p => (Ideal.cmp .ogt ((r p : ℝ) : EReal) ((Spec.cutoff r (hard x2 x3 x4 b) : ℝ) : EReal)).setWidth 32) fun p _ => ?_)
    ((IndicatorCount.fold_addi_setWidth_eq_card _ _).trans (congrArg _ ?_))
  · rw [← above_at x1 x2 x3 x4 b r hv hr]; rfl
  · unfold Mine.cnt
    congr 1
    refine Finset.filter_congr fun p _ => ?_
    unfold Ideal.cmp
    by_cases h : Spec.cutoff r (hard x2 x3 x4 b) < r p <;> simp [h]

theorem mined_at : val_main_v213 (F := Ideal) x1 x2 x3 x4 (ix1 b) = ((Spec.mined r (hard x2 x3 x4 b) : ℝ) : EReal) := by
  classical
  have hc : Mine.cnt r (Spec.cutoff r (hard x2 x3 x4 b)) ≤ 8732 := by
    unfold Mine.cnt
    refine (Finset.card_filter_le _ _).trans ?_
    rw [Finset.card_univ, Fintype.card_fin]
  have hcount : val_main_v210 (F := Ideal) x1 x2 x3 x4 (ix1 b) = (((Mine.cnt r (Spec.cutoff r (hard x2 x3 x4 b)) : ℕ) : ℝ) : EReal) := by
    rw [val_main_v210_apply, count_at x1 x2 x3 x4 b r hv hr]
    exact sitofp_small _ (by omega)
  have hsel : ∀ p, val_main_v205 (F := Ideal) x1 x2 x3 x4 (ix2 b p)
      = (((if Spec.cutoff r (hard x2 x3 x4 b) < r p then r p else 0 : ℝ)) : EReal) := by
    intro p
    rw [val_main_v205_apply, above_at x1 x2 x3 x4 b r hv hr, hv, val_main_call10_v1_apply, val_main_call10_v0_apply, val_main_cst_38_apply]
    refine (KernelIdeal.Match.sel_gt _ _ _ _).trans ?_
    by_cases hq : Spec.cutoff r (hard x2 x3 x4 b) < r p
    · rw [if_pos hq, if_pos (EReal.coe_lt_coe_iff.mpr hq)]
    · rw [if_neg hq, if_neg (fun h => hq (EReal.coe_lt_coe_iff.mp h)), EReal.coe_zero]
      exact Spec.lit_zero
  have hsum : val_main_v206 (F := Ideal) x1 x2 x3 x4 (ix1 b)
      = ((∑ p, (if Spec.cutoff r (hard x2 x3 x4 b) < r p then r p else 0) : ℝ) : EReal) := by
    rw [val_main_v206_apply, val_main_cst_39_apply]
    refine (congrArg (fun z : EReal => z + _) Spec.lit_zero).trans ?_
    rw [zero_add, KernelIdeal.KMine.coe_sum]
    exact Finset.sum_congr rfl fun p _ => (congrArg _ (eq_ix2 _)).trans (hsel p)
  rw [val_main_v213_apply, val_main_v212_apply, val_main_v211_apply, hsum, hcount, hard_float_at, cutoff_at x1 x2 x3 x4 b r hv hr]
  refine ((congrArg₂ (fun a c : EReal => a + c) rfl (congrArg (fun a : EReal => a * _) (EReal.coe_sub _ _).symm)).trans
    (congrArg (fun c : EReal => _ + c) (EReal.coe_mul _ _).symm)).trans ((EReal.coe_add _ _).symm.trans (congrArg _ ?_))
  unfold Spec.mined
  congr!

end
end Cert.ReferenceIdeal.Ref
end
-- ==== Proof.RLoss.lean ====
/- The reference's result: the mean of the images' losses. -/
module

public import proofs.«01_k».proof.Proof.RMine

@[expose] public section

set_option maxRecDepth 16384

noncomputable section

namespace Cert.ReferenceIdeal.Ref

open Idealize.ShloMosaic
open Cert.ReferenceIdeal Cert.ReferenceIdeal.Facts₀ Cert.ReferenceIdeal.Facts Cert.ReferenceIdeal.Read

attribute [local instance] Cert.ReferenceIdeal.Gen.facts

section
variable (x0 : (⟨S64x8732x4, .f32⟩ : BufTy).Contents (Elt Ideal)) (x1 : (⟨S64x8732x21, .f32⟩ : BufTy).Contents (Elt Ideal))
  (x2 : (⟨S64x16x4, .f32⟩ : BufTy).Contents (Elt Ideal)) (x3 : (⟨S64x16, .i32⟩ : BufTy).Contents (Elt Ideal))
  (x4 : (⟨S8732x4, .f32⟩ : BufTy).Contents (Elt Ideal))

/-- One image's loss. -/
def image (b : Fin 64) : EReal := Spec.loss (priors x4) (boxes x2 b) (labels x3 b) (locs x0 b) (scores x1 b)

variable (hlb : ∀ b j, KernelIdeal.KLoss.InClasses (labels x3 b j)) (hsc : ∀ b p c, ∃ x : ℝ, scores x1 b p c = x)
include hlb hsc

theorem image_at (b : Fin 64) : val_main_v217 (F := Ideal) x0 x1 x2 x3 x4 (ix1 b) = image x0 x1 x2 x3 x4 b := by
  have hn := fun p => KernelIdeal.KLoss.neg_real (priors x4) (boxes x2 b) (labels x3 b) (scores x1 b) (hsc b) p
  have hm := mined_at x1 x2 x3 x4 b _ (fun p => (neg_at x1 x2 x3 x4 b p (hlb b)).trans (hn p).2) fun p => (hn p).1
  rw [val_main_v217_apply, val_main_v215_apply, val_main_v214_apply, conf_pos_at x1 x2 x3 x4 b (hlb b), hm, loc_loss_at, npos_float_at]
  rfl

omit hlb hsc in
/-- A sum over the images' indices. -/
theorem sum_images (f : S64.Idx → EReal) : ∑ j, f j = ∑ b : Fin 64, f (ix1 b) := by
  symm
  refine Fintype.sum_bijective (fun b : Fin 64 => (ix1 b : S64.Idx)) ⟨fun a c h => congrFun h 0, fun j => ⟨j 0, ?_⟩⟩ _ _ fun _ => rfl
  exact (eq_ix1 j).symm

/-- The mean of the images' losses. -/
theorem mean_at (i : S_.Idx) : val_main_v219 (F := Ideal) x0 x1 x2 x3 x4 i
    = Ideal.div (0 + ∑ b, image x0 x1 x2 x3 x4 b) (Spec.lit 0x42800000#32) := by
  rw [val_main_v219_apply, val_main_v218_apply, val_main_cst_41_apply, val_main_cst_42_apply]
  refine congrArg (fun z : EReal => Ideal.div z (Spec.lit 0x42800000#32)) (congrArg₂ (fun a c : EReal => a + c) Spec.lit_zero ?_)
  rw [sum_images]
  exact Finset.sum_congr rfl fun b _ => image_at x0 x1 x2 x3 x4 hlb hsc b
end
end Cert.ReferenceIdeal.Ref
end
-- ==== Proof.Algebraic.lean ====
/- The kernel's run and the reference's run, from arguments that agree, end with one result. -/
module

public import proofs.«01_k».proof.Defs
public import proofs.«01_k».proof.Proof.Pre
public import proofs.«01_k».proof.Proof.Final
public import proofs.«01_k».proof.Proof.RLoss
public import Idealize.ShloMosaic.Adequacy

@[expose] public section

set_option maxRecDepth 16384

noncomputable section

namespace Cert.Algebraic

open Idealize.ShloMosaic Idealize.ShloMosaic.TcCoe Idealize.SL.Sem

attribute [local instance] Cert.ReferenceIdeal.Gen.facts

/-- The precondition, read at every index. -/
theorem proper_of_pre (m : (ℓ : Loc KernelIdeal.nD KernelIdeal.τ KernelIdeal.sig) → Buf (Elt Ideal) ℓ) (h : Pre_KernelIdeal_proper m)
    (c : Dev KernelIdeal.nD) : KernelIdeal.Final.Proper m c :=
  have ⟨hfin, hbox, hpri, hreach, hlo, hhi⟩ := h c
  { finite := Pre_proper.finite_at _ _ _ _ _ hfin
    box_area := Pre_proper.box_area_at _ _ _ _ _ hbox
    prior_area := Pre_proper.prior_area_at _ _ _ _ _ hpri
    reach := Pre_proper.reach_at _ _ _ _ _ hreach
    classes := Pre_proper.classes_at _ _ _ _ _ hlo hhi }

/-- The result both runs end with. -/
def result (m : (ℓ : Loc KernelIdeal.nD KernelIdeal.τ KernelIdeal.sig) → Buf (Elt Ideal) ℓ) (c : Dev KernelIdeal.nD) :
    FVec Ideal KernelIdeal.S_ .f32 := fun _ => Ideal.div (0 + ∑ b, KernelIdeal.Final.image m c b) (Spec.lit 0x42800000#32)

/-- The reference's term over the kernel's arguments is that result. -/
theorem reference_eq (m : (ℓ : Loc KernelIdeal.nD KernelIdeal.τ KernelIdeal.sig) → Buf (Elt Ideal) ℓ) (c : Dev KernelIdeal.nD)
    (H : KernelIdeal.Final.Proper m c) :
    ReferenceIdeal.Read.val_main_v219 (F := Ideal) (KernelIdeal.Host₀.a0 m c) (KernelIdeal.Host₀.a1 m c) (KernelIdeal.Host₀.a2 m c)
      (KernelIdeal.Host₀.a3 m c) (KernelIdeal.Host₀.a4 m c) = result m c :=
  funext fun i => ReferenceIdeal.Ref.mean_at _ _ _ _ _ H.classes H.finite i

section
open ReferenceIdeal
variable (m' : (ℓ : Loc nD τ sig) → Buf (Elt Ideal) ℓ) (g' : Dev nD → PrngReg)

/-- The reference's result over its own arguments. -/
def refResult (c : Dev nD) : FVec Ideal S_ .f32 :=
  Read.val_main_v219 (F := Ideal) (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))

theorem reference_run : θ_run defs (onTc (τ := τ) (main (F := Ideal))) ⟨m', fun _ => 0, g'⟩ fun r => ∀ c : Dev nD,
      r.2.mem ((c.tc : Thread nD τ).loc main_v219) = refResult m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun _ h c => ⟨(h c).1.trans (Read.val_main_v219_eq (F := Ideal) (StableHlo.launchContents m' c)), (h c).2⟩)
    (Value.run (F := Ideal) m' g')

theorem reference_frame : θ_run defs (onTc (τ := τ) (main (F := Ideal))) ⟨m', fun _ => 0, g'⟩ fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4))
      ∧ r.2.sem = fun _ => 0 :=
  (θ_run defs _ _).mono (fun r h => ⟨fun c => (h c).2, sem_eq_zero_of_no_sems (by decide) r.2⟩) (reference_run m' g')
end

/-- Equal arguments give the reference equal results. -/
theorem value_congr {x0 y0 : FVec Ideal ReferenceIdeal.S64x8732x4 .f32} {x1 y1 : FVec Ideal ReferenceIdeal.S64x8732x21 .f32}
    {x2 y2 : FVec Ideal ReferenceIdeal.S64x16x4 .f32} {x3 y3 : IVec ReferenceIdeal.S64x16 32} {x4 y4 : FVec Ideal ReferenceIdeal.S8732x4 .f32}
    (e0 : x0 = y0) (e1 : x1 = y1) (e2 : x2 = y2) (e3 : x3 = y3) (e4 : x4 = y4) :
    ReferenceIdeal.Read.val_main_v219 (F := Ideal) x0 x1 x2 x3 x4 = ReferenceIdeal.Read.val_main_v219 (F := Ideal) y0 y1 y2 y3 y4 := by
  subst e0; subst e1; subst e2; subst e3; subst e4; rfl

theorem algebraic : algebraic_KernelIdeal_ReferenceIdeal_pre_proper := by
  intro m g m' g' hpre hargs
  have H := proper_of_pre m hpre
  refine ⟨result m, KernelIdeal.Final.run_val m g H, ?_⟩
  refine (θ_run ReferenceIdeal.defs _ _).mono (fun _ h c => ⟨(h c).1.trans ?_, (h c).2⟩) (reference_run m' g')
  exact (value_congr (hargs c).1 (hargs c).2.1 (hargs c).2.2.1 (hargs c).2.2.2.1 (hargs c).2.2.2.2).trans (reference_eq m c (H c))

end Cert.Algebraic
end
-- ==== Proof.NStage.lean ====
/- The bound's own operations up to the mined part: stage by stage they are the reference's. -/
module

public import proofs.«01_k».proof.Post_near
public import proofs.«01_k».proof.Proof.RLoss

@[expose] public section

set_option maxRecDepth 16384

noncomputable section

namespace Cert.Post_near

open Idealize.ShloMosaic

instance facts : Cert.Post_near.Facts where
  slices_S8732x4_S8732x2_0_0 := by decide
  slices_S8732x4_S8732x2_0_2 := by decide
  bcast_S_S8732x2 := by decide
  concatenates_S8732x2_S8732x2_S8732x4_d1 := by decide
  slices_S64x16x4_S64x16x2_0_0_0 := by decide
  bcast_S64x16x2_S64x16x1x2_0_1_3 := by decide
  bcast_S8732x2_S1x8732x2_1_2 := by decide
  bcast_S1x8732x2_S1x1x8732x2_1_2_3 := by decide
  bcast_S64x16x1x2_S64x16x8732x2_0_1_2_3 := by decide
  bcast_S1x1x8732x2_S64x16x8732x2_0_1_2_3 := by decide
  slices_S64x16x4_S64x16x2_0_0_2 := by decide
  bcast_S_S64x16x8732x2 := by decide
  slices_S64x16x8732x2_S64x16x8732x1_0_0_0_0 := by decide
  shapeCasts_S64x16x8732x1_S64x16x8732 := by decide
  slices_S64x16x8732x2_S64x16x8732x1_0_0_0_1 := by decide
  slices_S64x16x4_S64x16x1_0_0_2 := by decide
  shapeCasts_S64x16x1_S64x16 := by decide
  slices_S64x16x4_S64x16x1_0_0_0 := by decide
  slices_S64x16x4_S64x16x1_0_0_3 := by decide
  slices_S64x16x4_S64x16x1_0_0_1 := by decide
  slices_S8732x4_S8732x1_0_2 := by decide
  shapeCasts_S8732x1_S8732 := by decide
  slices_S8732x4_S8732x1_0_0 := by decide
  slices_S8732x4_S8732x1_0_3 := by decide
  slices_S8732x4_S8732x1_0_1 := by decide
  bcast_S64x16_S64x16x1_0_1 := by decide
  bcast_S8732_S1x8732_1 := by decide
  bcast_S1x8732_S1x1x8732_1_2 := by decide
  bcast_S64x16x1_S64x16x8732_0_1_2 := by decide
  bcast_S1x1x8732_S64x16x8732_0_1_2 := by decide
  reducesTo_S64x16x8732_S64x8732_d1 := by decide
  h_S_ := by decide
  bcast_S64x8732_S64x1x8732_0_2 := by decide
  bcast_S64x1x8732_S64x16x8732_0_1_2 := by decide
  bcast_S_S16x8732 := by decide
  bcast_S16x8732_S64x16x8732_1_2 := by decide
  reducesTo_S64x16x8732_S64x16_d2 := by decide
  bcast_S16x8732_S1x16x8732_1_2 := by decide
  bcast_S1x16x8732_S64x16x8732_0_1_2 := by decide
  bcast_S_S64x8732 := by decide
  bcast_S_S8732 := by decide
  bcast_S8732_S64x8732_1 := by decide
  bcast_S64x8732_S64x8732x1_0_1 := by decide
  slices_S64x8732x4_S64x8732x2_0_0_0 := by decide
  slices_S64x8732x4_S64x8732x2_0_0_2 := by decide
  bcast_S_S64x8732x2 := by decide
  concatenates_S64x8732x2_S64x8732x2_S64x8732x4_d2 := by decide
  bcast_S1x8732x2_S64x8732x2_0_1_2 := by decide
  natLt_1_32 := by decide
  reducesTo_S64x8732_S64_d1 := by decide
  bcast_S_S64 := by decide
  reducesTo_S64x8732x21_S64x8732_d2 := by decide
  bcast_S64x8732x1_S64x8732x21_0_1_2 := by decide
  bcast_S_S64x8732x1 := by decide
  shapeCasts_S64x8732x1_S64x8732x1x1 := by decide
  shapeCasts_S64x8732x1_S64x8732 := by decide
  bcast_S_S64x8732x4 := by decide
  bcast_S64x8732x1_S64x8732x4_0_1_2 := by decide
  reducesTo_S64x8732x4_S64_d1_2 := by decide
  bcast_S64_S64x1_0 := by decide
  bcast_S1x8732_S64x8732_0_1 := by decide
  bcast_S64x1_S64x8732_0_1 := by decide
  reducesTo_S64_S_d0 := by decide
  gather_S64x16_S64x8732x1_S64x8732_n_1_0_0_1_2_11_wf := ReferenceIdeal.Gen.facts.gather_S64x16_S64x8732x1_S64x8732_n_1_0_0_1_2_11_wf
  gather_S64x16x4_S64x8732x1_S64x8732x4_2_1_0_0_1_2_114_wf := ReferenceIdeal.Gen.facts.gather_S64x16x4_S64x8732x1_S64x8732x4_2_1_0_0_1_2_114_wf
  gather_S64x8732x21_S64x8732x1x1_S64x8732x1_n_2_01_01_2_3_111_wf := ReferenceIdeal.Gen.facts.gather_S64x8732x21_S64x8732x1x1_S64x8732x1_n_2_01_01_2_3_111_wf

attribute [local instance] Cert.ReferenceIdeal.Gen.facts

section
open Cert.ReferenceIdeal.Read

variable (x0 : FVec Ideal S64x8732x4 .f32) (x1 : FVec Ideal S64x8732x21 .f32) (x2 : FVec Ideal S64x16x4 .f32) (x3 : IVec S64x16 32)
  (x4 : FVec Ideal S8732x4 .f32) (y : FVec Ideal S_ .f32)

theorem fn_eq : fn (F := Ideal) x0 x1 x2 x3 x4 y
    = fn_part1 (F := Ideal) x0 x1 x2 x3 x4 y (val_main_v10 (F := Ideal) x4) (val_main_v18 (F := Ideal) x2 x4) (val_main_v20 (F := Ideal) x2) (val_main_v21 (F := Ideal) x4) := rfl

theorem fn_part1_eq : fn_part1 (F := Ideal) x0 x1 x2 x3 x4 y (val_main_v10 (F := Ideal) x4) (val_main_v18 (F := Ideal) x2 x4) (val_main_v20 (F := Ideal) x2) (val_main_v21 (F := Ideal) x4)
    = fn_part2 (F := Ideal) x0 x1 x2 x3 x4 y (val_main_v10 (F := Ideal) x4) (val_main_v33 (F := Ideal) x2 x4) (val_main_v44 (F := Ideal) x2) := rfl

theorem fn_part2_eq : fn_part2 (F := Ideal) x0 x1 x2 x3 x4 y (val_main_v10 (F := Ideal) x4) (val_main_v33 (F := Ideal) x2 x4) (val_main_v44 (F := Ideal) x2)
    = fn_part3 (F := Ideal) x0 x1 x2 x3 x4 y (val_main_v63 (F := Ideal) x2 x4) (val_main_v64 (F := Ideal) x2 x4) (val_main_v65 (F := Ideal)) (val_main_v66 (F := Ideal) x2 x4) := rfl

theorem fn_part3_eq : fn_part3 (F := Ideal) x0 x1 x2 x3 x4 y (val_main_v63 (F := Ideal) x2 x4) (val_main_v64 (F := Ideal) x2 x4) (val_main_v65 (F := Ideal)) (val_main_v66 (F := Ideal) x2 x4)
    = fn_part4 (F := Ideal) x0 x1 x2 x3 x4 y (val_main_v64 (F := Ideal) x2 x4) (val_main_v74 (F := Ideal) x2 x4) (val_main_v84 (F := Ideal) x2 x4) (val_main_v85 (F := Ideal)) := rfl

theorem fn_part4_eq : fn_part4 (F := Ideal) x0 x1 x2 x3 x4 y (val_main_v64 (F := Ideal) x2 x4) (val_main_v74 (F := Ideal) x2 x4) (val_main_v84 (F := Ideal) x2 x4) (val_main_v85 (F := Ideal))
    = fn_part5 (F := Ideal) x0 x1 x2 x3 x4 y (val_main_v99 (F := Ideal) x2 x4) (val_main_v102 (F := Ideal) x2 x4) (val_main_v103 (F := Ideal)) := rfl

theorem fn_part5_eq : fn_part5 (F := Ideal) x0 x1 x2 x3 x4 y (val_main_v99 (F := Ideal) x2 x4) (val_main_v102 (F := Ideal) x2 x4) (val_main_v103 (F := Ideal))
    = fn_part6 (F := Ideal) x0 x1 x4 y (val_main_v112 (F := Ideal) x2 x3 x4) (val_main_v119 (F := Ideal) x2 x4) (val_main_v122 (F := Ideal) x2 x4) := rfl

theorem fn_part6_eq : fn_part6 (F := Ideal) x0 x1 x4 y (val_main_v112 (F := Ideal) x2 x3 x4) (val_main_v119 (F := Ideal) x2 x4) (val_main_v122 (F := Ideal) x2 x4)
    = fn_part7 (F := Ideal) x0 x1 y (val_main_v112 (F := Ideal) x2 x3 x4) (val_main_v139 (F := Ideal) x2 x4) (val_main_v144 (F := Ideal) x2 x4) := rfl

theorem fn_part7_eq : fn_part7 (F := Ideal) x0 x1 y (val_main_v112 (F := Ideal) x2 x3 x4) (val_main_v139 (F := Ideal) x2 x4) (val_main_v144 (F := Ideal) x2 x4)
    = fn_part8 (F := Ideal) y (val_main_v150 (F := Ideal) x2 x3 x4) (val_main_v152 (F := Ideal) x2 x3 x4) (val_main_v154 (F := Ideal) x2 x3 x4) (val_main_v159 (F := Ideal) x1 x2 x3 x4) (val_main_v161 (F := Ideal) x0 x2 x4) (val_main_v163 (F := Ideal) x0 x2 x4) := rfl

theorem fn_part8_eq : fn_part8 (F := Ideal) y (val_main_v150 (F := Ideal) x2 x3 x4) (val_main_v152 (F := Ideal) x2 x3 x4) (val_main_v154 (F := Ideal) x2 x3 x4) (val_main_v159 (F := Ideal) x1 x2 x3 x4) (val_main_v161 (F := Ideal) x0 x2 x4) (val_main_v163 (F := Ideal) x0 x2 x4)
    = fn_part9 (F := Ideal) y (val_main_v152 (F := Ideal) x2 x3 x4) (val_main_v154 (F := Ideal) x2 x3 x4) (val_main_v174 (F := Ideal) x0 x2 x3 x4) (val_main_v177 (F := Ideal) x1 x2 x3 x4) (val_main_v178 (F := Ideal) x1 x2 x3 x4) (val_main_v181 (F := Ideal) x1 x2 x3 x4) (iotaInDim S8732 32 0) := rfl

end
end Cert.Post_near
end
-- ==== Proof.Gap.lean ====
/- How far the mined sum lies above the sum of the greatest values it stands for. -/
module

public import proofs.«01_k».proof.Proof.Spec

@[expose] public section

set_option maxRecDepth 16384

noncomputable section

namespace Cert.Gap

variable (r : Fin 8732 → ℝ) (k : ℕ) (e : Equiv.Perm (Fin 8732))

/-- The sum of the `k` first values of the order. -/
def exact : ℝ := ∑ i : Fin 8732, if i.val < k then r (e i) else 0

/-- The value at place `k` of the order, 0 past its end. -/
def kth : ℝ := if h : k < 8732 then r (e ⟨k, h⟩) else 0

theorem le_greatest (q : Fin 8732) : r q ≤ Spec.greatest r := Finset.le_sup' r (Finset.mem_univ q)

/-- Half of a cell's width. -/
abbrev half : ℝ := Spec.greatest r / 524288

theorem half_nonneg (hr : ∀ p, 0 ≤ r p) : 0 ≤ half r := by
  have h := (hr 0).trans (le_greatest r 0)
  exact div_nonneg h (by norm_num)

theorem card_le (x : ℝ) : Mine.cnt r x ≤ 8732 := by
  unfold Mine.cnt
  refine (Finset.card_filter_le _ _).trans ?_
  rw [Finset.card_univ, Fintype.card_fin]

/-- The cutoff is at most half of a cell away from the value at place `k`. -/
theorem cutoff_near (hr : ∀ p, 0 ≤ r p) (he : ∀ i j, i ≤ j → r (e j) ≤ r (e i)) :
    kth r k e ≤ Spec.cutoff r k + half r ∧ Spec.cutoff r k ≤ kth r k e + half r := by
  have hM : 0 ≤ Spec.greatest r := (hr 0).trans (le_greatest r 0)
  have h0 : 0 ≤ kth r k e := by
    unfold kth
    split
    · exact hr _
    · exact le_rfl
  have h1 : kth r k e ≤ Spec.greatest r := by
    unfold kth
    split
    · exact le_greatest r _
    · exact hM
  have hcnt : ∀ x, 0 ≤ x → (k < Mine.cnt r x ↔ x < kth r k e) := by
    intro x hx
    unfold kth
    split
    · rename_i h; exact Mine.cnt_iff_sorted r e he k h x
    · have := card_le r x
      exact ⟨fun h => by omega, fun h => absurd h (not_lt.mpr hx)⟩
  obtain ⟨hd, hi⟩ := Mine.inv_cellAt r (Spec.greatest r) k hM 6
  unfold Spec.cutoff half
  generalize Mine.cellAt r (Spec.greatest r) k 6 = d at hd hi
  generalize Spec.greatest r = M at hM h1 hi
  generalize kth r k e = v at h0 h1 hcnt
  have hlo : (d : ℝ) * M / 262144 ≤ v := by
    rcases Nat.eq_zero_or_pos d with h | h
    · rw [h]; simpa using h0
    · have := (hi d h hd).mp le_rfl
      rw [hcnt _ (by positivity)] at this
      norm_num at this
      linarith [mul_comm (d : ℝ) M]
  have hup : v ≤ ((d : ℝ) + 1) * M / 262144 := by
    by_cases hlast : d + 1 < 8 ^ 6
    · have := (hi (d + 1) (by omega) hlast).not.mp (by omega)
      rw [hcnt _ (by positivity), not_lt] at this
      push_cast at this
      norm_num at this
      linarith [mul_comm ((d : ℝ) + 1) M]
    · have hd1 : (d : ℝ) + 1 = 262144 := by
        have : d + 1 = 262144 := by omega
        exact_mod_cast this
      rw [hd1]
      linarith
  constructor <;> linarith

theorem cutoff_nonneg (hr : ∀ p, 0 ≤ r p) : 0 ≤ Spec.cutoff r k := by
  have hM : 0 ≤ Spec.greatest r := (hr 0).trans (le_greatest r 0)
  unfold Spec.cutoff
  exact mul_nonneg (add_nonneg (Nat.cast_nonneg _) (by norm_num)) (div_nonneg hM (by norm_num))

open Classical in
/-- What one place of the order adds to the distance. -/
def part (i : Fin 8732) : ℝ :=
  (if Spec.cutoff r k < r (e i) then r (e i) - Spec.cutoff r k else 0) + if i.val < k then Spec.cutoff r k - r (e i) else 0

theorem card_below : (∑ i : Fin 8732, if i.val < k then (1 : ℝ) else 0) = ((min k 8732 : ℕ) : ℝ) := by
  rw [Fin.sum_univ_eq_sum_range (fun i => if i < k then (1 : ℝ) else 0) 8732, Finset.sum_ite, Finset.sum_const_zero, add_zero,
    Finset.sum_const, nsmul_eq_mul, mul_one]
  congr 1
  rw [show (Finset.range 8732).filter (fun i => i < k) = Finset.range (min k 8732) by
    ext i; simp only [Finset.mem_filter, Finset.mem_range, lt_min_iff]; exact and_comm, Finset.card_range]

theorem mined_sub : Spec.mined r k - exact r k e = (∑ i, part r k e i) + ((k : ℝ) - ((min k 8732 : ℕ) : ℝ)) * Spec.cutoff r k := by
  classical
  have hc : (Mine.cnt r (Spec.cutoff r k) : ℝ) = ∑ i, if Spec.cutoff r k < r (e i) then (1 : ℝ) else 0 := by
    rw [Equiv.sum_comp e (fun p => if Spec.cutoff r k < r p then (1 : ℝ) else 0), Finset.sum_ite, Finset.sum_const_zero, add_zero,
      Finset.sum_const, nsmul_eq_mul, mul_one]
    unfold Mine.cnt
    congr!
  have hs : (∑ p, if Spec.cutoff r k < r p then r p else 0) = ∑ i, if Spec.cutoff r k < r (e i) then r (e i) else 0 :=
    (Equiv.sum_comp e (fun p => if Spec.cutoff r k < r p then r p else 0)).symm
  have hp : ∀ i, part r k e i = (if Spec.cutoff r k < r (e i) then r (e i) else 0)
      - (if Spec.cutoff r k < r (e i) then (1 : ℝ) else 0) * Spec.cutoff r k
      + (if i.val < k then (1 : ℝ) else 0) * Spec.cutoff r k - if i.val < k then r (e i) else 0 := by
    intro i
    unfold part
    split <;> split <;> ring
  have hm : Spec.mined r k = (∑ p, if Spec.cutoff r k < r p then r p else 0)
      + ((k : ℝ) - (Mine.cnt r (Spec.cutoff r k) : ℝ)) * Spec.cutoff r k := by
    unfold Spec.mined
    congr!
  rw [hm, hs, hc, ← card_below, Finset.sum_congr rfl fun i _ => hp i, Finset.sum_sub_distrib, Finset.sum_add_distrib,
    Finset.sum_sub_distrib, ← Finset.sum_mul, ← Finset.sum_mul]
  unfold exact
  ring

theorem part_bound (hr : ∀ p, 0 ≤ r p) (he : ∀ i j, i ≤ j → r (e j) ≤ r (e i)) (i : Fin 8732) :
    0 ≤ part r k e i ∧ part r k e i ≤ half r := by
  obtain ⟨hlo, hup⟩ := cutoff_near r k e hr he
  have hh := half_nonneg r hr
  have hbelow : i.val < k → kth r k e ≤ r (e i) := by
    intro hi
    unfold kth
    split
    · exact he _ _ (Fin.le_def.mpr hi.le)
    · exact hr _
  have habove : ¬ i.val < k → r (e i) ≤ kth r k e := by
    intro hi
    unfold kth
    rw [dif_pos (show k < 8732 by omega)]
    exact he _ _ (Fin.le_def.mpr (not_lt.mp hi))
  unfold part
  by_cases h1 : Spec.cutoff r k < r (e i) <;> by_cases h2 : i.val < k
  · rw [if_pos h1, if_pos h2]; constructor <;> linarith
  · rw [if_pos h1, if_neg h2]; have := habove h2; constructor <;> linarith
  · rw [if_neg h1, if_pos h2]; have := hbelow h2; constructor <;> linarith
  · rw [if_neg h1, if_neg h2]; constructor <;> linarith

/-- The mined sum is at least the sum of the `k` greatest values, and above it by at most half of a cell for each of them and
    no less than for each value there is. -/
theorem mined_near (hr : ∀ p, 0 ≤ r p) (he : ∀ i j, i ≤ j → r (e j) ≤ r (e i)) :
    exact r k e ≤ Spec.mined r k ∧ Spec.mined r k ≤ exact r k e + ((max k 8732 : ℕ) : ℝ) * half r := by
  have hsub := mined_sub r k e
  have hpb := part_bound r k e hr he
  have hsum0 : 0 ≤ ∑ i, part r k e i := Finset.sum_nonneg fun i _ => (hpb i).1
  have hsum1 : ∑ i, part r k e i ≤ 8732 * half r := by
    refine (Finset.sum_le_sum fun i _ => (hpb i).2).trans_eq ?_
    rw [Finset.sum_const, Finset.card_univ, Fintype.card_fin, nsmul_eq_mul]
    norm_num
  have ht := cutoff_nonneg r k hr
  have hh := half_nonneg r hr
  rcases le_total k 8732 with h | h
  · rw [min_eq_left h, sub_self, zero_mul, add_zero] at hsub
    rw [max_eq_right h]
    push_cast
    constructor <;> linarith
  · rw [min_eq_right h] at hsub
    rw [max_eq_left h]
    have hk : (8732 : ℝ) ≤ k := by exact_mod_cast h
    have htc : Spec.cutoff r k ≤ half r := by
      have := (cutoff_near r k e hr he).2
      rwa [show kth r k e = 0 by unfold kth; rw [dif_neg (by omega)], zero_add] at this
    push_cast at hsub
    have h1 : 0 ≤ ((k : ℝ) - 8732) * Spec.cutoff r k := mul_nonneg (by linarith) ht
    have h2 : ((k : ℝ) - 8732) * Spec.cutoff r k ≤ ((k : ℝ) - 8732) * half r := mul_le_mul_of_nonneg_left htc (by linarith)
    constructor <;> linarith

end Cert.Gap
end
-- ==== Proof.NTail.lean ====
/- The bound's last operations, read at an index: the exact mean, and the slack above it. -/
module

public import proofs.«01_k».proof.Proof.NStage
public import proofs.«01_k».proof.Proof.Gap
public import Idealize.ShloMosaic.Lib.Pointwise

@[expose] public section

set_option maxRecDepth 16384

noncomputable section

namespace Cert.Post_near

open Idealize.ShloMosaic Facts

section
variable (y : FVec Ideal S_ .f32) (v152 v154 : IVec S64 32) (v174 v177 : FVec Ideal S64 .f32) (v178 v181 : FVec Ideal S64x8732 .f32)

/-- The places below each image's position. -/
def mask : FVec Ideal S64x8732 .f32 :=
  uitofp .f32 (cmpi .slt
    (broadcastInDim S64x8732 ![0, 1] bcast_S1x8732_S64x8732_0_1 (broadcastInDim S1x8732 ![1] bcast_S8732_S1x8732_1 (iotaInDim S8732 32 0)))
    (broadcastInDim S64x8732 ![0, 1] bcast_S64x1_S64x8732_0_1 (broadcastInDim S64x1 ![0] bcast_S64_S64x1_0 v154)))

/-- The sum of each image's greatest values. -/
def hardest : FVec Ideal S64 .f32 :=
  Host.reduceAdd (mulf v181 (mask v154)) (constant S_ .f32 0x00000000#32) reducesTo_S64x8732_S64_d1 h_S_

/-- Each image's loss by that sum. -/
def perImage : FVec Ideal S64 .f32 := Host.divf (addf (addf v177 (hardest v154 v181)) v174) (sitofp .f32 v152)

/-- Each image's slack. -/
def slack : FVec Ideal S64 .f32 :=
  Host.divf (mulf (sitofp .f32 (maxsi v154 (broadcastInDim S64 ![] bcast_S_S64 (constantI S_ 32 8732#32))))
    (Host.divf (Host.reduce FloatOps.maximumf v178 (constant S_ .f32 0xFF800000#32) reducesTo_S64x8732_S64_d1 h_S_)
      (broadcastInDim S64 ![] bcast_S_S64 (constant S_ .f32 0x49000000#32)))) (sitofp .f32 v152)

/-- The mean over the images. -/
def mean (x : FVec Ideal S64 .f32) : FVec Ideal S_ .f32 :=
  Host.divf (Host.reduceAdd x (constant S_ .f32 0x00000000#32) reducesTo_S64_S_d0 h_S_) (constant S_ .f32 0x42800000#32)

theorem tail_eq : fn_part9 (F := Ideal) y v152 v154 v174 v177 v178 v181 (iotaInDim S8732 32 0)
    = (cmpf .ole (mean (perImage v152 v154 v174 v177 v181)) y,
       cmpf .ole y (addf (mean (perImage v152 v154 v174 v177 v181)) (mean (slack v152 v154 v178)))) := rfl
end

/-- The mean, read. -/
theorem mean_at (x : FVec Ideal S64 .f32) (i : S_.Idx) : mean x i = Ideal.div (0 + ∑ b : Fin 64, x (ix1 b)) (Spec.lit 0x42800000#32) := by
  have h : Host.reduceAdd x (constant S_ .f32 0x00000000#32) reducesTo_S64_S_d0 h_S_ i = 0 + ∑ b : Fin 64, x (ix1 b) := by
    simp only [Host.reduceAdd, Ideal.hostReduceAdd_def]
    refine (Ideal.hostReduceAdd_total reducesTo_S64_S_d0 (fun b => b.elim0) x _ i).trans ?_
    exact congrArg₂ (fun a c : EReal => a + c) Spec.lit_zero (ReferenceIdeal.Ref.sum_images x)
  exact congrArg (fun z : EReal => Ideal.div z (Spec.lit 0x42800000#32)) h

/-- A row's sum, read. -/
theorem row_sum (x : FVec Ideal S64x8732 .f32) (b : Fin 64) :
    Host.reduceAdd x (constant S_ .f32 0x00000000#32) reducesTo_S64x8732_S64_d1 h_S_ (ix1 b) = ∑ i : Fin 8732, x (ix2 b i) := by
  simp only [Host.reduceAdd, Ideal.hostReduceAdd_def]
  rw [Ideal.hostReduceAdd_single reducesTo_S64x8732_S64_d1 (by decide)]
  refine (congrArg (fun z : EReal => z + _) Spec.lit_zero).trans ?_
  rw [zero_add]
  exact Finset.sum_congr rfl fun i _ => congrArg x (funext fun a => Fin.ext (by match a with | ⟨0, _⟩ => rfl | ⟨1, _⟩ => rfl))

section
variable (v152 v154 : IVec S64 32) (v174 v177 : FVec Ideal S64 .f32) (v178 v181 : FVec Ideal S64x8732 .f32)
variable (b : Fin 64) (n k : ℕ) (hn : n < 2147483648) (hk : k < 2147483648) (en : v152 (ix1 b) = BitVec.ofNat 32 n) (ek : v154 (ix1 b) = BitVec.ofNat 32 k)
variable (r : Fin 8732 → ℝ) (e : Equiv.Perm (Fin 8732))

include hk ek in
theorem mask_at (i : Fin 8732) : mask v154 (ix2 b i) = (((if i.val < k then 1 else 0 : ℝ)) : EReal) := by
  have hi := i.isLt
  have e1 : broadcastInDim S64x8732 ![0, 1] bcast_S1x8732_S64x8732_0_1 (broadcastInDim S1x8732 ![1] bcast_S8732_S1x8732_1 (iotaInDim S8732 32 0))
      (ix2 b i) = BitVec.ofNat 32 i.val := by
    pointwise
  have e2 : broadcastInDim S64x8732 ![0, 1] bcast_S64x1_S64x8732_0_1 (broadcastInDim S64x1 ![0] bcast_S64_S64x1_0 v154) (ix2 b i)
      = BitVec.ofNat 32 k := by
    rw [← ek]
    pointwise
  have h : mask v154 (ix2 b i) = FloatOps.uitofp (F := Ideal) .f32 (IntOp.cmpi .slt (BitVec.ofNat 32 i.val) (BitVec.ofNat 32 k)) :=
    congrArg (FloatOps.uitofp (F := Ideal) .f32) (congrArg₂ (IntOp.cmpi .slt) e1 e2)
  rw [h]
  have hs : (BitVec.ofNat 32 i.val).slt (BitVec.ofNat 32 k) = decide (i.val < k) := by
    rw [BitVec.slt_eq_decide, ReferenceIdeal.Ref.toInt_small _ (by omega), ReferenceIdeal.Ref.toInt_small _ hk]
    simp
  show (((BitVec.ofBool ((BitVec.ofNat 32 i.val).slt (BitVec.ofNat 32 k))).toNat : ℝ) : EReal) = _
  rw [hs]
  by_cases h : i.val < k <;> simp [h]

include hk ek in
theorem hardest_at (hs : ∀ i, v181 (ix2 b i) = ((r (e i) : ℝ) : EReal)) : hardest v154 v181 (ix1 b) = ((Gap.exact r k e : ℝ) : EReal) := by
  unfold hardest
  rw [row_sum]
  unfold Gap.exact
  rw [KernelIdeal.KMine.coe_sum]
  refine Finset.sum_congr rfl fun i _ => ?_
  refine (congrArg₂ (fun a c : EReal => a * c) (hs i) (mask_at v154 b k hk ek i)).trans ?_
  rw [← EReal.coe_mul]
  congr 1
  split <;> ring

include hn en hk ek in
theorem perImage_at (hs : ∀ i, v181 (ix2 b i) = ((r (e i) : ℝ) : EReal)) : perImage v152 v154 v174 v177 v181 (ix1 b)
    = Ideal.div (v177 (ix1 b) + ((Gap.exact r k e : ℝ) : EReal) + v174 (ix1 b)) ((n : ℝ) : EReal) := by
  rw [← hardest_at v154 v181 b k hk ek r e hs, ← ReferenceIdeal.Ref.sitofp_small n hn, ← en]
  rfl

theorem slack_shape (a d : IVec S64 32) (p q : FVec Ideal S64 .f32) (b : Fin 64) :
    Host.divf (mulf (sitofp .f32 a) (Host.divf p q)) (sitofp .f32 d) (ix1 b)
      = Ideal.div (FloatOps.sitofp (F := Ideal) .f32 (a (ix1 b)) * Ideal.div (p (ix1 b)) (q (ix1 b))) (FloatOps.sitofp (F := Ideal) .f32 (d (ix1 b))) := rfl

include hn en hk ek in
theorem slack_at (hg : Host.reduce FloatOps.maximumf v178 (constant S_ .f32 0xFF800000#32) reducesTo_S64x8732_S64_d1 h_S_ (ix1 b)
      = ((Spec.greatest r : ℝ) : EReal)) : slack v152 v154 v178 (ix1 b)
    = Ideal.div (((((max k 8732 : ℕ) : ℝ) * Gap.half r : ℝ)) : EReal) ((n : ℝ) : EReal) := by
  have hm : maxsi v154 (broadcastInDim S64 ![] bcast_S_S64 (constantI S_ 32 8732#32)) (ix1 b) = BitVec.ofNat 32 (max k 8732) := by
    have e0 : (broadcastInDim S64 ![] bcast_S_S64 (constantI S_ 32 8732#32) : IVec S64 32) (ix1 b) = BitVec.ofNat 32 8732 := by
      pointwise
    refine (congrArg₂ IntOp.maxsi ek e0).trans ?_
    unfold IntOp.maxsi
    rw [BitVec.slt_eq_decide, ReferenceIdeal.Ref.toInt_small k hk, ReferenceIdeal.Ref.toInt_small 8732 (by norm_num)]
    by_cases h : 8732 < k
    · rw [if_pos (by simpa using h), max_eq_left h.le]
    · rw [if_neg (by simpa using h), max_eq_right (not_lt.mp h)]
  have hf : FloatOps.sitofp (F := Ideal) .f32 (BitVec.ofNat 32 (max k 8732)) = (((max k 8732 : ℕ) : ℝ) : EReal) :=
    ReferenceIdeal.Ref.sitofp_small _ (max_lt hk (by norm_num))
  have hw : (broadcastInDim S64 ![] bcast_S_S64 (constant S_ .f32 0x49000000#32) : FVec Ideal S64 .f32) (ix1 b) = ((524288 : ℝ) : EReal) := by
    have : Spec.lit 0x49000000#32 = ((524288 : ℝ) : EReal) := by
      simp [Spec.lit, Ideal.ofBits, Ideal.ieee, -EReal.coe_mul]; norm_num
    rw [← this]
    pointwise
  have hq : Ideal.div ((Spec.greatest r : ℝ) : EReal) ((524288 : ℝ) : EReal) = ((Gap.half r : ℝ) : EReal) := by
    rw [Spec.div_coe _ _ (by norm_num), ← EReal.coe_mul]; rfl
  refine (slack_shape _ _ _ _ b).trans ?_
  rw [hm, hf, hg, hw, hq, en, ReferenceIdeal.Ref.sitofp_small n hn, ← EReal.coe_mul]
end
end Cert.Post_near
end
-- ==== Proof.Near.lean ====
/- The kernel's result lies between the exact mean and the exact mean with the slack added. -/
module

public import proofs.«01_k».proof.Proof.NTail

@[expose] public section

set_option maxRecDepth 16384

noncomputable section

namespace Cert.Near

open Idealize.ShloMosaic Cert.ReferenceIdeal.Read Cert.ReferenceIdeal.Ref

attribute [local instance] Cert.ReferenceIdeal.Gen.facts

/-! ### Over the extended reals -/

theorem mul_mono {x z : EReal} (c : ℝ) (hc : 0 ≤ c) (h : x ≤ z) : x * (c : EReal) ≤ z * (c : EReal) :=
  mul_le_mul_of_nonneg_right h (EReal.coe_nonneg.mpr hc)

theorem add_mul_coe (x z : EReal) (c : ℝ) (hc : 0 ≤ c) : (x + z) * (c : EReal) = x * (c : EReal) + z * (c : EReal) :=
  EReal.right_distrib_of_nonneg_of_ne_top (EReal.coe_nonneg.mpr hc) (EReal.coe_ne_top c) x z

/-- A quotient by a positive number of what lies between `x` and `x + z`. -/
theorem div_between {x w z : EReal} (d : ℝ) (hd : 0 < d) (h1 : x ≤ w) (h2 : w ≤ x + z) :
    Ideal.div x (d : EReal) ≤ Ideal.div w (d : EReal) ∧ Ideal.div w (d : EReal) ≤ Ideal.div x (d : EReal) + Ideal.div z (d : EReal) := by
  have hi : (0 : ℝ) ≤ d⁻¹ := inv_nonneg.mpr hd.le
  rw [Spec.div_coe _ _ hd.ne', Spec.div_coe _ _ hd.ne', Spec.div_coe _ _ hd.ne', ← add_mul_coe _ _ _ hi]
  exact ⟨mul_mono _ hi h1, mul_mono _ hi h2⟩

/-- The means of what lies so. -/
theorem mean_between (x w z : Fin 64 → EReal) (h1 : ∀ b, x b ≤ w b) (h2 : ∀ b, w b ≤ x b + z b) (d : ℝ) (hd : 0 < d) :
    Ideal.div (0 + ∑ b, x b) (d : EReal) ≤ Ideal.div (0 + ∑ b, w b) (d : EReal)
    ∧ Ideal.div (0 + ∑ b, w b) (d : EReal) ≤ Ideal.div (0 + ∑ b, x b) (d : EReal) + Ideal.div (0 + ∑ b, z b) (d : EReal) := by
  simp only [zero_add]
  refine div_between d hd (Finset.sum_le_sum fun b _ => h1 b) ?_
  rw [← Finset.sum_add_distrib]
  exact Finset.sum_le_sum fun b _ => h2 b

theorem lit_images : Spec.lit 0x42800000#32 = ((64 : ℝ) : EReal) := by
  simp [Spec.lit, Ideal.ofBits, Ideal.ieee, -EReal.coe_mul]; norm_num

/-- Where no object's label is 0, some prior is positive. -/
theorem npos_pos (pr : Fin 8732 → Fin 4 → EReal) (bx : Fin 16 → Fin 4 → EReal) (lb : Fin 16 → BitVec 32) (h : ∀ j, lb j ≠ 0) :
    0 < Spec.npos pr bx lb := by
  classical
  unfold Spec.npos
  refine Finset.card_pos.mpr ⟨Spec.first (Spec.ov pr bx 0), Finset.mem_filter.mpr ⟨Finset.mem_univ _, ?_⟩⟩
  have hne : (Spec.claimers (Spec.ov pr bx) (Spec.first (Spec.ov pr bx 0))).Nonempty :=
    ⟨0, Finset.mem_filter.mpr ⟨Finset.mem_univ _, rfl⟩⟩
  unfold Spec.lab Spec.label
  rw [if_pos (Or.inl hne)]
  exact h _

section
variable (x0 : FVec Ideal Post_near.S64x8732x4 .f32) (x1 : FVec Ideal Post_near.S64x8732x21 .f32) (x2 : FVec Ideal Post_near.S64x16x4 .f32)
  (x3 : IVec Post_near.S64x16 32) (x4 : FVec Ideal Post_near.S8732x4 .f32)

/-- The exact mean. -/
def exactMean : FVec Ideal Post_near.S_ .f32 :=
  Post_near.mean (Post_near.perImage (val_main_v152 (F := Ideal) x2 x3 x4) (val_main_v154 (F := Ideal) x2 x3 x4)
    (val_main_v174 (F := Ideal) x0 x2 x3 x4) (val_main_v177 (F := Ideal) x1 x2 x3 x4) (val_main_v181 (F := Ideal) x1 x2 x3 x4))

/-- The mean slack. -/
def meanSlack : FVec Ideal Post_near.S_ .f32 :=
  Post_near.mean (Post_near.slack (val_main_v152 (F := Ideal) x2 x3 x4) (val_main_v154 (F := Ideal) x2 x3 x4) (val_main_v178 (F := Ideal) x1 x2 x3 x4))

theorem fn_tail (y : FVec Ideal Post_near.S_ .f32) : Post_near.fn (F := Ideal) x0 x1 x2 x3 x4 y
    = (cmpf .ole (exactMean x0 x1 x2 x3 x4) y, cmpf .ole y (addf (exactMean x0 x1 x2 x3 x4) (meanSlack x1 x2 x3 x4))) :=
  (Post_near.fn_eq x0 x1 x2 x3 x4 y).trans <| (Post_near.fn_part1_eq x0 x1 x2 x3 x4 y).trans <| (Post_near.fn_part2_eq x0 x1 x2 x3 x4 y).trans <|
  (Post_near.fn_part3_eq x0 x1 x2 x3 x4 y).trans <| (Post_near.fn_part4_eq x0 x1 x2 x3 x4 y).trans <| (Post_near.fn_part5_eq x0 x1 x2 x3 x4 y).trans <|
  (Post_near.fn_part6_eq x0 x1 x2 x3 x4 y).trans <| (Post_near.fn_part7_eq x0 x1 x2 x3 x4 y).trans <| (Post_near.fn_part8_eq x0 x1 x2 x3 x4 y).trans <|
  Post_near.tail_eq y _ _ _ _ _ _

variable (hlb : ∀ b j, KernelIdeal.KLoss.InClasses (labels x3 b j)) (hsc : ∀ b p c, ∃ x : ℝ, scores x1 b p c = x)
  (hpos : ∀ b j, labels x3 b j ≠ 0)
include hlb hsc hpos

/-- One image's loss is at least its exact loss, and above it by at most its slack. -/
theorem image_between (b : Fin 64) :
    Post_near.perImage (val_main_v152 (F := Ideal) x2 x3 x4) (val_main_v154 (F := Ideal) x2 x3 x4) (val_main_v174 (F := Ideal) x0 x2 x3 x4)
        (val_main_v177 (F := Ideal) x1 x2 x3 x4) (val_main_v181 (F := Ideal) x1 x2 x3 x4) (ix1 b) ≤ image x0 x1 x2 x3 x4 b
    ∧ image x0 x1 x2 x3 x4 b ≤ Post_near.perImage (val_main_v152 (F := Ideal) x2 x3 x4) (val_main_v154 (F := Ideal) x2 x3 x4)
        (val_main_v174 (F := Ideal) x0 x2 x3 x4) (val_main_v177 (F := Ideal) x1 x2 x3 x4) (val_main_v181 (F := Ideal) x1 x2 x3 x4) (ix1 b)
      + Post_near.slack (val_main_v152 (F := Ideal) x2 x3 x4) (val_main_v154 (F := Ideal) x2 x3 x4) (val_main_v178 (F := Ideal) x1 x2 x3 x4) (ix1 b) := by
  have hn := fun p => KernelIdeal.KLoss.neg_real (priors x4) (boxes x2 b) (labels x3 b) (scores x1 b) (hsc b) p
  have hv0 := fun p => (neg_at x1 x2 x3 x4 b p (hlb b)).trans (hn p).2
  generalize hrr : (fun p => (Spec.neg (priors x4) (boxes x2 b) (labels x3 b) (scores x1 b) p).toReal) = r
  have hv : ∀ p, val_main_v178 (F := Ideal) x1 x2 x3 x4 (ix2 b p) = ((r p : ℝ) : EReal) := by
    intro p; rw [← hrr]; exact hv0 p
  have hr : ∀ p, 0 ≤ r p := by
    intro p; rw [← hrr]; exact (hn p).1
  have him : image x0 x1 x2 x3 x4 b = Ideal.div (∑ p, Spec.confAt (priors x4) (boxes x2 b) (labels x3 b) (scores x1 b) p * Spec.ind (l x2 x3 x4 b p)
      + ((Spec.mined r (hard x2 x3 x4 b) : ℝ) : EReal)
      + ∑ p, Spec.locAt (priors x4) (boxes x2 b) (locs x0 b) p * Spec.ind (l x2 x3 x4 b p))
      ((Spec.npos (priors x4) (boxes x2 b) (labels x3 b) : ℝ) : EReal) := by
    rw [← hrr]; rfl
  obtain ⟨e, he, hs⟩ := sorted_at x1 x2 x3 x4 b r hv
  obtain ⟨g1, g2⟩ := Gap.mined_near r (hard x2 x3 x4 b) e hr he
  have hnp := npos_pos (priors x4) (boxes x2 b) (labels x3 b) (hpos b)
  have hn0 : Spec.npos (priors x4) (boxes x2 b) (labels x3 b) < 2147483648 := by have := npos_le x2 x3 x4 b; omega
  rw [Post_near.perImage_at _ _ _ _ _ b _ (hard x2 x3 x4 b) hn0 (hard_lt x2 x3 x4 b) (npos_at x2 x3 x4 b) (hard_at x2 x3 x4 b) r e hs,
    Post_near.slack_at _ _ _ b _ (hard x2 x3 x4 b) hn0 (hard_lt x2 x3 x4 b) (npos_at x2 x3 x4 b) (hard_at x2 x3 x4 b) r
      (greatest_at x1 x2 x3 x4 b r hv), conf_pos_at x1 x2 x3 x4 b (hlb b), loc_loss_at, him]
  refine div_between _ (Nat.cast_pos.mpr hnp) ?_ ?_
  · exact add_le_add_left (add_le_add_right (EReal.coe_le_coe_iff.mpr g1) _) _
  · refine (add_le_add_left (add_le_add_right (EReal.coe_le_coe_iff.mpr g2) _) _).trans_eq ?_
    rw [EReal.coe_add, ← add_assoc, add_right_comm]

/-- The kernel's result, between the two. -/
theorem near_at (y : FVec Ideal Post_near.S_ .f32)
    (hy : y = fun _ => Ideal.div (0 + ∑ b, image x0 x1 x2 x3 x4 b) (Spec.lit 0x42800000#32)) :
    (Post_near.fn (F := Ideal) x0 x1 x2 x3 x4 y).1 = (fun _ => 1#1) ∧ (Post_near.fn (F := Ideal) x0 x1 x2 x3 x4 y).2 = fun _ => 1#1 := by
  have h := mean_between _ _ _ (fun b => (image_between x0 x1 x2 x3 x4 hlb hsc hpos b).1)
    (fun b => (image_between x0 x1 x2 x3 x4 hlb hsc hpos b).2) 64 (by norm_num)
  rw [← lit_images, ← Post_near.mean_at _ (fun a => a.elim0), ← Post_near.mean_at _ (fun a => a.elim0)] at h
  rw [fn_tail]
  subst hy
  have hbit : ∀ u w : EReal, u ≤ w → Ideal.cmp .ole u w = 1#1 := by
    intro u w huw
    unfold Ideal.cmp
    simp [huw]
  refine ⟨funext fun i => ?_, funext fun i => ?_⟩
  · obtain rfl : i = fun a => a.elim0 := funext fun a => a.elim0
    exact hbit _ _ h.1
  · obtain rfl : i = fun a => a.elim0 := funext fun a => a.elim0
    exact hbit _ _ h.2
end
end Cert.Near
end
-- ==== Proof.Holds.lean ====
/- Under the stronger precondition: what it says of the arguments, and the bound of the kernel's result. -/
module

public import proofs.«01_k».proof.Pre_labelled
public import proofs.«01_k».proof.Proof.Algebraic
public import proofs.«01_k».proof.Proof.Near

@[expose] public section

set_option maxRecDepth 16384

noncomputable section

namespace Cert.Pre_labelled

open Idealize.ShloMosaic

instance facts : Cert.Pre_labelled.Facts where
  slices_S8732x4_S8732x2_0_0 := by decide
  slices_S8732x4_S8732x2_0_2 := by decide
  bcast_S_S8732x2 := by decide
  slices_S64x16x4_S64x16x1_0_0_2 := by decide
  shapeCasts_S64x16x1_S64x16 := by decide
  slices_S64x16x4_S64x16x1_0_0_0 := by decide
  slices_S64x16x4_S64x16x1_0_0_3 := by decide
  slices_S64x16x4_S64x16x1_0_0_1 := by decide
  bcast_S_S64x8732x21 := by decide
  bcast_S_S64x16 := by decide
  slices_S8732x2_S8732x1_0_0 := by decide
  shapeCasts_S8732x1_S8732 := by decide
  slices_S8732x2_S8732x1_0_1 := by decide
  bcast_S_S8732 := by decide

variable (x0 : FVec Ideal S64x8732x4 .f32) (x1 : FVec Ideal S64x8732x21 .f32) (x2 : FVec Ideal S64x16x4 .f32) (x3 : IVec S64x16 32)
  (x4 : FVec Ideal S8732x4 .f32)

/-- The stronger precondition's first six parts are the other's. -/
theorem fn_proper : Pre_proper.fn (F := Ideal) x0 x1 x2 x3 x4
    = ((fn (F := Ideal) x0 x1 x2 x3 x4).1, (fn (F := Ideal) x0 x1 x2 x3 x4).2.1, (fn (F := Ideal) x0 x1 x2 x3 x4).2.2.1,
      (fn (F := Ideal) x0 x1 x2 x3 x4).2.2.2.1, (fn (F := Ideal) x0 x1 x2 x3 x4).2.2.2.2.1, (fn (F := Ideal) x0 x1 x2 x3 x4).2.2.2.2.2.1) := rfl

/-- Its last part: no label is 0. -/
theorem label_at (h : (fn (F := Ideal) x0 x1 x2 x3 x4).2.2.2.2.2.2 = fun _ => 1#1) (b : Fin 64) (j : Fin 16) : x3 (ix2 b j) ≠ 0 := by
  have h1 := congrFun h (ix2 b j)
  unfold fn fn_part1 fn_part2 at h1
  dsimp only at h1
  pointwise at h1
  generalize x3 (ix2 b j) = l at h1
  have h2 : (1#32).sle l = true := Pre_proper.bit_true h1
  rintro rfl
  exact absurd h2 (by decide)
end Cert.Pre_labelled

namespace Cert.Holds

open Idealize.ShloMosaic Idealize.ShloMosaic.TcCoe Idealize.SL.Sem

attribute [local instance] Cert.ReferenceIdeal.Gen.facts

theorem proper_of_labelled (m : (ℓ : Loc KernelIdeal.nD KernelIdeal.τ KernelIdeal.sig) → Buf (Elt Ideal) ℓ) (h : Pre_KernelIdeal_labelled m) :
    Pre_KernelIdeal_proper m := by
  intro c
  obtain ⟨h1, h2, h3, h4, h5, h6, -⟩ := h c
  rw [Pre_labelled.fn_proper]
  exact ⟨h1, h2, h3, h4, h5, h6⟩

/-- The result both runs end with lies within the bound. -/
theorem result_near (m : (ℓ : Loc KernelIdeal.nD KernelIdeal.τ KernelIdeal.sig) → Buf (Elt Ideal) ℓ) (c : Dev KernelIdeal.nD)
    (H : KernelIdeal.Final.Proper m c) (hl : ∀ b j, KernelIdeal.Host₀.a3 m c (ix2 b j) ≠ 0) :
    (Post_near.fn (F := Ideal) (KernelIdeal.Host₀.a0 m c) (KernelIdeal.Host₀.a1 m c) (KernelIdeal.Host₀.a2 m c) (KernelIdeal.Host₀.a3 m c)
      (KernelIdeal.Host₀.a4 m c) (Algebraic.result m c)).1 = (fun _ => 1#1)
    ∧ (Post_near.fn (F := Ideal) (KernelIdeal.Host₀.a0 m c) (KernelIdeal.Host₀.a1 m c) (KernelIdeal.Host₀.a2 m c) (KernelIdeal.Host₀.a3 m c)
      (KernelIdeal.Host₀.a4 m c) (Algebraic.result m c)).2 = fun _ => 1#1 :=
  Near.near_at _ _ _ _ _ H.classes H.finite hl _ rfl

theorem holds : holds_KernelIdeal_near_pre_labelled := by
  intro m g hpre
  have H := Algebraic.proper_of_pre m (proper_of_labelled m hpre)
  refine (θ_run KernelIdeal.defs _ _).mono (fun r h c => ?_) (KernelIdeal.Final.run_val m g H)
  obtain ⟨hv, h0, h1, h2, h3, h4⟩ := h c
  have hl : ∀ b j, KernelIdeal.Host₀.a3 m c (ix2 b j) ≠ 0 :=
    Pre_labelled.label_at _ _ _ _ _ (hpre c).2.2.2.2.2.2
  have hn := result_near m c (H c) hl
  rw [show r.2.mem ((c.tc : Thread KernelIdeal.nD KernelIdeal.τ).loc KernelIdeal.main_v14) = Algebraic.result m c from hv]
  exact ⟨h0, h1, h2, h3, h4, hn.1, hn.2⟩
end Cert.Holds
end
-- ==== Proof.lean ====
/- The certificate's assembly. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Algebraic
public import proofs.«01_k».proof.Proof.Holds
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_proper.facts,
    Cert.Pre_labelled.facts, Cert.Post_near.facts,
    fun m ρ _ => Cert.Kernel.Gen.frame m ρ,
    fun m ρ _ => Cert.KernelIdeal.Gen.frame m ρ,
    fun m ρ _ => Cert.KernelIdeal.Gen.frame m ρ,
    fun m ρ _ => Cert.KernelIdeal.Gen.frame m ρ,
    fun m ρ _ => Cert.Algebraic.reference_frame m ρ,
    fun m ρ _ => Cert.Algebraic.reference_frame m ρ,
    trivial,
    Cert.Algebraic.algebraic,
    Cert.Holds.holds⟩

end Cert.Proof

end
